-- ==== Defs.lean ====
def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_InpS (m : (ℓ : Loc Cert.InpS.nD Cert.InpS.τ Cert.InpS.sig) → Buf (Elt Bits) ℓ) : Prop :=
  True

def Pre_InpSIdeal (m : (ℓ : Loc Cert.InpSIdeal.nD Cert.InpSIdeal.τ Cert.InpSIdeal.sig) → Buf (Elt Ideal) ℓ) : Prop :=
  True

def Pre_InpSRefIdeal (m : (ℓ : Loc Cert.InpSRefIdeal.nD Cert.InpSRefIdeal.τ Cert.InpSRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9)
      ∧ r.2.mem ((c.tc : Thread Cert.Step.nD Cert.Step.τ).loc Cert.Step.main_arg10) = m ((c.tc : Thread Cert.Step.nD Cert.Step.τ).loc Cert.Step.main_arg10))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
      ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9)
      ∧ r.2.mem ((c.tc : Thread Cert.StepRefIdeal.nD Cert.StepRefIdeal.τ).loc Cert.StepRefIdeal.main_arg10) = m ((c.tc : Thread Cert.StepRefIdeal.nD Cert.StepRefIdeal.τ).loc Cert.StepRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7))
      ∧ r.2.sem = fun _ => 0)

def quiescent_InpS [hInpS : Cert.InpS.Facts] : Prop :=
  ∀ (m : (ℓ : Loc Cert.InpS.nD Cert.InpS.τ Cert.InpS.sig) → Buf (Elt Bits) ℓ) (g : Dev Cert.InpS.nD → PrngReg), Pre_InpS m →
    θ_run (Cert.InpS.defs (F := Bits)) (onTc (τ := Cert.InpS.τ) (Cert.InpS.main (F := Bits))) ⟨m, fun _ => 0, g⟩ (fun r => (∀ c : Dev Cert.InpS.nD,
      r.2.mem ((c.tc : Thread Cert.InpS.nD Cert.InpS.τ).loc Cert.InpS.main_arg0) = m ((c.tc : Thread Cert.InpS.nD Cert.InpS.τ).loc Cert.InpS.main_arg0)
      ∧ r.2.mem ((c.tc : Thread Cert.InpS.nD Cert.InpS.τ).loc Cert.InpS.main_arg1) = m ((c.tc : Thread Cert.InpS.nD Cert.InpS.τ).loc Cert.InpS.main_arg1)
      ∧ r.2.mem ((c.tc : Thread Cert.InpS.nD Cert.InpS.τ).loc Cert.InpS.main_arg2) = m ((c.tc : Thread Cert.InpS.nD Cert.InpS.τ).loc Cert.InpS.main_arg2)
      ∧ r.2.mem ((c.tc : Thread Cert.InpS.nD Cert.InpS.τ).loc Cert.InpS.main_arg3) = m ((c.tc : Thread Cert.InpS.nD Cert.InpS.τ).loc Cert.InpS.main_arg3)
      ∧ r.2.mem ((c.tc : Thread Cert.InpS.nD Cert.InpS.τ).loc Cert.InpS.main_arg4) = m ((c.tc : Thread Cert.InpS.nD Cert.InpS.τ).loc Cert.InpS.main_arg4))
      ∧ r.2.sem = fun _ => 0)

def quiescent_InpSIdeal [hInpSIdeal : Cert.InpSIdeal.Facts] : Prop :=
  ∀ (m : (ℓ : Loc Cert.InpSIdeal.nD Cert.InpSIdeal.τ Cert.InpSIdeal.sig) → Buf (Elt Ideal) ℓ) (g : Dev Cert.InpSIdeal.nD → PrngReg), Pre_InpSIdeal m →
    θ_run (Cert.InpSIdeal.defs (F := Ideal)) (onTc (τ := Cert.InpSIdeal.τ) (Cert.InpSIdeal.main (F := Ideal))) ⟨m, fun _ => 0, g⟩ (fun r => (∀ c : Dev Cert.InpSIdeal.nD,
      r.2.mem ((c.tc : Thread Cert.InpSIdeal.nD Cert.InpSIdeal.τ).loc Cert.InpSIdeal.main_arg0) = m ((c.tc : Thread Cert.InpSIdeal.nD Cert.InpSIdeal.τ).loc Cert.InpSIdeal.main_arg0)
      ∧ r.2.mem ((c.tc : Thread Cert.InpSIdeal.nD Cert.InpSIdeal.τ).loc Cert.InpSIdeal.main_arg1) = m ((c.tc : Thread Cert.InpSIdeal.nD Cert.InpSIdeal.τ).loc Cert.InpSIdeal.main_arg1)
      ∧ r.2.mem ((c.tc : Thread Cert.InpSIdeal.nD Cert.InpSIdeal.τ).loc Cert.InpSIdeal.main_arg2) = m ((c.tc : Thread Cert.InpSIdeal.nD Cert.InpSIdeal.τ).loc Cert.InpSIdeal.main_arg2)
      ∧ r.2.mem ((c.tc : Thread Cert.InpSIdeal.nD Cert.InpSIdeal.τ).loc Cert.InpSIdeal.main_arg3) = m ((c.tc : Thread Cert.InpSIdeal.nD Cert.InpSIdeal.τ).loc Cert.InpSIdeal.main_arg3)
      ∧ r.2.mem ((c.tc : Thread Cert.InpSIdeal.nD Cert.InpSIdeal.τ).loc Cert.InpSIdeal.main_arg4) = m ((c.tc : Thread Cert.InpSIdeal.nD Cert.InpSIdeal.τ).loc Cert.InpSIdeal.main_arg4))
      ∧ r.2.sem = fun _ => 0)

def quiescent_InpSRefIdeal [hInpSRefIdeal : Cert.InpSRefIdeal.Facts] : Prop :=
  ∀ (m : (ℓ : Loc Cert.InpSRefIdeal.nD Cert.InpSRefIdeal.τ Cert.InpSRefIdeal.sig) → Buf (Elt Ideal) ℓ) (g : Dev Cert.InpSRefIdeal.nD → PrngReg), Pre_InpSRefIdeal m →
    θ_run (Cert.InpSRefIdeal.defs (F := Ideal)) (onTc (τ := Cert.InpSRefIdeal.τ) (Cert.InpSRefIdeal.main (F := Ideal))) ⟨m, fun _ => 0, g⟩ (fun r => (∀ c : Dev Cert.InpSRefIdeal.nD,
      r.2.mem ((c.tc : Thread Cert.InpSRefIdeal.nD Cert.InpSRefIdeal.τ).loc Cert.InpSRefIdeal.main_arg0) = m ((c.tc : Thread Cert.InpSRefIdeal.nD Cert.InpSRefIdeal.τ).loc Cert.InpSRefIdeal.main_arg0)
      ∧ r.2.mem ((c.tc : Thread Cert.InpSRefIdeal.nD Cert.InpSRefIdeal.τ).loc Cert.InpSRefIdeal.main_arg1) = m ((c.tc : Thread Cert.InpSRefIdeal.nD Cert.InpSRefIdeal.τ).loc Cert.InpSRefIdeal.main_arg1)
      ∧ r.2.mem ((c.tc : Thread Cert.InpSRefIdeal.nD Cert.InpSRefIdeal.τ).loc Cert.InpSRefIdeal.main_arg2) = m ((c.tc : Thread Cert.InpSRefIdeal.nD Cert.InpSRefIdeal.τ).loc Cert.InpSRefIdeal.main_arg2)
      ∧ r.2.mem ((c.tc : Thread Cert.InpSRefIdeal.nD Cert.InpSRefIdeal.τ).loc Cert.InpSRefIdeal.main_arg3) = m ((c.tc : Thread Cert.InpSRefIdeal.nD Cert.InpSRefIdeal.τ).loc Cert.InpSRefIdeal.main_arg3)
      ∧ r.2.mem ((c.tc : Thread Cert.InpSRefIdeal.nD Cert.InpSRefIdeal.τ).loc Cert.InpSRefIdeal.main_arg4) = m ((c.tc : Thread Cert.InpSRefIdeal.nD Cert.InpSRefIdeal.τ).loc Cert.InpSRefIdeal.main_arg4))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)
      ∧ m' ((c.tc : Thread Cert.StepRefIdeal.nD Cert.StepRefIdeal.τ).loc Cert.StepRefIdeal.main_arg10) = m ((c.tc : Thread Cert.StepIdeal.nD Cert.StepIdeal.τ).loc Cert.StepIdeal.main_arg10)) →
    ∃ (v0 : (c : Dev Cert.StepIdeal.nD) → Buf (Elt Ideal) ((c.tc : Thread Cert.StepIdeal.nD Cert.StepIdeal.τ).loc Cert.StepIdeal.main_v19_0)) (v1 : (c : Dev Cert.StepIdeal.nD) → Buf (Elt Ideal) ((c.tc : Thread Cert.StepIdeal.nD Cert.StepIdeal.τ).loc Cert.StepIdeal.main_v19_1)) (v2 : (c : Dev Cert.StepIdeal.nD) → Buf (Elt Ideal) ((c.tc : Thread Cert.StepIdeal.nD Cert.StepIdeal.τ).loc Cert.StepIdeal.main_v19_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v19_0) = v0 c
          ∧ r.2.mem ((c.tc : Thread Cert.StepIdeal.nD Cert.StepIdeal.τ).loc Cert.StepIdeal.main_v19_1) = v1 c
          ∧ r.2.mem ((c.tc : Thread Cert.StepIdeal.nD Cert.StepIdeal.τ).loc Cert.StepIdeal.main_v19_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9)
          ∧ r.2.mem ((c.tc : Thread Cert.StepIdeal.nD Cert.StepIdeal.τ).loc Cert.StepIdeal.main_arg10) = m ((c.tc : Thread Cert.StepIdeal.nD Cert.StepIdeal.τ).loc Cert.StepIdeal.main_arg10))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v124) = v0 c
          ∧ r.2.mem ((c.tc : Thread Cert.StepRefIdeal.nD Cert.StepRefIdeal.τ).loc Cert.StepRefIdeal.main_v32) = v1 c
          ∧ r.2.mem ((c.tc : Thread Cert.StepRefIdeal.nD Cert.StepRefIdeal.τ).loc Cert.StepRefIdeal.main_v125) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9)
          ∧ r.2.mem ((c.tc : Thread Cert.StepRefIdeal.nD Cert.StepRefIdeal.τ).loc Cert.StepRefIdeal.main_arg10) = m' ((c.tc : Thread Cert.StepRefIdeal.nD Cert.StepRefIdeal.τ).loc Cert.StepRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)) →
    ∃ (v0 : (c : Dev Cert.InpIdeal.nD) → Buf (Elt Ideal) ((c.tc : Thread Cert.InpIdeal.nD Cert.InpIdeal.τ).loc Cert.InpIdeal.main_v7_0)) (v1 : (c : Dev Cert.InpIdeal.nD) → Buf (Elt Ideal) ((c.tc : Thread Cert.InpIdeal.nD Cert.InpIdeal.τ).loc Cert.InpIdeal.main_v7_1)) (v2 : (c : Dev Cert.InpIdeal.nD) → Buf (Elt Ideal) ((c.tc : Thread Cert.InpIdeal.nD Cert.InpIdeal.τ).loc Cert.InpIdeal.main_v7_2)) (v3 : (c : Dev Cert.InpIdeal.nD) → Buf (Elt Ideal) ((c.tc : Thread Cert.InpIdeal.nD Cert.InpIdeal.τ).loc Cert.InpIdeal.main_v7_3)) (v4 : (c : Dev Cert.InpIdeal.nD) → Buf (Elt Ideal) ((c.tc : Thread Cert.InpIdeal.nD Cert.InpIdeal.τ).loc Cert.InpIdeal.main_v7_4)) (v5 : (c : Dev Cert.InpIdeal.nD) → Buf (Elt Ideal) ((c.tc : Thread Cert.InpIdeal.nD Cert.InpIdeal.τ).loc Cert.InpIdeal.main_v7_5)) (v6 : (c : Dev Cert.InpIdeal.nD) → Buf (Elt Ideal) ((c.tc : Thread Cert.InpIdeal.nD Cert.InpIdeal.τ).loc Cert.InpIdeal.main_v7_6)) (v7 : (c : Dev Cert.InpIdeal.nD) → Buf (Elt Ideal) ((c.tc : Thread Cert.InpIdeal.nD Cert.InpIdeal.τ).loc Cert.InpIdeal.main_v7_7)) (v8 : (c : Dev Cert.InpIdeal.nD) → Buf (Elt Ideal) ((c.tc : Thread Cert.InpIdeal.nD Cert.InpIdeal.τ).loc Cert.InpIdeal.main_v7_8)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v7_0) = v0 c
          ∧ r.2.mem ((c.tc : Thread Cert.InpIdeal.nD Cert.InpIdeal.τ).loc Cert.InpIdeal.main_v7_1) = v1 c
          ∧ r.2.mem ((c.tc : Thread Cert.InpIdeal.nD Cert.InpIdeal.τ).loc Cert.InpIdeal.main_v7_2) = v2 c
          ∧ r.2.mem ((c.tc : Thread Cert.InpIdeal.nD Cert.InpIdeal.τ).loc Cert.InpIdeal.main_v7_3) = v3 c
          ∧ r.2.mem ((c.tc : Thread Cert.InpIdeal.nD Cert.InpIdeal.τ).loc Cert.InpIdeal.main_v7_4) = v4 c
          ∧ r.2.mem ((c.tc : Thread Cert.InpIdeal.nD Cert.InpIdeal.τ).loc Cert.InpIdeal.main_v7_5) = v5 c
          ∧ r.2.mem ((c.tc : Thread Cert.InpIdeal.nD Cert.InpIdeal.τ).loc Cert.InpIdeal.main_v7_6) = v6 c
          ∧ r.2.mem ((c.tc : Thread Cert.InpIdeal.nD Cert.InpIdeal.τ).loc Cert.InpIdeal.main_v7_7) = v7 c
          ∧ r.2.mem ((c.tc : Thread Cert.InpIdeal.nD Cert.InpIdeal.τ).loc Cert.InpIdeal.main_v7_8) = v8 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v49) = v0 c
          ∧ r.2.mem ((c.tc : Thread Cert.InpRefIdeal.nD Cert.InpRefIdeal.τ).loc Cert.InpRefIdeal.main_v50) = v1 c
          ∧ r.2.mem ((c.tc : Thread Cert.InpRefIdeal.nD Cert.InpRefIdeal.τ).loc Cert.InpRefIdeal.main_v51) = v2 c
          ∧ r.2.mem ((c.tc : Thread Cert.InpRefIdeal.nD Cert.InpRefIdeal.τ).loc Cert.InpRefIdeal.main_v52) = v3 c
          ∧ r.2.mem ((c.tc : Thread Cert.InpRefIdeal.nD Cert.InpRefIdeal.τ).loc Cert.InpRefIdeal.main_v53) = v4 c
          ∧ r.2.mem ((c.tc : Thread Cert.InpRefIdeal.nD Cert.InpRefIdeal.τ).loc Cert.InpRefIdeal.main_v54) = v5 c
          ∧ r.2.mem ((c.tc : Thread Cert.InpRefIdeal.nD Cert.InpRefIdeal.τ).loc Cert.InpRefIdeal.main_v55) = v6 c
          ∧ r.2.mem ((c.tc : Thread Cert.InpRefIdeal.nD Cert.InpRefIdeal.τ).loc Cert.InpRefIdeal.main_v56) = v7 c
          ∧ r.2.mem ((c.tc : Thread Cert.InpRefIdeal.nD Cert.InpRefIdeal.τ).loc Cert.InpRefIdeal.main_v57) = v8 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7))

def preserves_InpS_InpSIdeal : Prop :=
  True

def algebraic_InpSIdeal_InpSRefIdeal [hInpSIdeal : Cert.InpSIdeal.Facts] [hInpSRefIdeal : Cert.InpSRefIdeal.Facts] : Prop :=
  ∀ (m : (ℓ : Loc Cert.InpSIdeal.nD Cert.InpSIdeal.τ Cert.InpSIdeal.sig) → Buf (Elt Ideal) ℓ) (g : Dev Cert.InpSIdeal.nD → PrngReg)
    (m' : (ℓ : Loc Cert.InpSRefIdeal.nD Cert.InpSRefIdeal.τ Cert.InpSRefIdeal.sig) → Buf (Elt Ideal) ℓ) (g' : Dev Cert.InpSRefIdeal.nD → PrngReg), Pre_InpSIdeal m →
    (∀ c : Dev Cert.InpSIdeal.nD,
      m' ((c.tc : Thread Cert.InpSRefIdeal.nD Cert.InpSRefIdeal.τ).loc Cert.InpSRefIdeal.main_arg0) = m ((c.tc : Thread Cert.InpSIdeal.nD Cert.InpSIdeal.τ).loc Cert.InpSIdeal.main_arg0)
      ∧ m' ((c.tc : Thread Cert.InpSRefIdeal.nD Cert.InpSRefIdeal.τ).loc Cert.InpSRefIdeal.main_arg1) = m ((c.tc : Thread Cert.InpSIdeal.nD Cert.InpSIdeal.τ).loc Cert.InpSIdeal.main_arg1)
      ∧ m' ((c.tc : Thread Cert.InpSRefIdeal.nD Cert.InpSRefIdeal.τ).loc Cert.InpSRefIdeal.main_arg2) = m ((c.tc : Thread Cert.InpSIdeal.nD Cert.InpSIdeal.τ).loc Cert.InpSIdeal.main_arg2)
      ∧ m' ((c.tc : Thread Cert.InpSRefIdeal.nD Cert.InpSRefIdeal.τ).loc Cert.InpSRefIdeal.main_arg3) = m ((c.tc : Thread Cert.InpSIdeal.nD Cert.InpSIdeal.τ).loc Cert.InpSIdeal.main_arg3)
      ∧ m' ((c.tc : Thread Cert.InpSRefIdeal.nD Cert.InpSRefIdeal.τ).loc Cert.InpSRefIdeal.main_arg4) = m ((c.tc : Thread Cert.InpSIdeal.nD Cert.InpSIdeal.τ).loc Cert.InpSIdeal.main_arg4)) →
    ∃ (v0 : (c : Dev Cert.InpSIdeal.nD) → Buf (Elt Ideal) ((c.tc : Thread Cert.InpSIdeal.nD Cert.InpSIdeal.τ).loc Cert.InpSIdeal.main_v7_0)) (v1 : (c : Dev Cert.InpSIdeal.nD) → Buf (Elt Ideal) ((c.tc : Thread Cert.InpSIdeal.nD Cert.InpSIdeal.τ).loc Cert.InpSIdeal.main_v7_1)) (v2 : (c : Dev Cert.InpSIdeal.nD) → Buf (Elt Ideal) ((c.tc : Thread Cert.InpSIdeal.nD Cert.InpSIdeal.τ).loc Cert.InpSIdeal.main_v7_2)) (v3 : (c : Dev Cert.InpSIdeal.nD) → Buf (Elt Ideal) ((c.tc : Thread Cert.InpSIdeal.nD Cert.InpSIdeal.τ).loc Cert.InpSIdeal.main_v7_3)) (v4 : (c : Dev Cert.InpSIdeal.nD) → Buf (Elt Ideal) ((c.tc : Thread Cert.InpSIdeal.nD Cert.InpSIdeal.τ).loc Cert.InpSIdeal.main_v7_4)) (v5 : (c : Dev Cert.InpSIdeal.nD) → Buf (Elt Ideal) ((c.tc : Thread Cert.InpSIdeal.nD Cert.InpSIdeal.τ).loc Cert.InpSIdeal.main_v7_5)),
      θ_run (Cert.InpSIdeal.defs (F := Ideal)) (onTc (τ := Cert.InpSIdeal.τ) (Cert.InpSIdeal.main (F := Ideal))) ⟨m, fun _ => 0, g⟩ (fun r => ∀ c : Dev Cert.InpSIdeal.nD,
          r.2.mem ((c.tc : Thread Cert.InpSIdeal.nD Cert.InpSIdeal.τ).loc Cert.InpSIdeal.main_v7_0) = v0 c
          ∧ r.2.mem ((c.tc : Thread Cert.InpSIdeal.nD Cert.InpSIdeal.τ).loc Cert.InpSIdeal.main_v7_1) = v1 c
          ∧ r.2.mem ((c.tc : Thread Cert.InpSIdeal.nD Cert.InpSIdeal.τ).loc Cert.InpSIdeal.main_v7_2) = v2 c
          ∧ r.2.mem ((c.tc : Thread Cert.InpSIdeal.nD Cert.InpSIdeal.τ).loc Cert.InpSIdeal.main_v7_3) = v3 c
          ∧ r.2.mem ((c.tc : Thread Cert.InpSIdeal.nD Cert.InpSIdeal.τ).loc Cert.InpSIdeal.main_v7_4) = v4 c
          ∧ r.2.mem ((c.tc : Thread Cert.InpSIdeal.nD Cert.InpSIdeal.τ).loc Cert.InpSIdeal.main_v7_5) = v5 c
          ∧ r.2.mem ((c.tc : Thread Cert.InpSIdeal.nD Cert.InpSIdeal.τ).loc Cert.InpSIdeal.main_arg0) = m ((c.tc : Thread Cert.InpSIdeal.nD Cert.InpSIdeal.τ).loc Cert.InpSIdeal.main_arg0)
          ∧ r.2.mem ((c.tc : Thread Cert.InpSIdeal.nD Cert.InpSIdeal.τ).loc Cert.InpSIdeal.main_arg1) = m ((c.tc : Thread Cert.InpSIdeal.nD Cert.InpSIdeal.τ).loc Cert.InpSIdeal.main_arg1)
          ∧ r.2.mem ((c.tc : Thread Cert.InpSIdeal.nD Cert.InpSIdeal.τ).loc Cert.InpSIdeal.main_arg2) = m ((c.tc : Thread Cert.InpSIdeal.nD Cert.InpSIdeal.τ).loc Cert.InpSIdeal.main_arg2)
          ∧ r.2.mem ((c.tc : Thread Cert.InpSIdeal.nD Cert.InpSIdeal.τ).loc Cert.InpSIdeal.main_arg3) = m ((c.tc : Thread Cert.InpSIdeal.nD Cert.InpSIdeal.τ).loc Cert.InpSIdeal.main_arg3)
          ∧ r.2.mem ((c.tc : Thread Cert.InpSIdeal.nD Cert.InpSIdeal.τ).loc Cert.InpSIdeal.main_arg4) = m ((c.tc : Thread Cert.InpSIdeal.nD Cert.InpSIdeal.τ).loc Cert.InpSIdeal.main_arg4))
      ∧ θ_run (Cert.InpSRefIdeal.defs (F := Ideal)) (onTc (τ := Cert.InpSRefIdeal.τ) (Cert.InpSRefIdeal.main (F := Ideal))) ⟨m', fun _ => 0, g'⟩ (fun r => ∀ c : Dev Cert.InpSRefIdeal.nD,
          r.2.mem ((c.tc : Thread Cert.InpSRefIdeal.nD Cert.InpSRefIdeal.τ).loc Cert.InpSRefIdeal.main_v49) = v0 c
          ∧ r.2.mem ((c.tc : Thread Cert.InpSRefIdeal.nD Cert.InpSRefIdeal.τ).loc Cert.InpSRefIdeal.main_v50) = v1 c
          ∧ r.2.mem ((c.tc : Thread Cert.InpSRefIdeal.nD Cert.InpSRefIdeal.τ).loc Cert.InpSRefIdeal.main_v51) = v2 c
          ∧ r.2.mem ((c.tc : Thread Cert.InpSRefIdeal.nD Cert.InpSRefIdeal.τ).loc Cert.InpSRefIdeal.main_v52) = v3 c
          ∧ r.2.mem ((c.tc : Thread Cert.InpSRefIdeal.nD Cert.InpSRefIdeal.τ).loc Cert.InpSRefIdeal.main_v53) = v4 c
          ∧ r.2.mem ((c.tc : Thread Cert.InpSRefIdeal.nD Cert.InpSRefIdeal.τ).loc Cert.InpSRefIdeal.main_v54) = v5 c
          ∧ r.2.mem ((c.tc : Thread Cert.InpSRefIdeal.nD Cert.InpSRefIdeal.τ).loc Cert.InpSRefIdeal.main_arg0) = m' ((c.tc : Thread Cert.InpSRefIdeal.nD Cert.InpSRefIdeal.τ).loc Cert.InpSRefIdeal.main_arg0)
          ∧ r.2.mem ((c.tc : Thread Cert.InpSRefIdeal.nD Cert.InpSRefIdeal.τ).loc Cert.InpSRefIdeal.main_arg1) = m' ((c.tc : Thread Cert.InpSRefIdeal.nD Cert.InpSRefIdeal.τ).loc Cert.InpSRefIdeal.main_arg1)
          ∧ r.2.mem ((c.tc : Thread Cert.InpSRefIdeal.nD Cert.InpSRefIdeal.τ).loc Cert.InpSRefIdeal.main_arg2) = m' ((c.tc : Thread Cert.InpSRefIdeal.nD Cert.InpSRefIdeal.τ).loc Cert.InpSRefIdeal.main_arg2)
          ∧ r.2.mem ((c.tc : Thread Cert.InpSRefIdeal.nD Cert.InpSRefIdeal.τ).loc Cert.InpSRefIdeal.main_arg3) = m' ((c.tc : Thread Cert.InpSRefIdeal.nD Cert.InpSRefIdeal.τ).loc Cert.InpSRefIdeal.main_arg3)
          ∧ r.2.mem ((c.tc : Thread Cert.InpSRefIdeal.nD Cert.InpSRefIdeal.τ).loc Cert.InpSRefIdeal.main_arg4) = m' ((c.tc : Thread Cert.InpSRefIdeal.nD Cert.InpSRefIdeal.τ).loc Cert.InpSRefIdeal.main_arg4))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)) →
    ∃ (v0 : (c : Dev Cert.OutSIdeal.nD) → Buf (Elt Ideal) ((c.tc : Thread Cert.OutSIdeal.nD Cert.OutSIdeal.τ).loc Cert.OutSIdeal.main_v5)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v5) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v17) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v4)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v4) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v18) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v0_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_1) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v2) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def Claim : Prop :=
  ∃ (hStep : Cert.Step.Facts) (hStepIdeal : Cert.StepIdeal.Facts) (hStepRefIdeal : Cert.StepRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hInp : Cert.Inp.Facts) (hInpIdeal : Cert.InpIdeal.Facts) (hInpRefIdeal : Cert.InpRefIdeal.Facts) (hInpS : Cert.InpS.Facts) (hInpSIdeal : Cert.InpSIdeal.Facts) (hInpSRefIdeal : Cert.InpSRefIdeal.Facts) (hOutS : Cert.OutS.Facts) (hOutSIdeal : Cert.OutSIdeal.Facts) (hOutSRefIdeal : Cert.OutSRefIdeal.Facts) (hFfnS : Cert.FfnS.Facts) (hFfnSIdeal : Cert.FfnSIdeal.Facts) (hFfnSRefIdeal : Cert.FfnSRefIdeal.Facts) (hTail : Cert.Tail.Facts) (hTailIdeal : Cert.TailIdeal.Facts) (hTailRefIdeal : Cert.TailRefIdeal.Facts),
    quiescent_Step (hStep := hStep)
    ∧ quiescent_StepIdeal (hStepIdeal := hStepIdeal)
    ∧ quiescent_StepRefIdeal (hStepRefIdeal := hStepRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ quiescent_Inp (hInp := hInp)
    ∧ quiescent_InpIdeal (hInpIdeal := hInpIdeal)
    ∧ quiescent_InpRefIdeal (hInpRefIdeal := hInpRefIdeal)
    ∧ quiescent_InpS (hInpS := hInpS)
    ∧ quiescent_InpSIdeal (hInpSIdeal := hInpSIdeal)
    ∧ quiescent_InpSRefIdeal (hInpSRefIdeal := hInpSRefIdeal)
    ∧ quiescent_OutS (hOutS := hOutS)
    ∧ quiescent_OutSIdeal (hOutSIdeal := hOutSIdeal)
    ∧ quiescent_OutSRefIdeal (hOutSRefIdeal := hOutSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Tail (hTail := hTail)
    ∧ quiescent_TailIdeal (hTailIdeal := hTailIdeal)
    ∧ quiescent_TailRefIdeal (hTailRefIdeal := hTailRefIdeal)
    ∧ preserves_Step_StepIdeal
    ∧ algebraic_StepIdeal_StepRefIdeal (hStepIdeal := hStepIdeal) (hStepRefIdeal := hStepRefIdeal)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
    ∧ preserves_Inp_InpIdeal
    ∧ algebraic_InpIdeal_InpRefIdeal (hInpIdeal := hInpIdeal) (hInpRefIdeal := hInpRefIdeal)
    ∧ preserves_InpS_InpSIdeal
    ∧ algebraic_InpSIdeal_InpSRefIdeal (hInpSIdeal := hInpSIdeal) (hInpSRefIdeal := hInpSRefIdeal)
    ∧ preserves_OutS_OutSIdeal
    ∧ algebraic_OutSIdeal_OutSRefIdeal (hOutSIdeal := hOutSIdeal) (hOutSRefIdeal := hOutSRefIdeal)
    ∧ preserves_FfnS_FfnSIdeal
    ∧ algebraic_FfnSIdeal_FfnSRefIdeal (hFfnSIdeal := hFfnSIdeal) (hFfnSRefIdeal := hFfnSRefIdeal)
    ∧ preserves_Tail_TailIdeal
    ∧ algebraic_TailIdeal_TailRefIdeal (hTailIdeal := hTailIdeal) (hTailRefIdeal := hTailRefIdeal)
-- ==== Step.lean ====
abbrev S32x4x1536 : Shape := ⟨3, ![32, 4, 1536]⟩
abbrev S32x3x1536 : Shape := ⟨3, ![32, 3, 1536]⟩
abbrev S32x4x16 : Shape := ⟨3, ![32, 4, 16]⟩
abbrev S32x4x1024 : Shape := ⟨3, ![32, 4, 1024]⟩
abbrev S32x16x64x128 : Shape := ⟨4, ![32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S32x4x128 : Shape := ⟨3, ![32, 4, 128]⟩
abbrev S16x64 : Shape := ⟨2, ![16, 64]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S1x1536 : Shape := ⟨2, ![1, 1536]⟩
abbrev S1x128 : Shape := ⟨2, ![1, 128]⟩
abbrev S1x4x1536 : Shape := ⟨3, ![1, 4, 1536]⟩
abbrev S1x3x1536 : Shape := ⟨3, ![1, 3, 1536]⟩
abbrev S1x4x128 : Shape := ⟨3, ![1, 4, 128]⟩
abbrev S1x4x1024 : Shape := ⟨3, ![1, 4, 1024]⟩
abbrev S1x16x64x128 : Shape := ⟨4, ![1, 16, 64, 128]⟩
abbrev S16x1536 : Shape := ⟨2, ![16, 1536]⟩
abbrev S3x1536 : Shape := ⟨2, ![3, 1536]⟩
abbrev S4x128 : Shape := ⟨2, ![4, 128]⟩
abbrev S4x1024 : Shape := ⟨2, ![4, 1024]⟩
abbrev S8x128 : Shape := ⟨2, ![8, 128]⟩
abbrev S8x8 : Shape := ⟨2, ![8, 8]⟩
abbrev S1x1 : Shape := ⟨2, ![1, 1]⟩
abbrev S6x128 : Shape := ⟨2, ![6, 128]⟩
abbrev S24x128 : Shape := ⟨2, ![24, 128]⟩
abbrev S24x1024 : Shape := ⟨2, ![24, 1024]⟩
abbrev S1x8x64x128 : Shape := ⟨4, ![1, 8, 64, 128]⟩
abbrev S8x64x128 : Shape := ⟨3, ![8, 64, 128]⟩
abbrev S512x128 : Shape := ⟨2, ![512, 128]⟩
abbrev S8x512 : Shape := ⟨2, ![8, 512]⟩
abbrev S4x512 : Shape := ⟨2, ![4, 512]⟩
abbrev S1x4x512 : Shape := ⟨3, ![1, 4, 512]⟩
abbrev S1x512 : Shape := ⟨2, ![1, 512]⟩
abbrev S4 : Shape := ⟨1, ![4]⟩
abbrev S4x1 : Shape := ⟨2, ![4, 1]⟩
abbrev S1x1x64x128 : Shape := ⟨4, ![1, 1, 64, 128]⟩
abbrev S64x128 : Shape := ⟨2, ![64, 128]⟩

abbrev nBuf : Space → Nat
  | .hbm => 56
  | .vmem => 24
  | .smem => 0
  | _ => 0

abbrev bufTy : (tb : Table) → Fin (tcTables nBuf tb) → BufTy
  | .hbm, ⟨0, _⟩ => ⟨S32x4x1536, .f32⟩
  | .hbm, ⟨1, _⟩ => ⟨S32x3x1536, .f32⟩
  | .hbm, ⟨2, _⟩ => ⟨S32x4x16, .f32⟩
  | .hbm, ⟨3, _⟩ => ⟨S32x4x1024, .f32⟩
  | .hbm, ⟨4, _⟩ => ⟨S32x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S32x4x128, .f32⟩
  | .hbm, ⟨14, _⟩ => ⟨S16x64, .f32⟩
  | .hbm, ⟨15, _⟩ => ⟨S1024, .f32⟩
  | .hbm, ⟨16, _⟩ => ⟨S1x1024, .f32⟩
  | .hbm, ⟨17, _⟩ => ⟨S128, .i32⟩
  | .hbm, ⟨18, _⟩ => ⟨S128x1, .i32⟩
  | .hbm, ⟨19, _⟩ => ⟨S1024, .i32⟩
  | .hbm, ⟨20, _⟩ => ⟨S1x1024, .i32⟩
  | .hbm, ⟨21, _⟩ => ⟨S_, .i32⟩
  | .hbm, ⟨22, _⟩ => ⟨S_, .i32⟩
  | .hbm, ⟨23, _⟩ => ⟨S1x1024, .i32⟩
  | .hbm, ⟨24, _⟩ => ⟨S1x1024, .i32⟩
  | .hbm, ⟨25, _⟩ => ⟨S1x1024, .i32⟩
  | .hbm, ⟨26, _⟩ => ⟨S_, .i32⟩
  | .hbm, ⟨27, _⟩ => ⟨S1x1024, .i32⟩
  | .hbm, ⟨28, _⟩ => ⟨S1x1024, .i1⟩
  | .hbm, ⟨29, _⟩ => ⟨S1x1024, .i32⟩
  | .hbm, ⟨30, _⟩ => ⟨S1x1024, .i32⟩
  | .hbm, ⟨31, _⟩ => ⟨S_, .i32⟩
  | .hbm, ⟨32, _⟩ => ⟨S1x1024, .i32⟩
  | .hbm, ⟨33, _⟩ => ⟨S1x1024, .i1⟩
  | .hbm, ⟨34, _⟩ => ⟨S1x1024, .i1⟩
  | .hbm, ⟨35, _⟩ => ⟨S_, .i32⟩
  | .hbm, ⟨36, _⟩ => ⟨S1x1024, .i32⟩
  | .hbm, ⟨37, _⟩ => ⟨S1x1024, .i32⟩
  | .hbm, ⟨38, _⟩ => ⟨S1x1024, .i32⟩
  | .hbm, ⟨39, _⟩ => ⟨S128x1024, .i32⟩
  | .hbm, ⟨40, _⟩ => ⟨S128x1024, .i32⟩
  | .hbm, ⟨41, _⟩ => ⟨S128x1024, .i1⟩
  | .hbm, ⟨42, _⟩ => ⟨S128x1024, .f32⟩
  | .hbm, ⟨43, _⟩ => ⟨S1x1536, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S1x1024, .f32⟩
  | .hbm, ⟨53, _⟩ => ⟨S32x4x1024, .bf16⟩
  | .hbm, ⟨54, _⟩ => ⟨S32x3x1536, .f32⟩
  | .hbm, ⟨55, _⟩ => ⟨S32x16x64x128, .f32⟩
  | .local _ .vmem, ⟨0, _⟩ => ⟨S1x4x1536, .f32⟩
  | .local _ .vmem, ⟨1, _⟩ => ⟨S1x4x1536, .f32⟩
  | .local _ .vmem, ⟨2, _⟩ => ⟨S1x3x1536, .f32⟩
  | .local _ .vmem, ⟨3, _⟩ => ⟨S1x3x1536, .f32⟩
  | .local _ .vmem, ⟨4, _⟩ => ⟨S1x4x128, .f32⟩
  | .local _ .vmem, ⟨5, _⟩ => ⟨S1x4x128, .f32⟩
  | .local _ .vmem, ⟨6, _⟩ => ⟨S1x4x1024, .f32⟩
  | .local _ .vmem, ⟨7, _⟩ => ⟨S1x4x1024, .f32⟩
  | .local _ .vmem, ⟨8, _⟩ => ⟨S1x16x64x128, .f32⟩
  | .local _ .vmem, ⟨9, _⟩ => ⟨S1x16x64x128, .f32⟩
  | .local _ .vmem, ⟨10, _⟩ => ⟨S4x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S1x4x1024, .bf16⟩
  | .local _ .vmem, ⟨18, _⟩ => ⟨S1x4x1024, .bf16⟩
  | .local _ .vmem, ⟨19, _⟩ => ⟨S1x3x1536, .f32⟩
  | .local _ .vmem, ⟨20, _⟩ => ⟨S1x3x1536, .f32⟩
  | .local _ .vmem, ⟨21, _⟩ => ⟨S1x16x64x128, .f32⟩
  | .local _ .vmem, ⟨22, _⟩ => ⟨S1x16x64x128, .f32⟩
  | .local _ .vmem, ⟨23, _⟩ => ⟨S16x1536, .f32⟩
  | _, _ => ⟨S32x4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_call2_v0 : Ref sig .tc := ⟨.hbm, 45, rfl⟩
abbrev main_v14 : Ref sig .tc := ⟨.hbm, 46, rfl⟩
abbrev main_v15 : Ref sig .tc := ⟨.hbm, 47, rfl⟩
abbrev main_c_2 : Ref sig .tc := ⟨.hbm, 48, rfl⟩
abbrev main_call3_v0 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19_0 : Ref sig .tc := ⟨.hbm, 53, rfl⟩
abbrev main_v19_1 : Ref sig .tc := ⟨.hbm, 54, rfl⟩
abbrev main_v19_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== StepRefIdeal.lean ====
abbrev S32x4x1536 : Shape := ⟨3, ![32, 4, 1536]⟩
abbrev S32x3x1536 : Shape := ⟨3, ![32, 3, 1536]⟩
abbrev S32x4x16 : Shape := ⟨3, ![32, 4, 16]⟩
abbrev S32x4x1024 : Shape := ⟨3, ![32, 4, 1024]⟩
abbrev S32x16x64x128 : Shape := ⟨4, ![32, 16, 64, 128]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32x7x1536 : Shape := ⟨3, ![32, 7, 1536]⟩
abbrev S1x1536 : Shape := ⟨2, ![1, 1536]⟩
abbrev S1x1x1536 : Shape := ⟨3, ![1, 1, 1536]⟩
abbrev S_ : Shape := ⟨0, ![]⟩
abbrev S32x4x2x8x64 : Shape := ⟨5, ![32, 4, 2, 8, 64]⟩
abbrev S32x4x256 : Shape := ⟨3, ![32, 4, 256]⟩
abbrev S32x4x2x128 : Shape := ⟨4, ![32, 4, 2, 128]⟩
abbrev S1x1x16 : Shape := ⟨3, ![1, 1, 16]⟩
abbrev S32x4x2x8 : Shape := ⟨4, ![32, 4, 2, 8]⟩
abbrev S2x8 : Shape := ⟨2, ![2, 8]⟩
abbrev S32x2x8x64x128 : Shape := ⟨5, ![32, 2, 8, 64, 128]⟩
abbrev S1x1x2x8 : Shape := ⟨4, ![1, 1, 2, 8]⟩
abbrev S32x4x1x2x8 : Shape := ⟨5, ![32, 4, 1, 2, 8]⟩
abbrev S32x1x4x2x8 : Shape := ⟨5, ![32, 1, 4, 2, 8]⟩
abbrev S32x4x4x2x8 : Shape := ⟨5, ![32, 4, 4, 2, 8]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x4x1x1 : Shape := ⟨4, ![4, 4, 1, 1]⟩
abbrev S32x2x4x4 : Shape := ⟨4, ![32, 2, 4, 4]⟩
abbrev S32x4x4x2 : Shape := ⟨4, ![32, 4, 4, 2]⟩
abbrev S32x4x4x2x1 : Shape := ⟨5, ![32, 4, 4, 2, 1]⟩
abbrev S32x2x8x64x4 : Shape := ⟨5, ![32, 2, 8, 64, 4]⟩
abbrev S32x1x2x8 : Shape := ⟨4, ![32, 1, 2, 8]⟩
abbrev S32x4x2x8x1 : Shape := ⟨5, ![32, 4, 2, 8, 1]⟩
abbrev S32x2x8 : Shape := ⟨3, ![32, 2, 8]⟩
abbrev S32x2x8x1x1 : Shape := ⟨5, ![32, 2, 8, 1, 1]⟩
abbrev S2x8x1 : Shape := ⟨3, ![2, 8, 1]⟩
abbrev S1x1x2x8x1 : Shape := ⟨5, ![1, 1, 2, 8, 1]⟩
abbrev S32x4x2x512 : Shape := ⟨4, ![32, 4, 2, 512]⟩
abbrev S32x4x2 : Shape := ⟨3, ![32, 4, 2]⟩
abbrev S32x4x2x1 : Shape := ⟨4, ![32, 4, 2, 1]⟩
abbrev S1x1x1024 : Shape := ⟨3, ![1, 1, 1024]⟩

abbrev nBuf : Space → Nat
  | .hbm => 175
  | .vmem => 0
  | .smem => 0
  | _ => 0

abbrev hbmTy0_0 (i : Nat) : BufTy := match i % 128 with
  | 0 => ⟨S32x4x1536, .f32⟩
  | 1 => ⟨S32x3x1536, .f32⟩
  | 2 => ⟨S32x4x16, .f32⟩
  | 3 => ⟨S32x4x1024, .f32⟩
  | 4 => ⟨S32x16x64x128, .f32⟩
  | 5 => ⟨S4x1536, .f32⟩
  | 6 => ⟨S1536, .f32⟩
  | 7 => ⟨S16, .f32⟩
  | 8 => ⟨S16, .f32⟩
  | 9 => ⟨S16, .f32⟩
  | 10 => ⟨S1024, .f32⟩
  | 11 => ⟨S32x7x1536, .f32⟩
  | 12 => ⟨S32x4x1536, .f32⟩
  | 13 => ⟨S1x1536, .f32⟩
  | 14 => ⟨S1536, .f32⟩
  | 15 => ⟨S1x1x1536, .f32⟩
  | 16 => ⟨S32x4x1536, .f32⟩
  | 17 => ⟨S32x4x1536, .f32⟩
  | 18 => ⟨S1x1x1536, .f32⟩
  | 19 => ⟨S32x4x1536, .f32⟩
  | 20 => ⟨S32x4x1536, .f32⟩
  | 21 => ⟨S32x4x1536, .f32⟩
  | 22 => ⟨S1x1536, .f32⟩
  | 23 => ⟨S1536, .f32⟩
  | 24 => ⟨S1x1x1536, .f32⟩
  | 25 => ⟨S32x4x1536, .f32⟩
  | 26 => ⟨S32x4x1536, .f32⟩
  | 27 => ⟨S32x4x1536, .f32⟩
  | 28 => ⟨S32x4x1536, .f32⟩
  | 29 => ⟨S1x1536, .f32⟩
  | 30 => ⟨S1536, .f32⟩
  | 31 => ⟨S1x1x1536, .f32⟩
  | 32 => ⟨S32x4x1536, .f32⟩
  | 33 => ⟨S32x4x1536, .f32⟩
  | 34 => ⟨S32x4x1536, .f32⟩
  | 35 => ⟨S32x4x1536, .f32⟩
  | 36 => ⟨S1x1536, .f32⟩
  | 37 => ⟨S1536, .f32⟩
  | 38 => ⟨S1x1x1536, .f32⟩
  | 39 => ⟨S32x4x1536, .f32⟩
  | 40 => ⟨S32x4x1536, .f32⟩
  | 41 => ⟨S32x4x1536, .f32⟩
  | 42 => ⟨S32x4x1536, .f32⟩
  | 43 => ⟨S32x4x1536, .f32⟩
  | 44 => ⟨S_, .f32⟩
  | 45 => ⟨S32x4x1536, .f32⟩
  | 46 => ⟨S32x4x1536, .f32⟩
  | 47 => ⟨S_, .f32⟩
  | 48 => ⟨S32x4x1536, .f32⟩
  | 49 => ⟨S32x4x1536, .f32⟩
  | 50 => ⟨S32x4x1536, .f32⟩
  | 51 => ⟨S32x3x1536, .f32⟩
  | 52 => ⟨S32x4x1024, .f32⟩
  | 53 => ⟨S32x4x2x8x64, .f32⟩
  | 54 => ⟨S32x4x256, .f32⟩
  | 55 => ⟨S32x4x2x128, .f32⟩
  | 56 => ⟨S32x4x256, .f32⟩
  | 57 => ⟨S32x4x2x128, .f32⟩
  | 58 => ⟨S1x1x16, .f32⟩
  | 59 => ⟨S32x4x16, .f32⟩
  | 60 => ⟨S32x4x16, .f32⟩
  | 61 => ⟨S_, .f32⟩
  | 62 => ⟨S32x4x16, .f32⟩
  | 63 => ⟨S32x4x16, .f32⟩
  | 64 => ⟨S32x4x16, .f32⟩
  | 65 => ⟨S32x4x16, .f32⟩
  | 66 => ⟨S32x4x16, .i1⟩
  | 67 => ⟨S32x4x16, .f32⟩
  | 68 => ⟨S32x4x16, .f32⟩
  | 69 => ⟨S32x4x16, .f32⟩
  | 70 => ⟨S32x4x16, .f32⟩
  | 71 => ⟨S32x4x16, .f32⟩
  | 72 => ⟨S32x4x16, .f32⟩
  | 73 => ⟨S32x4x16, .f32⟩
  | 74 => ⟨S32x4x16, .f32⟩
  | 75 => ⟨S32x4x2x8, .f32⟩
  | 76 => ⟨S16, .f32⟩
  | 77 => ⟨S2x8, .f32⟩
  | 78 => ⟨S2x8, .f32⟩
  | 79 => ⟨S32x2x8x64x128, .f32⟩
  | 80 => ⟨S1x1x2x8, .f32⟩
  | 81 => ⟨S32x4x2x8, .f32⟩
  | 82 => ⟨S32x4x2x8, .f32⟩
  | 83 => ⟨S_, .f32⟩
  | 84 => ⟨S_, .f32⟩
  | 85 => ⟨S32x4x2x8, .f32⟩
  | 86 => ⟨S32x4x1x2x8, .f32⟩
  | 87 => ⟨S32x1x4x2x8, .f32⟩
  | 88 => ⟨S32x4x4x2x8, .f32⟩
  | 89 => ⟨S32x4x4x2x8, .f32⟩
  | 90 => ⟨S32x4x4x2x8, .f32⟩
  | 91 => ⟨S4, .i32⟩
  | 92 => ⟨S4x1, .i32⟩
  | 93 => ⟨S4, .i32⟩
  | 94 => ⟨S1x4, .i32⟩
  | 95 => ⟨S4x4, .i32⟩
  | 96 => ⟨S4x4, .i32⟩
  | 97 => ⟨S4x4, .i1⟩
  | 98 => ⟨S4x4x1x1, .i1⟩
  | 99 => ⟨S_, .f32⟩
  | 100 => ⟨S_, .f32⟩
  | 101 => ⟨S32x4x4x2x8, .i1⟩
  | 102 => ⟨S32x4x4x2x8, .f32⟩
  | 103 => ⟨S32x4x4x2x8, .f32⟩
  | 104 => ⟨S32x4x4x2x8, .f32⟩
  | 105 => ⟨S32x2x4x4, .f32⟩
  | 106 => ⟨S32x4x4x2, .f32⟩
  | 107 => ⟨S32x4x4x2x1, .f32⟩
  | 108 => ⟨S32x4x4x2x8, .f32⟩
  | 109 => ⟨S32x4x4x2x8, .f32⟩
  | 110 => ⟨S32x1x4x2x8, .f32⟩
  | 111 => ⟨S32x4x4x2x8, .f32⟩
  | 112 => ⟨S32x4x4x2x8, .f32⟩
  | 113 => ⟨S32x2x8x64x4, .f32⟩
  | 114 => ⟨S32x4x2x8x64, .f32⟩
  | 115 => ⟨S32x1x2x8, .f32⟩
  | 116 => ⟨S32x4x2x8, .f32⟩
  | 117 => ⟨S32x4x2x8, .f32⟩
  | 118 => ⟨S32x4x2x8, .f32⟩
  | 119 => ⟨S32x4x2x8, .f32⟩
  | 120 => ⟨S32x4x2x8x1, .f32⟩
  | 121 => ⟨S32x4x2x8x64, .f32⟩
  | 122 => ⟨S32x4x2x8x64, .f32⟩
  | 123 => ⟨S32x2x8x64x128, .f32⟩
  | 124 => ⟨S32x1x2x8, .f32⟩
  | 125 => ⟨S32x2x8, .f32⟩
  | 126 => ⟨S32x2x8, .f32⟩
  | 127 => ⟨S32x2x8x1x1, .f32⟩
  | _ => ⟨S32x4x1536, .f32⟩

abbrev hbmTy0_1 (i : Nat) : BufTy := match i % 128 with
  | 0 => ⟨S32x2x8x64x128, .f32⟩
  | 1 => ⟨S32x2x8x64x128, .f32⟩
  | 2 => ⟨S32x2x8x64x128, .f32⟩
  | 3 => ⟨S32x2x8x64x4, .f32⟩
  | 4 => ⟨S32x4x2x8x64, .f32⟩
  | 5 => ⟨S32x4x2x8, .f32⟩
  | 6 => ⟨S32x4x2x8x1, .f32⟩
  | 7 => ⟨S32x4x2x8x64, .f32⟩
  | 8 => ⟨S32x4x2x8x64, .f32⟩
  | 9 => ⟨S32x4x2x8x64, .f32⟩
  | 10 => ⟨S2x8, .f32⟩
  | 11 => ⟨S2x8x1, .f32⟩
  | 12 => ⟨S1x1x2x8x1, .f32⟩
  | 13 => ⟨S32x4x2x8x64, .f32⟩
  | 14 => ⟨S32x4x2x8x64, .f32⟩
  | 15 => ⟨S32x4x2x8x64, .f32⟩
  | 16 => ⟨S32x4x1024, .f32⟩
  | 17 => ⟨S32x4x1024, .f32⟩
  | 18 => ⟨S32x4x1024, .f32⟩
  | 19 => ⟨S_, .f32⟩
  | 20 => ⟨S32x4x1024, .f32⟩
  | 21 => ⟨S32x4x1024, .f32⟩
  | 22 => ⟨S_, .f32⟩
  | 23 => ⟨S32x4x1024, .f32⟩
  | 24 => ⟨S32x4x1024, .f32⟩
  | 25 => ⟨S32x4x1024, .f32⟩
  | 26 => ⟨S32x4x1024, .f32⟩
  | 27 => ⟨S32x4x2x512, .f32⟩
  | 28 => ⟨S32x4x2x512, .f32⟩
  | 29 => ⟨S_, .f32⟩
  | 30 => ⟨S32x4x2, .f32⟩
  | 31 => ⟨S32x4x2x1, .f32⟩
  | 32 => ⟨S_, .f32⟩
  | 33 => ⟨S32x4x2x1, .f32⟩
  | 34 => ⟨S32x4x2x1, .f32⟩
  | 35 => ⟨S_, .f32⟩
  | 36 => ⟨S32x4x2x1, .f32⟩
  | 37 => ⟨S32x4x2x1, .f32⟩
  | 38 => ⟨S32x4x2x1, .f32⟩
  | 39 => ⟨S32x4x2x512, .f32⟩
  | 40 => ⟨S32x4x2x512, .f32⟩
  | 41 => ⟨S32x4x1024, .f32⟩
  | 42 => ⟨S1x1x1024, .f32⟩
  | 43 => ⟨S32x4x1024, .f32⟩
  | 44 => ⟨S32x4x1024, .f32⟩
  | 45 => ⟨S32x4x1024, .bf16⟩
  | 46 => ⟨S32x16x64x128, .f32⟩
  | _ => ⟨S32x4x1536, .f32⟩

abbrev hbmTy (i : Nat) : BufTy := match i / 128 with
  | 0 => hbmTy0_0 i
  | 1 => hbmTy0_1 i
  | _ => ⟨S32x4x1536, .f32⟩

abbrev bufTy : (tb : Table) → Fin (tcTables nBuf tb) → BufTy
  | .hbm, ⟨i, _⟩ => hbmTy i
  | _, _ => ⟨S32x4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call2_call0_cst : Ref sig .tc := ⟨.hbm, 83, rfl⟩
abbrev main_call2_call0_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_0 : Ref sig .tc := ⟨.hbm, 157, rfl⟩
abbrev main_v111 : Ref sig .tc := ⟨.hbm, 158, rfl⟩
abbrev main_v112 : Ref sig .tc := ⟨.hbm, 159, rfl⟩
abbrev main_cst_1 : Ref sig .tc := ⟨.hbm, 160, rfl⟩
abbrev main_v113 : Ref sig .tc := ⟨.hbm, 161, rfl⟩
abbrev main_v114 : Ref sig .tc := ⟨.hbm, 162, rfl⟩
abbrev main_cst_2 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Out.lean ====
abbrev S8x2048x1024 : Shape := ⟨3, ![8, 2048, 1024]⟩
abbrev S8x2048x2048 : Shape := ⟨3, ![8, 2048, 2048]⟩
abbrev S1024 : Shape := ⟨1, ![1024]⟩
abbrev S2048x2048 : Shape := ⟨2, ![2048, 2048]⟩
abbrev S16384x2048 : Shape := ⟨2, ![16384, 2048]⟩
abbrev S16384x1024 : Shape := ⟨2, ![16384, 1024]⟩
abbrev S1x1024 : Shape := ⟨2, ![1, 1024]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x2048, .f32⟩
  | .hbm, ⟨3, _⟩ => ⟨S1024, .f32⟩
  | .hbm, ⟨4, _⟩ => ⟨S2048x2048, .f32⟩
  | .hbm, ⟨5, _⟩ => ⟨S16384x2048, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S2048x2048, .bf16⟩
  | .hbm, ⟨10, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8x2048x1024 : Shape := ⟨3, ![8, 2048, 1024]⟩
abbrev S8x2048x2048 : Shape := ⟨3, ![8, 2048, 2048]⟩
abbrev S1024 : Shape := ⟨1, ![1024]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x2048, .f32⟩
  | .hbm, ⟨3, _⟩ => ⟨S1024, .f32⟩
  | .hbm, ⟨4, _⟩ => ⟨S2048x2048, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Inp.lean ====
abbrev S8x2048x2048 : Shape := ⟨3, ![8, 2048, 2048]⟩
abbrev S2048 : Shape := ⟨1, ![2048]⟩
abbrev S2048x5648 : Shape := ⟨2, ![2048, 5648]⟩
abbrev S128 : Shape := ⟨1, ![128]⟩
abbrev S2048x5632 : Shape := ⟨2, ![2048, 5632]⟩
abbrev S5632x2048 : Shape := ⟨2, ![5632, 2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S1x128 : Shape := ⟨2, ![1, 128]⟩
abbrev S16384x2048 : Shape := ⟨2, ![16384, 2048]⟩
abbrev S16384x1024 : Shape := ⟨2, ![16384, 1024]⟩
abbrev S16384x1536 : Shape := ⟨2, ![16384, 1536]⟩
abbrev S16384x128 : Shape := ⟨2, ![16384, 128]⟩
abbrev S1024x2048 : Shape := ⟨2, ![1024, 2048]⟩
abbrev S2048x512 : Shape := ⟨2, ![2048, 512]⟩
abbrev S128x512 : Shape := ⟨2, ![128, 512]⟩
abbrev S512x128 : Shape := ⟨2, ![512, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 26
  | .vmem => 33
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x5648, .f32⟩
  | .hbm, ⟨3, _⟩ => ⟨S128, .f32⟩
  | .hbm, ⟨4, _⟩ => ⟨S128, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x16, .f32⟩
  | .hbm, ⟨9, _⟩ => ⟨S2048x16, .bf16⟩
  | .hbm, ⟨10, _⟩ => ⟨S_, .i32⟩
  | .hbm, ⟨11, _⟩ => ⟨S_, .bf16⟩
  | .hbm, ⟨12, _⟩ => ⟨S2048x128, .bf16⟩
  | .hbm, ⟨13, _⟩ => ⟨S1x2048, .f32⟩
  | .hbm, ⟨14, _⟩ => ⟨S1x128, .f32⟩
  | .hbm, ⟨15, _⟩ => ⟨S1x128, .f32⟩
  | .hbm, ⟨16, _⟩ => ⟨S16384x2048, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1536, .f32⟩
  | .hbm, ⟨22, _⟩ => ⟨S16384x128, .f32⟩
  | .hbm, ⟨23, _⟩ => ⟨S2048x5632, .bf16⟩
  | .hbm, ⟨24, _⟩ => ⟨S2048x5632, .bf16⟩
  | .hbm, ⟨25, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S512x128, .f32⟩
  | .local _ .vmem, ⟨13, _⟩ => ⟨S512x128, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x128, .f32⟩
  | .local _ .vmem, ⟨25, _⟩ => ⟨S1024x128, .f32⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S512x128, .bf16⟩
  | .local _ .vmem, ⟨31, _⟩ => ⟨S512x128, .bf16⟩
  | .local _ .vmem, ⟨32, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v7_7 : Ref sig .tc := ⟨.hbm, 24, rfl⟩
abbrev main_v7_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c2_i32 : BitVec 32 := 2#32
  let v16 : BitVec 1 := Scalar.cmpi .slt arg1 c2_i32
  let v17 : BitVec 32 := Scalar.extui v16
  let c0_i32_16 : BitVec 32 := 0#32
  let v18 : BitVec 1 := Scalar.cmpi .ne v17 c0_i32_16
  v18

def k0_cond3 (i : grid0.Coords) : BitVec 1 :=
  let arg1 : BitVec 32 := BitVec.ofNat 32 (i 1).val
  let c2_i32_17 : BitVec 32 := 2#32
  let v19 : BitVec 1 := Scalar.cmpi .sge arg1 c2_i32_17
  let c4_i32 : BitVec 32 := 4#32
  let v20 : BitVec 1 := Scalar.cmpi .slt arg1 c4_i32
  let v21 : BitVec 1 := Scalar.andi v19 v20
  let v22 : BitVec 32 := Scalar.extui v21
  let c0_i32_18 : BitVec 32 := 0#32
  let v23 : BitVec 1 := Scalar.cmpi .ne v22 c0_i32_18
  v23

def k0_cond4 (i : grid0.Coords) : BitVec 1 :=
  let arg1 : BitVec 32 := BitVec.ofNat 32 (i 1).val
  let c4_i32_19 : BitVec 32 := 4#32
  let v24 : BitVec 1 := Scalar.cmpi .sge arg1 c4_i32_19
  let c6_i32 : BitVec 32 := 6#32
  let v25 : BitVec 1 := Scalar.cmpi .slt arg1 c6_i32
  let v26 : BitVec 1 := Scalar.andi v24 v25
  let v27 : BitVec 32 := Scalar.extui v26
  let c0_i32_20 : BitVec 32 := 0#32
  let v28 : BitVec 1 := Scalar.cmpi .ne v27 c0_i32_20
  v28

def k0_cond5 (i : grid0.Coords) : BitVec 1 :=
  let arg1 : BitVec 32 := BitVec.ofNat 32 (i 1).val
  let c6_i32_21 : BitVec 32 := 6#32
  let v29 : BitVec 1 := Scalar.cmpi .sge arg1 c6_i32_21
  let c8_i32 : BitVec 32 := 8#32
  let v30 : BitVec 1 := Scalar.cmpi .slt arg1 c8_i32
  let v31 : BitVec 1 := Scalar.andi v29 v30
  let v32 : BitVec 32 := Scalar.extui v31
  let c0_i32_22 : BitVec 32 := 0#32
  let v33 : BitVec 1 := Scalar.cmpi .ne v32 c0_i32_22
  v33

def k0_cond6 (i : grid0.Coords) : BitVec 1 :=
  let arg1 : BitVec 32 := BitVec.ofNat 32 (i 1).val
  let c8_i32_23 : BitVec 32 := 8#32
  let v34 : BitVec 1 := Scalar.cmpi .sge arg1 c8_i32_23
  let v35 : BitVec 32 := Scalar.extui v34
  let c0_i32_24 : BitVec 32 := 0#32
  let v36 : BitVec 1 := Scalar.cmpi .ne v35 c0_i32_24
  v36

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_11 : BitVec 32 := 0#32
  let v11 : BitVec 1 := Scalar.cmpi .ne v10 c0_i32_11
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InpRefIdeal.lean ====
abbrev S8x2048x2048 : Shape := ⟨3, ![8, 2048, 2048]⟩
abbrev S2048 : Shape := ⟨1, ![2048]⟩
abbrev S2048x5648 : Shape := ⟨2, ![2048, 5648]⟩
abbrev S128 : Shape := ⟨1, ![128]⟩
abbrev S2048x5632 : Shape := ⟨2, ![2048, 5632]⟩
abbrev S5632x2048 : Shape := ⟨2, ![5632, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x5648 : Shape := ⟨3, ![8, 2048, 5648]⟩
abbrev S8x2048x1024 : Shape := ⟨3, ![8, 2048, 1024]⟩
abbrev S8x2048x1536 : Shape := ⟨3, ![8, 2048, 1536]⟩
abbrev S8x2048x16 : Shape := ⟨3, ![8, 2048, 16]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x128 : Shape := ⟨3, ![8, 2048, 128]⟩
abbrev S16384x1024 : Shape := ⟨2, ![16384, 1024]⟩
abbrev S16384x1536 : Shape := ⟨2, ![16384, 1536]⟩
abbrev S16384x128 : Shape := ⟨2, ![16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x5648, .f32⟩
  | .hbm, ⟨3, _⟩ => ⟨S128, .f32⟩
  | .hbm, ⟨4, _⟩ => ⟨S128, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S8x2048x5648, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1536, .f32⟩
  | .hbm, ⟨30, _⟩ => ⟨S8x2048x16, .f32⟩
  | .hbm, ⟨31, _⟩ => ⟨S8x2048x8x128, .f32⟩
  | .hbm, ⟨32, _⟩ => ⟨S8x2048x8x128, .f32⟩
  | .hbm, ⟨33, _⟩ => ⟨S8x2048x8x128, .f32⟩
  | .hbm, ⟨34, _⟩ => ⟨S_, .f32⟩
  | .hbm, ⟨35, _⟩ => ⟨S8x2048x8, .f32⟩
  | .hbm, ⟨36, _⟩ => ⟨S8x2048x8x1, .f32⟩
  | .hbm, ⟨37, _⟩ => ⟨S_, .f32⟩
  | .hbm, ⟨38, _⟩ => ⟨S8x2048x8x1, .f32⟩
  | .hbm, ⟨39, _⟩ => ⟨S8x2048x8x1, .f32⟩
  | .hbm, ⟨40, _⟩ => ⟨S_, .f32⟩
  | .hbm, ⟨41, _⟩ => ⟨S8x2048x8x1, .f32⟩
  | .hbm, ⟨42, _⟩ => ⟨S8x2048x8x1, .f32⟩
  | .hbm, ⟨43, _⟩ => ⟨S8x2048x8x1, .f32⟩
  | .hbm, ⟨44, _⟩ => ⟨S8x2048x8x128, .f32⟩
  | .hbm, ⟨45, _⟩ => ⟨S8x2048x8x128, .f32⟩
  | .hbm, ⟨46, _⟩ => ⟨S1x1x1x128, .f32⟩
  | .hbm, ⟨47, _⟩ => ⟨S8x2048x8x128, .f32⟩
  | .hbm, ⟨48, _⟩ => ⟨S8x2048x8x128, .f32⟩
  | .hbm, ⟨49, _⟩ => ⟨S8x2048x8x128, .f32⟩
  | .hbm, ⟨50, _⟩ => ⟨S_, .f32⟩
  | .hbm, ⟨51, _⟩ => ⟨S8x2048x8, .f32⟩
  | .hbm, ⟨52, _⟩ => ⟨S8x2048x8x1, .f32⟩
  | .hbm, ⟨53, _⟩ => ⟨S_, .f32⟩
  | .hbm, ⟨54, _⟩ => ⟨S8x2048x8x1, .f32⟩
  | .hbm, ⟨55, _⟩ => ⟨S8x2048x8x1, .f32⟩
  | .hbm, ⟨56, _⟩ => ⟨S_, .f32⟩
  | .hbm, ⟨57, _⟩ => ⟨S8x2048x8x1, .f32⟩
  | .hbm, ⟨58, _⟩ => ⟨S8x2048x8x1, .f32⟩
  | .hbm, ⟨59, _⟩ => ⟨S8x2048x8x1, .f32⟩
  | .hbm, ⟨60, _⟩ => ⟨S8x2048x8x128, .f32⟩
  | .hbm, ⟨61, _⟩ => ⟨S8x2048x8x128, .f32⟩
  | .hbm, ⟨62, _⟩ => ⟨S1x1x1x128, .f32⟩
  | .hbm, ⟨63, _⟩ => ⟨S8x2048x8x128, .f32⟩
  | .hbm, ⟨64, _⟩ => ⟨S8x2048x8x128, .f32⟩
  | .hbm, ⟨65, _⟩ => ⟨S_, .i32⟩
  | .hbm, ⟨66, _⟩ => ⟨S_, .f32⟩
  | .hbm, ⟨67, _⟩ => ⟨S8x2048x128, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1536, .f32⟩
  | .hbm, ⟨73, _⟩ => ⟨S16384x128, .f32⟩
  | .hbm, ⟨74, _⟩ => ⟨S2048x5632, .bf16⟩
  | .hbm, ⟨75, _⟩ => ⟨S2048x5632, .bf16⟩
  | .hbm, ⟨76, _⟩ => ⟨S5632x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== InpS.lean ====
abbrev S32x4x2048 : Shape := ⟨3, ![32, 4, 2048]⟩
abbrev S2048 : Shape := ⟨1, ![2048]⟩
abbrev S2048x5648 : Shape := ⟨2, ![2048, 5648]⟩
abbrev S128 : Shape := ⟨1, ![128]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S1x128 : Shape := ⟨2, ![1, 128]⟩
abbrev S128x2048 : Shape := ⟨2, ![128, 2048]⟩
abbrev S128x1024 : Shape := ⟨2, ![128, 1024]⟩
abbrev S128x1536 : Shape := ⟨2, ![128, 1536]⟩
abbrev S128x128 : Shape := ⟨2, ![128, 128]⟩
abbrev S2048x512 : Shape := ⟨2, ![2048, 512]⟩
abbrev S128x512 : Shape := ⟨2, ![128, 512]⟩
abbrev S128x1 : Shape := ⟨2, ![128, 1]⟩

abbrev nBuf : Space → Nat
  | .hbm => 20
  | .vmem => 19
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x5648, .f32⟩
  | .hbm, ⟨3, _⟩ => ⟨S128, .f32⟩
  | .hbm, ⟨4, _⟩ => ⟨S128, .f32⟩
  | .hbm, ⟨5, _⟩ => ⟨S2048x16, .f32⟩
  | .hbm, ⟨6, _⟩ => ⟨S2048x16, .bf16⟩
  | .hbm, ⟨7, _⟩ => ⟨S_, .i32⟩
  | .hbm, ⟨8, _⟩ => ⟨S_, .bf16⟩
  | .hbm, ⟨9, _⟩ => ⟨S2048x128, .bf16⟩
  | .hbm, ⟨10, _⟩ => ⟨S1x2048, .f32⟩
  | .hbm, ⟨11, _⟩ => ⟨S1x128, .f32⟩
  | .hbm, ⟨12, _⟩ => ⟨S1x128, .f32⟩
  | .hbm, ⟨13, _⟩ => ⟨S128x2048, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1536, .f32⟩
  | .hbm, ⟨19, _⟩ => ⟨S128x128, .f32⟩
  | .local _ .vmem, ⟨0, _⟩ => ⟨S128x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x128, .bf16⟩
  | .local _ .vmem, ⟨5, _⟩ => ⟨S1x128, .f32⟩
  | .local _ .vmem, ⟨6, _⟩ => ⟨S1x128, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let c4_i32 : BitVec 32 := 4#32
  let v11 : BitVec 1 := Scalar.cmpi .slt arg1 c4_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c4_i32_7 : BitVec 32 := 4#32
  let v15 : BitVec 1 := Scalar.cmpi .sge arg1 c4_i32_7
  let c6_i32 : BitVec 32 := 6#32
  let v16 : BitVec 1 := Scalar.cmpi .slt arg1 c6_i32
  let v17 : BitVec 1 := Scalar.andi v15 v16
  let v18 : BitVec 32 := Scalar.extui v17
  let c0_i32_8 : BitVec 32 := 0#32
  let v19 : BitVec 1 := Scalar.cmpi .ne v18 c0_i32_8
  v19

def k0_cond5 (i : grid0.Coords) : BitVec 1 :=
  let arg1 : BitVec 32 := BitVec.ofNat 32 (i 1).val
  let c6_i32_9 : BitVec 32 := 6#32
  let v20 : BitVec 1 := Scalar.cmpi .sge arg1 c6_i32_9
  let c8_i32 : BitVec 32 := 8#32
  let v21 : BitVec 1 := Scalar.cmpi .slt arg1 c8_i32
  let v22 : BitVec 1 := Scalar.andi v20 v21
  let v23 : BitVec 32 := Scalar.extui v22
  let c0_i32_10 : BitVec 32 := 0#32
  let v24 : BitVec 1 := Scalar.cmpi .ne v23 c0_i32_10
  v24

def k0_cond6 (i : grid0.Coords) : BitVec 1 :=
  let arg1 : BitVec 32 := BitVec.ofNat 32 (i 1).val
  let c8_i32_11 : BitVec 32 := 8#32
  let v25 : BitVec 1 := Scalar.cmpi .sge arg1 c8_i32_11
  let v26 : BitVec 32 := Scalar.extui v25
  let c0_i32_12 : BitVec 32 := 0#32
  let v27 : BitVec 1 := Scalar.cmpi .ne v26 c0_i32_12
  v27

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== InpSRefIdeal.lean ====
abbrev S32x4x2048 : Shape := ⟨3, ![32, 4, 2048]⟩
abbrev S2048 : Shape := ⟨1, ![2048]⟩
abbrev S2048x5648 : Shape := ⟨2, ![2048, 5648]⟩
abbrev S128 : Shape := ⟨1, ![128]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x4x5648 : Shape := ⟨3, ![32, 4, 5648]⟩
abbrev S32x4x1024 : Shape := ⟨3, ![32, 4, 1024]⟩
abbrev S32x4x1536 : Shape := ⟨3, ![32, 4, 1536]⟩
abbrev S32x4x16 : Shape := ⟨3, ![32, 4, 16]⟩
abbrev S32x4x8x128 : Shape := ⟨4, ![32, 4, 8, 128]⟩
abbrev S32x4x8 : Shape := ⟨3, ![32, 4, 8]⟩
abbrev S32x4x8x1 : Shape := ⟨4, ![32, 4, 8, 1]⟩
abbrev S1x1x1x128 : Shape := ⟨4, ![1, 1, 1, 128]⟩
abbrev S32x4x128 : Shape := ⟨3, ![32, 4, 128]⟩
abbrev S128x1024 : Shape := ⟨2, ![128, 1024]⟩
abbrev S128x1536 : Shape := ⟨2, ![128, 1536]⟩
abbrev S128x128 : Shape := ⟨2, ![128, 128]⟩

abbrev nBuf : Space → Nat
  | .hbm => 71
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S2048, .f32⟩
  | .hbm, ⟨2, _⟩ => ⟨S2048x5648, .f32⟩
  | .hbm, ⟨3, _⟩ => ⟨S128, .f32⟩
  | .hbm, ⟨4, _⟩ => ⟨S128, .f32⟩
  | .hbm, ⟨5, _⟩ => ⟨S32x4x2048, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x2048, .f32⟩
  | .hbm, ⟨17, _⟩ => ⟨S32x4x2048, .f32⟩
  | .hbm, ⟨18, _⟩ => ⟨S1x1x2048, .f32⟩
  | .hbm, ⟨19, _⟩ => ⟨S32x4x2048, .f32⟩
  | .hbm, ⟨20, _⟩ => ⟨S32x4x2048, .f32⟩
  | .hbm, ⟨21, _⟩ => ⟨S32x4x5648, .f32⟩
  | .hbm, ⟨22, _⟩ => ⟨S32x4x1024, .f32⟩
  | .hbm, ⟨23, _⟩ => ⟨S32x4x1024, .f32⟩
  | .hbm, ⟨24, _⟩ => ⟨S32x4x1024, .f32⟩
  | .hbm, ⟨25, _⟩ => ⟨S32x4x1024, .f32⟩
  | .hbm, ⟨26, _⟩ => ⟨S32x4x1536, .f32⟩
  | .hbm, ⟨27, _⟩ => ⟨S32x4x16, .f32⟩
  | .hbm, ⟨28, _⟩ => ⟨S32x4x8x128, .f32⟩
  | .hbm, ⟨29, _⟩ => ⟨S32x4x8x128, .f32⟩
  | .hbm, ⟨30, _⟩ => ⟨S32x4x8x128, .f32⟩
  | .hbm, ⟨31, _⟩ => ⟨S_, .f32⟩
  | .hbm, ⟨32, _⟩ => ⟨S32x4x8, .f32⟩
  | .hbm, ⟨33, _⟩ => ⟨S32x4x8x1, .f32⟩
  | .hbm, ⟨34, _⟩ => ⟨S_, .f32⟩
  | .hbm, ⟨35, _⟩ => ⟨S32x4x8x1, .f32⟩
  | .hbm, ⟨36, _⟩ => ⟨S32x4x8x1, .f32⟩
  | .hbm, ⟨37, _⟩ => ⟨S_, .f32⟩
  | .hbm, ⟨38, _⟩ => ⟨S32x4x8x1, .f32⟩
  | .hbm, ⟨39, _⟩ => ⟨S32x4x8x1, .f32⟩
  | .hbm, ⟨40, _⟩ => ⟨S32x4x8x1, .f32⟩
  | .hbm, ⟨41, _⟩ => ⟨S32x4x8x128, .f32⟩
  | .hbm, ⟨42, _⟩ => ⟨S32x4x8x128, .f32⟩
  | .hbm, ⟨43, _⟩ => ⟨S1x1x1x128, .f32⟩
  | .hbm, ⟨44, _⟩ => ⟨S32x4x8x128, .f32⟩
  | .hbm, ⟨45, _⟩ => ⟨S32x4x8x128, .f32⟩
  | .hbm, ⟨46, _⟩ => ⟨S32x4x8x128, .f32⟩
  | .hbm, ⟨47, _⟩ => ⟨S_, .f32⟩
  | .hbm, ⟨48, _⟩ => ⟨S32x4x8, .f32⟩
  | .hbm, ⟨49, _⟩ => ⟨S32x4x8x1, .f32⟩
  | .hbm, ⟨50, _⟩ => ⟨S_, .f32⟩
  | .hbm, ⟨51, _⟩ => ⟨S32x4x8x1, .f32⟩
  | .hbm, ⟨52, _⟩ => ⟨S32x4x8x1, .f32⟩
  | .hbm, ⟨53, _⟩ => ⟨S_, .f32⟩
  | .hbm, ⟨54, _⟩ => ⟨S32x4x8x1, .f32⟩
  | .hbm, ⟨55, _⟩ => ⟨S32x4x8x1, .f32⟩
  | .hbm, ⟨56, _⟩ => ⟨S32x4x8x1, .f32⟩
  | .hbm, ⟨57, _⟩ => ⟨S32x4x8x128, .f32⟩
  | .hbm, ⟨58, _⟩ => ⟨S32x4x8x128, .f32⟩
  | .hbm, ⟨59, _⟩ => ⟨S1x1x1x128, .f32⟩
  | .hbm, ⟨60, _⟩ => ⟨S32x4x8x128, .f32⟩
  | .hbm, ⟨61, _⟩ => ⟨S32x4x8x128, .f32⟩
  | .hbm, ⟨62, _⟩ => ⟨S_, .i32⟩
  | .hbm, ⟨63, _⟩ => ⟨S_, .f32⟩
  | .hbm, ⟨64, _⟩ => ⟨S32x4x128, .f32⟩
  | .hbm, ⟨65, _⟩ => ⟨S128x1024, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S128x1536, .f32⟩
  | .hbm, ⟨70, _⟩ => ⟨S128x128, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_call0_v0 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== OutS.lean ====
abbrev S32x4x1024 : Shape := ⟨3, ![32, 4, 1024]⟩
abbrev S32x4x2048 : Shape := ⟨3, ![32, 4, 2048]⟩
abbrev S1024 : Shape := ⟨1, ![1024]⟩
abbrev S2048x2048 : Shape := ⟨2, ![2048, 2048]⟩
abbrev S128x2048 : Shape := ⟨2, ![128, 2048]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 11
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .bf16⟩
  | .hbm, ⟨2, _⟩ => ⟨S32x4x2048, .f32⟩
  | .hbm, ⟨3, _⟩ => ⟨S1024, .f32⟩
  | .hbm, ⟨4, _⟩ => ⟨S2048x2048, .f32⟩
  | .hbm, ⟨5, _⟩ => ⟨S128x2048, .f32⟩
  | .hbm, ⟨6, _⟩ => ⟨S128x1024, .f32⟩
  | .hbm, ⟨7, _⟩ => ⟨S128x1024, .bf16⟩
  | .hbm, ⟨8, _⟩ => ⟨S1x1024, .f32⟩
  | .hbm, ⟨9, _⟩ => ⟨S2048x2048, .bf16⟩
  | .hbm, ⟨10, _⟩ => ⟨S128x2048, .f32⟩
  | .local _ .vmem, ⟨0, _⟩ => ⟨S128x1024, .f32⟩
  | .local _ .vmem, ⟨1, _⟩ => ⟨S128x1024, .bf16⟩
  | .local _ .vmem, ⟨2, _⟩ => ⟨S128x2048, .f32⟩
  | .local _ .vmem, ⟨3, _⟩ => ⟨S1x1024, .f32⟩
  | .local _ .vmem, ⟨4, _⟩ => ⟨S2048x2048, .bf16⟩
  | .local _ .vmem, ⟨5, _⟩ => ⟨S128x2048, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OutSRefIdeal.lean ====
abbrev S32x4x1024 : Shape := ⟨3, ![32, 4, 1024]⟩
abbrev S32x4x2048 : Shape := ⟨3, ![32, 4, 2048]⟩
abbrev S1024 : Shape := ⟨1, ![1024]⟩
abbrev S2048x2048 : Shape := ⟨2, ![2048, 2048]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S128x2048 : Shape := ⟨2, ![128, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .bf16⟩
  | .hbm, ⟨2, _⟩ => ⟨S32x4x2048, .f32⟩
  | .hbm, ⟨3, _⟩ => ⟨S1024, .f32⟩
  | .hbm, ⟨4, _⟩ => ⟨S2048x2048, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x4x1024, .f32⟩
  | .hbm, ⟨22, _⟩ => ⟨S32x4x2048, .f32⟩
  | .hbm, ⟨23, _⟩ => ⟨S32x4x2048, .f32⟩
  | .hbm, ⟨24, _⟩ => ⟨S32x4x2048, .f32⟩
  | .hbm, ⟨25, _⟩ => ⟨S128x2048, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== FfnS.lean ====
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S128x512 : Shape := ⟨2, ![128, 512]⟩

abbrev nBuf : Space → Nat
  | .hbm => 10
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S128x2048, .f32⟩
  | .local _ .vmem, ⟨9, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnSRefIdeal.lean ====
abbrev S128x2048 : Shape := ⟨2, ![128, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x5632 : Shape := ⟨2, ![128, 5632]⟩

abbrev nBuf : Space → Nat
  | .hbm => 35
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S128x2048, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x2048, .f32⟩
  | .hbm, ⟨17, _⟩ => ⟨S128x2048, .f32⟩
  | .hbm, ⟨18, _⟩ => ⟨S1x2048, .f32⟩
  | .hbm, ⟨19, _⟩ => ⟨S128x2048, .f32⟩
  | .hbm, ⟨20, _⟩ => ⟨S128x2048, .f32⟩
  | .hbm, ⟨21, _⟩ => ⟨S128x5632, .f32⟩
  | .hbm, ⟨22, _⟩ => ⟨S128x5632, .f32⟩
  | .hbm, ⟨23, _⟩ => ⟨S128x5632, .f32⟩
  | .hbm, ⟨24, _⟩ => ⟨S_, .f32⟩
  | .hbm, ⟨25, _⟩ => ⟨S128x5632, .f32⟩
  | .hbm, ⟨26, _⟩ => ⟨S128x5632, .f32⟩
  | .hbm, ⟨27, _⟩ => ⟨S_, .f32⟩
  | .hbm, ⟨28, _⟩ => ⟨S128x5632, .f32⟩
  | .hbm, ⟨29, _⟩ => ⟨S128x5632, .f32⟩
  | .hbm, ⟨30, _⟩ => ⟨S128x5632, .f32⟩
  | .hbm, ⟨31, _⟩ => ⟨S128x5632, .f32⟩
  | .hbm, ⟨32, _⟩ => ⟨S128x5632, .f32⟩
  | .hbm, ⟨33, _⟩ => ⟨S128x2048, .f32⟩
  | .hbm, ⟨34, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Tail.lean ====
abbrev S8x2048x1536 : Shape := ⟨3, ![8, 2048, 1536]⟩
abbrev S8x2048x128 : Shape := ⟨3, ![8, 2048, 128]⟩
abbrev S8x2048x1024 : Shape := ⟨3, ![8, 2048, 1024]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S128x1024 : Shape := ⟨2, ![128, 1024]⟩
abbrev S2048x2048 : Shape := ⟨2, ![2048, 2048]⟩
abbrev S5120x128x8x128 : Shape := ⟨4, ![5120, 128, 8, 128]⟩
abbrev S8x3x1536 : Shape := ⟨3, ![8, 3, 1536]⟩
abbrev S8x16x64x128 : Shape := ⟨4, ![8, 16, 64, 128]⟩
abbrev S1536x8x128 : Shape := ⟨3, ![1536, 8, 128]⟩
abbrev S1x128x1536 : Shape := ⟨3, ![1, 128, 1536]⟩
abbrev S1x128x128 : Shape := ⟨3, ![1, 128, 128]⟩
abbrev S1x128x1024 : Shape := ⟨3, ![1, 128, 1024]⟩
abbrev S256x128 : Shape := ⟨2, ![256, 128]⟩
abbrev S1x3x1536 : Shape := ⟨3, ![1, 3, 1536]⟩
abbrev S1x16x64x128 : Shape := ⟨4, ![1, 16, 64, 128]⟩
abbrev S12x8x128 : Shape := ⟨3, ![12, 8, 128]⟩
abbrev S136x1536 : Shape := ⟨2, ![136, 1536]⟩
abbrev S2x12x128x8x128 : Shape := ⟨5, ![2, 12, 128, 8, 128]⟩
abbrev S2 : Shape := ⟨1, ![2]⟩
abbrev S1 : Shape := ⟨1, ![1]⟩
abbrev S_ : Shape := ⟨0, ![]⟩
abbrev S1x12x128x8x128 : Shape := ⟨5, ![1, 12, 128, 8, 128]⟩
abbrev S12x128x8x128 : Shape := ⟨4, ![12, 128, 8, 128]⟩
abbrev S48x32x8x128 : Shape := ⟨4, ![48, 32, 8, 128]⟩
abbrev S48x8x128 : Shape := ⟨3, ![48, 8, 128]⟩
abbrev S12x4x8x128 : Shape := ⟨4, ![12, 4, 8, 128]⟩
abbrev S8x1536 : Shape := ⟨2, ![8, 1536]⟩
abbrev S16x64x128 : Shape := ⟨3, ![16, 64, 128]⟩
abbrev S128x1536 : Shape := ⟨2, ![128, 1536]⟩
abbrev S3x1536 : Shape := ⟨2, ![3, 1536]⟩
abbrev S128x128 : Shape := ⟨2, ![128, 128]⟩
abbrev S1x8x64x128 : Shape := ⟨4, ![1, 8, 64, 128]⟩
abbrev S8x64x128 : Shape := ⟨3, ![8, 64, 128]⟩
abbrev S512x128 : Shape := ⟨2, ![512, 128]⟩
abbrev S128x512 : Shape := ⟨2, ![128, 512]⟩
abbrev S128x1 : Shape := ⟨2, ![128, 1]⟩
abbrev S128x256 : Shape := ⟨2, ![128, 256]⟩
abbrev S1x1 : Shape := ⟨2, ![1, 1]⟩
abbrev S1x1x64x128 : Shape := ⟨4, ![1, 1, 64, 128]⟩
abbrev S64x128 : Shape := ⟨2, ![64, 128]⟩
abbrev S1x128x512 : Shape := ⟨3, ![1, 128, 512]⟩
abbrev S1x512 : Shape := ⟨2, ![1, 512]⟩
abbrev S128 : Shape := ⟨1, ![128]⟩

abbrev nBuf : Space → Nat
  | .hbm => 17
  | .vmem => 27
  | .smem => 0
  | _ => 0

abbrev bufTy : (tb : Table) → Fin (tcTables nBuf tb) → BufTy
  | .hbm, ⟨0, _⟩ => ⟨S8x2048x1536, .f32⟩
  | .hbm, ⟨1, _⟩ => ⟨S8x2048x128, .f32⟩
  | .hbm, ⟨2, _⟩ => ⟨S8x2048x1024, .f32⟩
  | .hbm, ⟨3, _⟩ => ⟨S4x1536, .f32⟩
  | .hbm, ⟨4, _⟩ => ⟨S1x1536, .f32⟩
  | .hbm, ⟨5, _⟩ => ⟨S1x128, .f32⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S128x1024, .f32⟩
  | .hbm, ⟨10, _⟩ => ⟨S2048x2048, .f32⟩
  | .hbm, ⟨11, _⟩ => ⟨S5120x128x8x128, .f32⟩
  | .hbm, ⟨12, _⟩ => ⟨S8x2048x1024, .bf16⟩
  | .hbm, ⟨13, _⟩ => ⟨S8x3x1536, .f32⟩
  | .hbm, ⟨14, _⟩ => ⟨S8x16x64x128, .f32⟩
  | .hbm, ⟨15, _⟩ => ⟨S1536x8x128, .f32⟩
  | .hbm, ⟨16, _⟩ => ⟨S2048x2048, .bf16⟩
  | .local _ .vmem, ⟨0, _⟩ => ⟨S1x128x1536, .f32⟩
  | .local _ .vmem, ⟨1, _⟩ => ⟨S1x128x1536, .f32⟩
  | .local _ .vmem, ⟨2, _⟩ => ⟨S1x128x128, .f32⟩
  | .local _ .vmem, ⟨3, _⟩ => ⟨S1x128x128, .f32⟩
  | .local _ .vmem, ⟨4, _⟩ => ⟨S1x128x1024, .f32⟩
  | .local _ .vmem, ⟨5, _⟩ => ⟨S1x128x1024, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S256x128, .f32⟩
  | .local _ .vmem, ⟨14, _⟩ => ⟨S256x128, .f32⟩
  | .local _ .vmem, ⟨15, _⟩ => ⟨S1x128x1024, .bf16⟩
  | .local _ .vmem, ⟨16, _⟩ => ⟨S1x128x1024, .bf16⟩
  | .local _ .vmem, ⟨17, _⟩ => ⟨S1x3x1536, .f32⟩
  | .local _ .vmem, ⟨18, _⟩ => ⟨S1x3x1536, .f32⟩
  | .local _ .vmem, ⟨19, _⟩ => ⟨S1x16x64x128, .f32⟩
  | .local _ .vmem, ⟨20, _⟩ => ⟨S1x16x64x128, .f32⟩
  | .local _ .vmem, ⟨21, _⟩ => ⟨S12x8x128, .f32⟩
  | .local _ .vmem, ⟨22, _⟩ => ⟨S12x8x128, .f32⟩
  | .local _ .vmem, ⟨23, _⟩ => ⟨S256x128, .bf16⟩
  | .local _ .vmem, ⟨24, _⟩ => ⟨S256x128, .bf16⟩
  | .local _ .vmem, ⟨25, _⟩ => ⟨S136x1536, .f32⟩
  | .local _ .vmem, ⟨26, _⟩ => ⟨S2x12x128x8x128, .f32⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 16], ![false, false]⟩

def k0_off1 (i : grid0.Coords) : Fin 1 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  ![v14.toNat]
def k0_off2 (i : grid0.Coords) : Fin 5 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_8 : BitVec 32 := 0#32
  let c0_i32_9 : BitVec 32 := 0#32
  let c0_i32_10 : BitVec 32 := 0#32
  let c0_i32_11 : BitVec 32 := 0#32
  ![v14.toNat, 0, 0, 0, 0]
def k0_off3 (i : grid0.Coords) : Fin 4 → Nat :=
  let c3584_i32 : BitVec 32 := 3584#32
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c12_i32 : BitVec 32 := 12#32
  let v18 : BitVec 32 := Scalar.muli v4 c12_i32
  let v19 : BitVec 32 := Scalar.addi c3584_i32 v18
  let c0_i32_12 : BitVec 32 := 0#32
  let c0_i32_13 : BitVec 32 := 0#32
  let c0_i32_14 : BitVec 32 := 0#32
  ![v19.toNat, 0, 0, 0]
def k0_cond2 (i : grid0.Coords) : BitVec 1 :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c1_i32_15 : BitVec 32 := 1#32
  let v25 : BitVec 32 := Scalar.addi v4 c1_i32_15
  let c128_i32 : BitVec 32 := 128#32
  let v26 : BitVec 1 := Scalar.cmpi .slt v25 c128_i32
  let v27 : BitVec 32 := Scalar.extui v26
  let c0_i32_16 : BitVec 32 := 0#32
  let v28 : BitVec 1 := Scalar.cmpi .ne v27 c0_i32_16
  v28

def k0_off4 (i : grid0.Coords) : Fin 1 → Nat :=
  let c1_i32_284 : BitVec 32 := 1#32
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v736 : BitVec 32 := Scalar.subi c1_i32_284 v14
  ![v736.toNat]
def k0_off5 (i : grid0.Coords) : Fin 5 → Nat :=
  let c1_i32_284 : BitVec 32 := 1#32
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v736 : BitVec 32 := Scalar.subi c1_i32_284 v14
  let c0_i32_287 : BitVec 32 := 0#32
  let c0_i32_288 : BitVec 32 := 0#32
  let c0_i32_289 : BitVec 32 := 0#32
  let c0_i32_290 : BitVec 32 := 0#32
  ![v736.toNat, 0, 0, 0, 0]
def k0_off6 (i : grid0.Coords) : Fin 4 → Nat :=
  let c3584_i32_286 : BitVec 32 := 3584#32
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c1_i32_283 : BitVec 32 := 1#32
  let v735 : BitVec 32 := Scalar.addi v4 c1_i32_283
  let c12_i32_285 : BitVec 32 := 12#32
  let v737 : BitVec 32 := Scalar.muli v735 c12_i32_285
  let v738 : BitVec 32 := Scalar.addi c3584_i32_286 v737
  let c0_i32_291 : BitVec 32 := 0#32
  let c0_i32_292 : BitVec 32 := 0#32
  let c0_i32_293 : BitVec 32 := 0#32
  ![v738.toNat, 0, 0, 0]
def k0_off7 (i : grid0.Coords) : Fin 5 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let v29 : Index := Scalar.indexCast v14
  let c0_17 : Index := 0#32
  let c0_18 : Index := 0#32
  let c0_19 : Index := 0#32
  let c0_20 : Index := 0#32
  ![v29.toNat, 0, 0, 0, 0]
def k0_cond4 (i : grid0.Coords) : BitVec 1 :=
  let arg1 : BitVec 32 := BitVec.ofNat 32 (i 1).val
  let c15_i32 : BitVec 32 := 15#32
  let v79 : BitVec 1 := Scalar.cmpi .eq arg1 c15_i32
  let v80 : BitVec 32 := Scalar.extui v79
  let c0_i32_48 : BitVec 32 := 0#32
  let v81 : BitVec 1 := Scalar.cmpi .ne v80 c0_i32_48
  v81

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S12x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== TailRefIdeal.lean ====
abbrev S8x2048x1536 : Shape := ⟨3, ![8, 2048, 1536]⟩
abbrev S8x2048x128 : Shape := ⟨3, ![8, 2048, 128]⟩
abbrev S8x2048x1024 : Shape := ⟨3, ![8, 2048, 1024]⟩
abbrev S4x1536 : Shape := ⟨2, ![4, 1536]⟩
abbrev S1x1536 : Shape := ⟨2, ![1, 1536]⟩
abbrev S1x128 : Shape := ⟨2, ![1, 128]⟩
abbrev S1x1024 : Shape := ⟨2, ![1, 1024]⟩
abbrev S128x1024 : Shape := ⟨2, ![128, 1024]⟩
abbrev S2048x2048 : Shape := ⟨2, ![2048, 2048]⟩
abbrev S5120x128x8x128 : Shape := ⟨4, ![5120, 128, 8, 128]⟩
abbrev S_ : Shape := ⟨0, ![]⟩
abbrev S8x3x1536 : Shape := ⟨3, ![8, 3, 1536]⟩
abbrev S8x2051x1536 : Shape := ⟨3, ![8, 2051, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S8x2048x128, .f32⟩
  | .hbm, ⟨2, _⟩ => ⟨S8x2048x1024, .f32⟩
  | .hbm, ⟨3, _⟩ => ⟨S4x1536, .f32⟩
  | .hbm, ⟨4, _⟩ => ⟨S1x1536, .f32⟩
  | .hbm, ⟨5, _⟩ => ⟨S1x128, .f32⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S128x1024, .f32⟩
  | .hbm, ⟨10, _⟩ => ⟨S2048x2048, .f32⟩
  | .hbm, ⟨11, _⟩ => ⟨S5120x128x8x128, .f32⟩
  | .hbm, ⟨12, _⟩ => ⟨S_, .f32⟩
  | .hbm, ⟨13, _⟩ => ⟨S8x3x1536, .f32⟩
  | .hbm, ⟨14, _⟩ => ⟨S8x2051x1536, .f32⟩
  | .hbm, ⟨15, _⟩ => ⟨S8x3x1536, .f32⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩

abbrev nD : Nat := 1
abbrev τ : Topo := Topo.v7x

variable {F : FTy → Type} [FloatOps F]
-- ==== Proof.Step.Body.lean ====
module

public import proofs.«01_k».proof.Proof.Gen.StepIdeal.Skeleton
public import Idealize.ShloMosaic.Lib.Pointwise
public import Idealize.ShloMosaic.Lib.Pipeline.ValueKit

/-! The decoding step of the recurrence, one sequence: its mathematics over the extended reals, and the vectors the
    kernel's body computes read at an index in these words. -/

@[expose] public section

set_option maxRecDepth 16384

noncomputable section

namespace Cert.StepSpec

open Idealize.ShloMosaic Idealize.ShloMosaic.TcCoe Idealize.SL.Sem

/-- The sigmoid-weighted value. -/
def silu (x : EReal) : EReal := x * Ideal.div 1 (1 + Ideal.exp (0 - x))

/-- The softplus in its stable form. -/
def sp (x : EReal) : EReal := max x 0 + Ideal.log1p (Ideal.exp (0 - FloatOps.absf (F := Ideal) (φ := .f32) x))

/-- What one sequence brings: the window of seven rows the convolution sees, the step sizes before their softplus, the
    gate and the state it starts from. -/
structure Row where
  w : Fin 7 → Fin 1536 → EReal
  dtr : Fin 4 → Fin 16 → EReal
  z : Fin 4 → Fin 1024 → EReal
  h0 : Fin 16 → Fin 64 → Fin 128 → EReal

/-- The layer's parameters. -/
structure Par where
  cw : Fin 4 → Fin 1536 → EReal
  cb : Fin 1536 → EReal
  bias : Fin 16 → EReal
  alog : Fin 16 → EReal
  dsk : Fin 16 → EReal
  sg : Fin 1024 → EReal

/-- Sequence `b` of the arrays, with the convolution's window put together: three rows of state, four of the new tokens. -/
def rowOf (X : Fin 32 → Fin 4 → Fin 1536 → EReal) (S : Fin 32 → Fin 3 → Fin 1536 → EReal) (T : Fin 32 → Fin 4 → Fin 16 → EReal)
    (Z : Fin 32 → Fin 4 → Fin 1024 → EReal) (H : Fin 32 → Fin 16 → Fin 64 → Fin 128 → EReal) (b : Fin 32) : Row where
  w k ch := if h : (k : ℕ) < 3 then S b ⟨k, h⟩ ch else X b ⟨k - 3, by omega⟩ ch
  dtr := T b
  z := Z b
  h0 := H b

variable (R : Row) (P : Par)

/-- The causal convolution of token `l` and its activation. -/
def act (l : Fin 4) (ch : Fin 1536) : EReal :=
  silu (P.cb ch + R.w ⟨l, by omega⟩ ch * P.cw 0 ch + R.w ⟨1 + l, by omega⟩ ch * P.cw 1 ch
    + R.w ⟨2 + l, by omega⟩ ch * P.cw 2 ch + R.w ⟨3 + l, by omega⟩ ch * P.cw 3 ch)

/-- The step size of token `l` in head `h`, and the logarithm of the decay it brings. -/
def dt (l : Fin 4) (h : Fin 16) : EReal := sp (R.dtr l h + P.bias h)
def da (l : Fin 4) (h : Fin 16) : EReal := dt R P l h * (0 - Ideal.exp (P.alog h))

/-- The logarithm of the decay since the start. -/
def cum (l : Fin 4) (h : Fin 16) : EReal :=
  ![da R P 0 h, da R P 0 h + da R P 1 h, da R P 0 h + da R P 1 h + da R P 2 h,
    da R P 0 h + da R P 1 h + da R P 2 h + da R P 3 h] l

/-- Coordinate `n` of token `l`'s input and output projections in group `g`. -/
def bm (g : Fin 2) (l : Fin 4) (n : Fin 128) : EReal := act R P l ⟨1024 + 128 * g + n, by omega⟩
def cm (g : Fin 2) (l : Fin 4) (n : Fin 128) : EReal := act R P l ⟨1280 + 128 * g + n, by omega⟩
def cbv (g : Fin 2) (l s : Fin 4) : EReal := ∑ n : Fin 128, cm R P g l n * bm R P g s n

/-- The group of a head, the head of a channel. -/
def grp (h : Fin 16) : Fin 2 := ⟨h / 8, by omega⟩
def head (c : Fin 1024) : Fin 16 := ⟨c / 64, by omega⟩
def pos (c : Fin 1024) : Fin 64 := ⟨c % 64, by omega⟩
def xs (l : Fin 4) (c : Fin 1024) : EReal := act R P l ⟨c, by omega⟩

/-- How much of token `s` token `l` sees in head `h`, and how much of it the last state keeps. -/
def coef (l s : Fin 4) (h : Fin 16) : EReal := cbv R P (grp h) l s * Ideal.exp (cum R P l h - cum R P s h) * dt R P s h
def keep (s : Fin 4) (h : Fin 16) : EReal := Ideal.exp (cum R P 3 h - cum R P s h) * dt R P s h

/-- The mixed token. -/
def ydiag (l : Fin 4) (c : Fin 1024) : EReal := ∑ s : Fin 4, if s ≤ l then coef R P l s (head c) * xs R P s c else 0
def yoff (l : Fin 4) (c : Fin 1024) : EReal := ∑ n : Fin 128, cm R P (grp (head c)) l n * R.h0 (head c) (pos c) n
def y (l : Fin 4) (c : Fin 1024) : EReal :=
  P.dsk (head c) * xs R P l c + ydiag R P l c + yoff R P l c * Ideal.exp (cum R P l (head c))

/-- The gated token, normalised over its group's 512 channels. -/
def yz (l : Fin 4) (c : Fin 1024) : EReal := y R P l c * silu (R.z l c)
def sn (l : Fin 4) (c : Fin 1024) : EReal :=
  yz R P l c * Ideal.rsqrt (Ideal.div (∑ k : Fin 512, yz R P l ⟨512 * (c / 512) + k, by omega⟩ * yz R P l ⟨512 * (c / 512) + k, by omega⟩)
    (Ideal.ofBits .f32 0x44000000#32) + Ideal.ofBits .f32 0x358637BD#32) * P.sg c

/-- The state after the four tokens. -/
def chan (h : Fin 16) (p : Fin 64) : Fin 1024 := ⟨64 * h + p, by omega⟩
def hlast (h : Fin 16) (p : Fin 64) (n : Fin 128) : EReal :=
  R.h0 h p n * Ideal.exp (cum R P 3 h) + ∑ s : Fin 4, xs R P s (chan h p) * keep R P s h * bm R P (grp h) s n

/-- A sum against a unit vector is one term. -/
theorem sum_pick {N : ℕ} (f e : Fin N → EReal) (n : ℕ) (hn : n < N) (he : ∀ k : Fin N, e k = if (k : ℕ) = n then 1 else 0) :
    ∑ k : Fin N, f k * e k = f ⟨n, hn⟩ := by
  rw [Finset.sum_eq_single ⟨n, hn⟩]
  · rw [he, if_pos rfl, mul_one]
  · intro b _ hb
    rw [he, if_neg (fun h => hb (Fin.ext h)), mul_zero]
  · exact fun h => absurd (Finset.mem_univ _) h

/-- The lane masks of the two groups. -/
theorem lane_hi : ∀ n : Fin 16, IntOp.andi (IntOp.cmpi .sge (BitVec.ofNat 32 n) 8#32) (IntOp.cmpi .slt (BitVec.ofNat 32 n) 16#32)
    = if (n : ℕ) < 8 then 0#1 else 1#1 := by decide
theorem lane_lo : ∀ n : Fin 16, IntOp.andi (IntOp.cmpi .sge (BitVec.ofNat 32 n) 0#32) (IntOp.cmpi .slt (BitVec.ofNat 32 n) 8#32)
    = if (n : ℕ) < 8 then 1#1 else 0#1 := by decide

/-- What the two masks select in lane `h`: the value of the head's group. -/
theorem sel_grp (h : Fin 16) (a b : EReal) (f : Fin 2 → EReal) (ha : a = f 1) (hb : b = f 0) :
    Scalar.select (IntOp.andi (IntOp.cmpi .sge (BitVec.ofNat 32 h) 8#32) (IntOp.cmpi .slt (BitVec.ofNat 32 h) 16#32)) a
      (Scalar.select (IntOp.andi (IntOp.cmpi .sge (BitVec.ofNat 32 h) 0#32) (IntOp.cmpi .slt (BitVec.ofNat 32 h) 8#32)) b (0 : EReal))
      = f (grp h) := by
  rw [lane_hi, lane_lo, ha, hb]
  by_cases hh : (h : ℕ) < 8
  · rw [if_pos hh, if_pos hh]
    exact congrArg f (Fin.ext (by simp only [grp, Fin.val_zero]; omega))
  · rw [if_neg hh, if_neg hh]
    exact congrArg f (Fin.ext (by simp only [grp, Fin.val_one]; omega))

end Cert.StepSpec

namespace Cert.StepIdeal.Body

open Idealize.ShloMosaic Idealize.ShloMosaic.TcCoe Idealize.SL.Sem
open Cert.StepIdeal Cert.StepIdeal.Gen Cert.StepSpec

/-- The lane number. -/
abbrev V73 : IVec S1x128 32 := iota .tc S1x128 32 [1] iota_S1x128_d1_w32

/-- The running sums of the decays' logarithms. -/
def C0 (x2 : Vec Ideal S1x4x128 .f32) (x7 x8 : Vec Ideal S1x128 .f32) : FVec Ideal S1x128 .f32 := k0_pay9 x2 x7 x8
def C1 (x2 : Vec Ideal S1x4x128 .f32) (x7 x8 : Vec Ideal S1x128 .f32) : FVec Ideal S1x128 .f32 := k0_pay10 x2 x7 x8
def C2 (x2 : Vec Ideal S1x4x128 .f32) (x7 x8 : Vec Ideal S1x128 .f32) : FVec Ideal S1x128 .f32 := k0_pay12 (C1 x2 x7 x8) (k0_pay11 x2 x7 x8)
def C3 (x2 : Vec Ideal S1x4x128 .f32) (x7 x8 : Vec Ideal S1x128 .f32) : FVec Ideal S1x128 .f32 :=
  k0_pay13 (k0_pay8 x2 x7 x8) (C1 x2 x7 x8) (k0_pay11 x2 x7 x8)

/-- The twenty-four rows the kernel spreads over the channels with one product. -/
def RX (A : FVec Ideal S4x1536 .f32) (D : FVec Ideal S4x128 .f32) (c0 c1 c2 c3 : FVec Ideal S1x128 .f32) (x11 : Vec Ideal S128x1024 .f32) :
    FVec Ideal S24x1024 .f32 :=
  k0_pay43 D c0 c1 c2 c3 V73 (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11

/-- Those rows, as numbers. -/
def rowVal (K : Fin 4 → Fin 4 → EReal) (D C : Fin 4 → EReal) : Fin 24 → EReal :=
  ![K 0 0 * Ideal.exp (C 0 - C 0) * D 0, K 1 0 * Ideal.exp (C 1 - C 0) * D 0, K 1 1 * Ideal.exp (C 1 - C 1) * D 1,
    K 2 0 * Ideal.exp (C 2 - C 0) * D 0, K 2 1 * Ideal.exp (C 2 - C 1) * D 1, K 2 2 * Ideal.exp (C 2 - C 2) * D 2,
    K 3 0 * Ideal.exp (C 3 - C 0) * D 0, K 3 1 * Ideal.exp (C 3 - C 1) * D 1, K 3 2 * Ideal.exp (C 3 - C 2) * D 2,
    K 3 3 * Ideal.exp (C 3 - C 3) * D 3,
    Ideal.exp (C 0), Ideal.exp (C 1), Ideal.exp (C 2), Ideal.exp (C 3),
    Ideal.exp (C 3 - C 0) * D 0, Ideal.exp (C 3 - C 1) * D 1, Ideal.exp (C 3 - C 2) * D 2, Ideal.exp (C 3 - C 3) * D 3,
    0, 0, 0, 0, 0, 0]

section
variable (A : FVec Ideal S4x1536 .f32) (D : FVec Ideal S4x128 .f32) (c0 c1 c2 c3 : FVec Ideal S1x128 .f32) (x11 : Vec Ideal S128x1024 .f32)

/-- The products of two tokens' projections in group `g`. -/
def cbA (g : Fin 2) (l s : Fin 4) : EReal :=
  ∑ n : Fin 128, A (ix2 l ⟨1280 + 128 * g + n, by omega⟩) * A (ix2 s ⟨1024 + 128 * g + n, by omega⟩)

theorem cb0_at (l s : Fin 4) : k0_pay18 A (ix2 ⟨l, by omega⟩ ⟨s, by omega⟩) = cbA A 0 l s := by
  pointwise [k0_pay18, k0_pay16, k0_pay17, k0_pay15, cbA]

theorem cb1_at (l s : Fin 4) : k0_pay21 A (ix2 ⟨l, by omega⟩ ⟨s, by omega⟩) = cbA A 1 l s := by
  pointwise [k0_pay21, k0_pay19, k0_pay20, k0_pay15, cbA]

variable (h : Fin 16)

/-- One row: the product of the projections in the head's group, the decay between the two tokens, the step size. -/
def prow (l s : Fin 4) (cl cs : FVec Ideal S1x128 .f32) : EReal :=
  cbA A (grp h) l s * Ideal.exp (cl (ix2 0 ⟨h, by omega⟩) - cs (ix2 0 ⟨h, by omega⟩)) * D (ix2 s ⟨h, by omega⟩)

theorem p00 : k0_pay22 A D c0 (ix2 0 ⟨h, by omega⟩) = prow A D h 0 0 c0 c0 := by
  pointwise [k0_pay22, V73, prow]
  exact congrArg₂ (· * ·) (congrArg₂ (· * ·) (sel_grp h _ _ (fun g => cbA A g 0 0) (cb1_at A 0 0) (cb0_at A 0 0)) rfl) rfl

theorem p10 : k0_pay26 D c0 c1 V73 (k0_pay18 A) (k0_pay21 A) k0_pay23 k0_pay24 k0_pay25 (ix2 0 ⟨h, by omega⟩) = prow A D h 1 0 c1 c0 := by
  pointwise [k0_pay26, k0_pay23, k0_pay24, k0_pay25, V73, prow]
  exact congrArg₂ (· * ·) (congrArg₂ (· * ·) (sel_grp h _ _ (fun g => cbA A g 1 0) (cb1_at A 1 0) (cb0_at A 1 0)) rfl) rfl

theorem p11 : k0_pay27 D c1 V73 (k0_pay18 A) (k0_pay21 A) (ix2 0 ⟨h, by omega⟩) = prow A D h 1 1 c1 c1 := by
  pointwise [k0_pay27, V73, prow]
  exact congrArg₂ (· * ·) (congrArg₂ (· * ·) (sel_grp h _ _ (fun g => cbA A g 1 1) (cb1_at A 1 1) (cb0_at A 1 1)) rfl) rfl

theorem p20 : k0_pay31 D c0 c2 V73 (k0_pay21 A) k0_pay28 (k0_pay29 V73) (k0_pay30 (k0_pay18 A)) (ix2 0 ⟨h, by omega⟩) = prow A D h 2 0 c2 c0 := by
  pointwise [k0_pay31, k0_pay28, k0_pay29, k0_pay30, V73, prow]
  exact congrArg₂ (· * ·) (congrArg₂ (· * ·) (sel_grp h _ _ (fun g => cbA A g 2 0) (cb1_at A 2 0) (cb0_at A 2 0)) rfl) rfl

theorem p21 : k0_pay32 D c1 c2 V73 (k0_pay18 A) (k0_pay21 A) (ix2 0 ⟨h, by omega⟩) = prow A D h 2 1 c2 c1 := by
  pointwise [k0_pay32, V73, prow]
  exact congrArg₂ (· * ·) (congrArg₂ (· * ·) (sel_grp h _ _ (fun g => cbA A g 2 1) (cb1_at A 2 1) (cb0_at A 2 1)) rfl) rfl

theorem p22 : k0_pay36 D c2 V73 (k0_pay21 A) k0_pay33 (k0_pay34 V73) (k0_pay35 (k0_pay18 A)) (ix2 0 ⟨h, by omega⟩) = prow A D h 2 2 c2 c2 := by
  pointwise [k0_pay36, k0_pay33, k0_pay34, k0_pay35, V73, prow]
  exact congrArg₂ (· * ·) (congrArg₂ (· * ·) (sel_grp h _ _ (fun g => cbA A g 2 2) (cb1_at A 2 2) (cb0_at A 2 2)) rfl) rfl

theorem p30 : k0_pay37 D c0 c3 V73 (k0_pay18 A) (k0_pay21 A) (ix2 0 ⟨h, by omega⟩) = prow A D h 3 0 c3 c0 := by
  pointwise [k0_pay37, V73, prow]
  exact congrArg₂ (· * ·) (congrArg₂ (· * ·) (sel_grp h _ _ (fun g => cbA A g 3 0) (cb1_at A 3 0) (cb0_at A 3 0)) rfl) rfl

theorem p31 : k0_pay39 D c1 c3 V73 (k0_pay21 A) (k0_pay38 V73 (k0_pay18 A)) 8#32 (ix2 0 ⟨h, by omega⟩) = prow A D h 3 1 c3 c1 := by
  pointwise [k0_pay39, k0_pay38, V73, prow]
  exact congrArg₂ (· * ·) (congrArg₂ (· * ·) (sel_grp h _ _ (fun g => cbA A g 3 1) (cb1_at A 3 1) (cb0_at A 3 1)) rfl) rfl

theorem p32 : k0_pay40 D c2 c3 V73 (k0_pay18 A) (k0_pay21 A) (ix2 0 ⟨h, by omega⟩) = prow A D h 3 2 c3 c2 := by
  pointwise [k0_pay40, V73, prow]
  exact congrArg₂ (· * ·) (congrArg₂ (· * ·) (sel_grp h _ _ (fun g => cbA A g 3 2) (cb1_at A 3 2) (cb0_at A 3 2)) rfl) rfl

theorem p33 : Scalar.select (IntOp.andi (k0_pay42 V73 (ix2 0 ⟨h, by omega⟩)) (IntOp.cmpi .slt (BitVec.ofNat 32 h) 16#32))
    (k0_pay21 A (ix2 3 3)) (k0_pay41 V73 (k0_pay18 A) (ix2 0 ⟨h, by omega⟩)) = cbA A (grp h) 3 3 := by
  pointwise [k0_pay42, k0_pay41, V73]
  exact sel_grp h _ _ (fun g => cbA A g 3 3) (cb1_at A 3 3) (cb0_at A 3 3)

theorem rx_at (hE : ∀ (k : Fin 128) (c : Fin 1024), x11 (ix2 k c) = if (k : ℕ) = (c : ℕ) / 64 then (1 : EReal) else 0) (r : Fin 24) (c : Fin 1024) :
    RX A D c0 c1 c2 c3 x11 (ix2 r c)
      = rowVal (cbA A (grp (head c))) (fun l => D (ix2 l ⟨head c, by omega⟩)) (fun l => ![c0, c1, c2, c3] l (ix2 0 ⟨head c, by omega⟩)) r := by
  pointwise [RX, k0_pay43]
  rw [sum_pick _ _ _ (by omega) (fun k => hE k c)]
  have q00 := p00 A D c0 (head c)
  have q10 := p10 A D c0 c1 (head c)
  have q11 := p11 A D c1 (head c)
  have q20 := p20 A D c0 c2 (head c)
  have q21 := p21 A D c1 c2 (head c)
  have q22 := p22 A D c2 (head c)
  have q30 := p30 A D c0 c3 (head c)
  have q31 := p31 A D c1 c3 (head c)
  have q32 := p32 A D c2 c3 (head c)
  obtain ⟨r, hr⟩ := r
  interval_cases r
  all_goals simp only [Nat.reduceSub, Nat.reduceLT, ↓reduceDIte]
  · exact q00
  · exact q10
  · exact q11
  · exact q20
  · exact q21
  · exact q22
  · exact q30
  · exact q31
  · exact q32
  · exact congrArg₂ (· * ·) (congrArg₂ (· * ·) (p33 A (head c)) rfl) rfl
  all_goals rfl
end

end Cert.StepIdeal.Body
-- ==== Proof.Step.Body2.lean ====
module

public import proofs.«01_k».proof.Proof.Step.Body

/-! The stages of the kernel's body after the convolution: step sizes, decays, the mixed token, its norm, the state. -/

@[expose] public section

set_option maxRecDepth 16384

noncomputable section

namespace Cert.StepIdeal.Body

open Idealize.ShloMosaic Idealize.ShloMosaic.TcCoe Idealize.SL.Sem
open Cert.StepIdeal Cert.StepIdeal.Gen Cert.StepSpec

variable (R : Row) (P : Par)

/-- The convolution's window: what the two stores leave in the scratch rows. -/
def scr (x0 : Vec Ideal S1x4x1536 .f32) (x1 : Vec Ideal S1x3x1536 .f32) (i n : ℕ)
    (hi : ∀ a, (![i, 0] : Fin 2 → ℕ) a + (![n, 1536] : Fin 2 → ℕ) a ≤ S16x1536.size a) : Vec Ideal (⟨2, ![n, 1536]⟩ : Shape) .f32 :=
  (View.whole cc0_scratch0).readCov (Val := Elt Ideal) [⟨Rect.unit ![3, 0] ![4, 1536] inb_S16x1536_S4x1536_3_0, k0_pay3 x0⟩,
    ⟨Rect.unit ![0, 0] ![3, 1536] inb_S16x1536_S3x1536_0_0, k0_pay2 x1⟩]
    (Rect.unit (s := S16x1536) ![i, 0] ![n, 1536] hi).toLoadRect

/-- The activated convolution, as the body computes it from its blocks. -/
def ACT (x0 : Vec Ideal S1x4x1536 .f32) (x1 : Vec Ideal S1x3x1536 .f32) (x5 : Vec Ideal S4x1536 .f32) (x6 : Vec Ideal S1x1536 .f32) :
    FVec Ideal S4x1536 .f32 :=
  k0_pay5
    (k0_pay4 x6 (scr x0 x1 0 4 inb_S16x1536_S4x1536_0_0)
      (View.ld x5 (Rect.unit ![0, 0] ![1, 1536] inb_S4x1536_S1x1536_0_0))
      (scr x0 x1 1 4 inb_S16x1536_S4x1536_1_0)
      (View.ld x5 (Rect.unit ![1, 0] ![1, 1536] inb_S4x1536_S1x1536_1_0))
      (scr x0 x1 2 4 inb_S16x1536_S4x1536_2_0)
      (View.ld x5 (Rect.unit ![2, 0] ![1, 1536] inb_S4x1536_S1x1536_2_0)))
    (scr x0 x1 3 4 inb_S16x1536_S4x1536_3_0)
    (View.ld x5 (Rect.unit ![3, 0] ![1, 1536] inb_S4x1536_S1x1536_3_0))

/-- The convolution's operands. -/
structure Conv (x0 : Vec Ideal S1x4x1536 .f32) (x1 : Vec Ideal S1x3x1536 .f32) (x5 : Vec Ideal S4x1536 .f32) (x6 : Vec Ideal S1x1536 .f32) : Prop where
  x : ∀ (l : Fin 4) ch, x0 (ix3 0 l ch) = R.w ⟨3 + l, by omega⟩ ch
  s : ∀ (k : Fin 3) ch, x1 (ix3 0 k ch) = R.w ⟨k, by omega⟩ ch
  w : ∀ (k : Fin 4) ch, x5 (ix2 k ch) = P.cw k ch
  b : ∀ ch, x6 (ix2 0 ch) = P.cb ch

section
variable {R P}
variable {x0 : Vec Ideal S1x4x1536 .f32} {x1 : Vec Ideal S1x3x1536 .f32} {x5 : Vec Ideal S4x1536 .f32} {x6 : Vec Ideal S1x1536 .f32} (K : Conv R P x0 x1 x5 x6)
include K

theorem scr_row (r : Fin 16) (hr : (r : ℕ) < 7) (ch : Fin 1536) :
    View.canon (Val := Elt Ideal) (e := .f32) [⟨Rect.unit (s := S16x1536) ![3, 0] ![4, 1536] inb_S16x1536_S4x1536_3_0, k0_pay3 x0⟩,
      ⟨Rect.unit ![0, 0] ![3, 1536] inb_S16x1536_S3x1536_0_0, k0_pay2 x1⟩] (ix2 r ch) = R.w ⟨r, hr⟩ ch := by
  have e0 := K.x
  have e1 := K.s
  have hc : ∃ p ∈ ([⟨Rect.unit (s := S16x1536) ![3, 0] ![4, 1536] inb_S16x1536_S4x1536_3_0, k0_pay3 x0⟩,
      ⟨Rect.unit ![0, 0] ![3, 1536] inb_S16x1536_S3x1536_0_0, k0_pay2 x1⟩] : List (View.Piece (Elt Ideal) S16x1536 .f32)), ix2 r ch ∈ p.1.set := by
    by_cases h3 : 3 ≤ (r : ℕ)
    · refine ⟨⟨Rect.unit (s := S16x1536) ![3, 0] ![4, 1536] inb_S16x1536_S4x1536_3_0, k0_pay3 x0⟩, List.mem_cons_self, (Rect.mem_set_unit (inb := inb_S16x1536_S4x1536_3_0)).mpr fun a => ?_⟩
      have := ch.2
      match a with
      | ⟨0, _⟩ => exact ⟨h3, by change (r : ℕ) < 3 + 4; omega⟩
      | ⟨1, _⟩ => exact ⟨Nat.zero_le _, by change (ch : ℕ) < 0 + 1536; omega⟩
    · refine ⟨⟨Rect.unit (s := S16x1536) ![0, 0] ![3, 1536] inb_S16x1536_S3x1536_0_0, k0_pay2 x1⟩, List.mem_cons_of_mem _ List.mem_cons_self, (Rect.mem_set_unit (inb := inb_S16x1536_S3x1536_0_0)).mpr fun a => ?_⟩
      have := ch.2
      match a with
      | ⟨0, _⟩ => exact ⟨Nat.zero_le _, by change (r : ℕ) < 0 + 3; omega⟩
      | ⟨1, _⟩ => exact ⟨Nat.zero_le _, by change (ch : ℕ) < 0 + 1536; omega⟩
  canon_tiles x h using hc
  all_goals simp only [ix2] at h0 h1
  · pointwise [k0_pay3]
    exact (e0 (x 0) (x 1)).trans (congrArg₂ R.w (Fin.ext h0.symm) (Fin.ext h1.symm))
  · pointwise [k0_pay2]
    exact (e1 (x 0) (x 1)).trans (congrArg₂ R.w (Fin.ext h0.symm) (Fin.ext h1.symm))

theorem scr_at (i : ℕ) (n : ℕ) (hi : ∀ a, (![i, 0] : Fin 2 → ℕ) a + (![n, 1536] : Fin 2 → ℕ) a ≤ S16x1536.size a) (hn : i + n ≤ 7) (l : Fin n) (ch : Fin 1536) :
    scr x0 x1 i n hi (ix2 l ch) = R.w ⟨i + l, by omega⟩ ch := by
  unfold scr
  rw [View.readCov_eq_canon']
  refine Eq.trans (congrArg _ ?_) (scr_row K ⟨i + l, by omega⟩ (by simp only; omega) ch)
  refine (eq_ix2 _).trans (congrArg₂ ix2 (Fin.ext ?_) (Fin.ext ?_))
  · change i + 1 * (l : ℕ) = i + l
    omega
  · change 0 + 1 * (ch : ℕ) = ch
    omega

theorem act_at (l : Fin 4) (ch : Fin 1536) : ACT x0 x1 x5 x6 (ix2 l ch) = act R P l ch := by
  have e0 := scr_at K 0 4 inb_S16x1536_S4x1536_0_0 (by omega) l ch
  have e1 := scr_at K 1 4 inb_S16x1536_S4x1536_1_0 (by omega) l ch
  have e2 := scr_at K 2 4 inb_S16x1536_S4x1536_2_0 (by omega) l ch
  have e3 := scr_at K 3 4 inb_S16x1536_S4x1536_3_0 (by omega) l ch
  have w := K.w
  have b := K.b
  pointwise [ACT, k0_pay5, k0_pay4, act, silu]
  simp only [e0, e1, e2, e3, w, b, Nat.zero_add]
end

/-- The step sizes and the parameters of the heads, in the first sixteen lanes. -/
structure Heads (x2 : Vec Ideal S1x4x128 .f32) (x7 x8 : Vec Ideal S1x128 .f32) : Prop where
  d : ∀ (l : Fin 4) (h : Fin 16), x2 (ix3 0 l ⟨h, by omega⟩) = R.dtr l h
  b : ∀ h : Fin 16, x7 (ix2 0 ⟨h, by omega⟩) = P.bias h
  a : ∀ h : Fin 16, x8 (ix2 0 ⟨h, by omega⟩) = P.alog h

section
variable {R P}
variable {x2 : Vec Ideal S1x4x128 .f32} {x7 x8 : Vec Ideal S1x128 .f32} (H : Heads R P x2 x7 x8)
include H

theorem dt_at (l : Fin 4) (h : Fin 16) : k0_pay7 x2 x7 (ix2 l ⟨h, by omega⟩) = dt R P l h := by
  have e1 := H.d l h
  have e2 := H.b h
  pointwise [k0_pay7, dt, sp]
  rw [e1, e2]

theorem da_at (l : Fin 4) (h : Fin 16) : k0_pay8 x2 x7 x8 (ix2 l ⟨h, by omega⟩) = da R P l h := by
  have e1 := dt_at H l h
  have e2 := H.a h
  pointwise [k0_pay8, da]
  rw [e1, e2]

theorem cum_at (l : Fin 4) (h : Fin 16) :
    (![C0 x2 x7 x8, C1 x2 x7 x8, C2 x2 x7 x8, C3 x2 x7 x8] : Fin 4 → FVec Ideal S1x128 .f32) l (ix2 0 ⟨h, by omega⟩) = cum R P l h := by
  have e0 := da_at H 0 h
  have e1 := da_at H 1 h
  have e2 := da_at H 2 h
  have e3 := da_at H 3 h
  obtain ⟨l, hl⟩ := l
  interval_cases l
  · change C0 x2 x7 x8 _ = da R P 0 h
    pointwise [C0, k0_pay9]
    exact e0
  · change C1 x2 x7 x8 _ = da R P 0 h + da R P 1 h
    pointwise [C1, k0_pay10, k0_pay9]
    exact congrArg₂ (· + ·) e0 e1
  · change C2 x2 x7 x8 _ = da R P 0 h + da R P 1 h + da R P 2 h
    pointwise [C2, C1, k0_pay12, k0_pay11, k0_pay10, k0_pay9]
    exact congrArg₂ (· + ·) (congrArg₂ (· + ·) e0 e1) e2
  · change C3 x2 x7 x8 _ = da R P 0 h + da R P 1 h + da R P 2 h + da R P 3 h
    pointwise [C3, C1, k0_pay13, k0_pay12, k0_pay11, k0_pay10, k0_pay9]
    exact congrArg₂ (· + ·) (congrArg₂ (· + ·) (congrArg₂ (· + ·) e0 e1) e2) e3
end

/-- The rows spread over the channels, in the layer's words. -/
def Spread (E : FVec Ideal S24x1024 .f32) : Prop :=
  ∀ (r : Fin 24) (c : Fin 1024), E (ix2 r c)
    = rowVal (cbv R P (grp (head c))) (fun l => dt R P l (head c)) (fun l => cum R P l (head c)) r

/-- What a token sees, from those rows. -/
theorem diag_row {E : FVec Ideal S24x1024 .f32} (hX : Spread R P E) (c : Fin 1024) :
    ydiag R P 0 c = E (ix2 0 c) * xs R P 0 c
    ∧ ydiag R P 1 c = E (ix2 1 c) * xs R P 0 c + E (ix2 2 c) * xs R P 1 c
    ∧ ydiag R P 2 c = E (ix2 3 c) * xs R P 0 c + E (ix2 4 c) * xs R P 1 c + E (ix2 5 c) * xs R P 2 c
    ∧ ydiag R P 3 c = E (ix2 6 c) * xs R P 0 c + E (ix2 7 c) * xs R P 1 c + E (ix2 8 c) * xs R P 2 c + E (ix2 9 c) * xs R P 3 c := by
  refine ⟨?_, ?_, ?_, ?_⟩
  all_goals
    simp only [ydiag, Fin.sum_univ_four, hX _ c, Fin.reduceLE, ↓reduceIte, add_zero]
    rfl

variable {A : FVec Ideal S4x1536 .f32} (hA : ∀ l ch, A (ix2 l ch) = act R P l ch)

section
include hA
theorem cbA_eq (g : Fin 2) (l s : Fin 4) : cbA A g l s = cbv R P g l s := by
  unfold cbA cbv cm bm
  simp only [hA]

theorem spread {x2 : Vec Ideal S1x4x128 .f32} {x7 x8 : Vec Ideal S1x128 .f32} (H : Heads R P x2 x7 x8) {x11 : Vec Ideal S128x1024 .f32}
    (hE : ∀ (k : Fin 128) (c : Fin 1024), x11 (ix2 k c) = if (k : ℕ) = (c : ℕ) / 64 then (1 : EReal) else 0) :
    Spread R P (RX A (k0_pay7 x2 x7) (C0 x2 x7 x8) (C1 x2 x7 x8) (C2 x2 x7 x8) (C3 x2 x7 x8) x11) := by
  intro r c
  rw [rx_at A _ _ _ _ _ x11 hE r c]
  have k : cbA A (grp (head c)) = cbv R P (grp (head c)) := funext fun l => funext fun s => cbA_eq R P hA _ l s
  have d : (fun l : Fin 4 => k0_pay7 x2 x7 (ix2 l ⟨head c, by omega⟩)) = fun l => dt R P l (head c) := funext fun l => dt_at H l (head c)
  have cc := funext fun l => cum_at H l (head c)
  rw [k, d]
  exact congrArg (fun f => rowVal _ _ f r) cc
end

section
variable (D : FVec Ideal S4x128 .f32) (c0 c1 c2 c3 : FVec Ideal S1x128 .f32) (x9 : Vec Ideal S1x1024 .f32) (x11 : Vec Ideal S128x1024 .f32)

/-- The token's own share and what it sees of the tokens up to it. -/
def YD (A : FVec Ideal S4x1536 .f32) : FVec Ideal S4x1024 .f32 :=
  k0_pay47 (k0_pay14 A) (RX A D c0 c1 c2 c3 x11)
    (k0_pay44 D c0 c1 c2 c3 V73 (k0_pay14 A) (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11)
    (k0_pay45 D c0 c1 c2 c3 V73 (k0_pay14 A) (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11)
    k0_pay46 x9

include hA
theorem yd_at (hX : Spread R P (RX A D c0 c1 c2 c3 x11)) (h9 : ∀ c : Fin 1024, x9 (ix2 0 c) = P.dsk (head c)) (l : Fin 4) (c : Fin 1024) :
    YD D c0 c1 c2 c3 x9 x11 A (ix2 l c) = P.dsk (head c) * xs R P l c + ydiag R P l c := by
  have e : k0_pay43 D c0 c1 c2 c3 V73 (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11 = RX A D c0 c1 c2 c3 x11 := rfl
  unfold YD k0_pay44 k0_pay45
  rw [e]
  generalize RX A D c0 c1 c2 c3 x11 = E at hX
  pointwise [k0_pay47, k0_pay46, k0_pay14]
  simp only [h9, hA]
  obtain ⟨l, hl⟩ := l
  interval_cases l
  all_goals simp only [Nat.reduceSub, Nat.reduceLT, ↓reduceDIte]
  · exact congrArg (P.dsk (head c) * xs R P 0 c + ·) (diag_row R P hX c).1.symm
  · exact congrArg (P.dsk (head c) * xs R P 1 c + ·) (diag_row R P hX c).2.1.symm
  · exact congrArg (P.dsk (head c) * xs R P 2 c + ·) (diag_row R P hX c).2.2.1.symm
  · exact congrArg (P.dsk (head c) * xs R P 3 c + ·) (diag_row R P hX c).2.2.2.symm

variable {x40 x41 : Vec Ideal S1x8x64x128 .f32}

theorem off0_at (h4 : ∀ (e : Fin 8) p n, x40 (ix4 0 e p n) = R.h0 ⟨e, by omega⟩ p n) (l : Fin 4) (j : Fin 512) :
    k0_pay48 (k0_pay17 A) x40 (ix2 l j) = yoff R P l ⟨j, by omega⟩ := by
  pointwise [k0_pay48, k0_pay17, k0_pay15, yoff, cm]
  simp only [h4, hA]
  refine Finset.sum_congr rfl fun x _ => congrArg₂ (· * ·) (congrArg (act R P l) (Fin.ext ?_)) rfl
  simp only [grp, head]
  omega

theorem off1_at (h4 : ∀ (e : Fin 8) p n, x41 (ix4 0 e p n) = R.h0 ⟨8 + e, by omega⟩ p n) (l : Fin 4) (j : Fin 512) :
    k0_pay49 (k0_pay20 A) x41 (ix2 l j) = yoff R P l ⟨512 + j, by omega⟩ := by
  pointwise [k0_pay49, k0_pay20, k0_pay15, yoff, cm]
  simp only [h4, hA]
  have e1 : head ⟨512 + j, by omega⟩ = ⟨8 + j / 64, by omega⟩ := Fin.ext (by simp only [head]; omega)
  have e2 : pos ⟨512 + j, by omega⟩ = ⟨j % 64, by omega⟩ := Fin.ext (by simp only [pos]; omega)
  rw [e1, e2]
  refine Finset.sum_congr rfl fun x _ => congrArg₂ (· * ·) (congrArg (act R P l) (Fin.ext ?_)) rfl
  simp only [grp]
  omega
end

section
variable {E : FVec Ideal S24x1024 .f32} {Y : FVec Ideal S4x1024 .f32} {f0 f1 : FVec Ideal S4x512 .f32}
variable (hX : Spread R P E) (hY : ∀ l c, Y (ix2 l c) = P.dsk (head c) * xs R P l c + ydiag R P l c)
variable (h0 : ∀ (l : Fin 4) (j : Fin 512), f0 (ix2 l j) = yoff R P l ⟨j, by omega⟩)
variable (h1 : ∀ (l : Fin 4) (j : Fin 512), f1 (ix2 l j) = yoff R P l ⟨512 + j, by omega⟩)
include hX hY h0 h1

theorem y_at (l : Fin 4) (c : Fin 1024) : k0_pay50 E Y f0 f1 (ix2 l c) = y R P l c := by
  have e : E (ix2 ⟨10 + l, by omega⟩ c) = Ideal.exp (cum R P l (head c)) := by
    rw [hX]
    obtain ⟨l, hl⟩ := l
    interval_cases l <;> rfl
  pointwise [k0_pay50, y]
  have f : (if h : (c : ℕ) < 512 then f0 (ix2 l ⟨c, by omega⟩) else f1 (ix2 l ⟨c - 512, by omega⟩)) = yoff R P l c := by
    split
    · rw [h0]
    · rw [h1]
      exact congrArg (yoff R P l) (Fin.ext (by simp only; omega))
  rw [hY, e]
  exact congrArg (_ + · * _) f

variable {z0 z1 : Vec Ideal S1x4x512 .f32} {g0 g1 : Vec Ideal S1x512 .f32}

theorem sn0_at (hz : ∀ (l : Fin 4) (j : Fin 512), z0 (ix3 0 l j) = R.z l ⟨j, by omega⟩) (hg : ∀ j : Fin 512, g0 (ix2 0 j) = P.sg ⟨j, by omega⟩)
    (l : Fin 4) (j : Fin 512) : k0_pay51 E Y f0 f1 z0 g0 (ix3 0 l j) = sn R P l ⟨j, by omega⟩ := by
  have e := y_at R P hX hY h0 h1
  generalize hS : k0_pay50 E Y f0 f1 = S at e
  pointwise [k0_pay51, hS, sn, yz, silu]
  simp only [hz, hg, e]
  have i : ∀ k : Fin 512, (⟨512 * ((j : ℕ) / 512) + k, by omega⟩ : Fin 1024) = ⟨k, by omega⟩ := fun k => Fin.ext (by simp only; omega)
  simp only [i]

theorem sn1_at (hz : ∀ (l : Fin 4) (j : Fin 512), z1 (ix3 0 l j) = R.z l ⟨512 + j, by omega⟩) (hg : ∀ j : Fin 512, g1 (ix2 0 j) = P.sg ⟨512 + j, by omega⟩)
    (l : Fin 4) (j : Fin 512) :
    k0_pay55 (k0_pay52 E Y f0 f1) (k0_pay53 z1) (k0_pay54 g1) (Scalar.ofBits .f32 0x00000000#32) (ix3 0 l j) = sn R P l ⟨512 + j, by omega⟩ := by
  have e := y_at R P hX hY h0 h1
  generalize hS : k0_pay50 E Y f0 f1 = S at e
  pointwise [k0_pay55, k0_pay52, k0_pay53, k0_pay54, hS, sn, yz, silu]
  simp only [hz, hg, e]
  have i : ∀ k : Fin 512, (⟨512 * ((512 + (j : ℕ)) / 512) + k, by omega⟩ : Fin 1024) = ⟨512 + k, by omega⟩ := fun k => Fin.ext (by simp only; omega)
  simp only [i]
end

section
variable {E : FVec Ideal S24x1024 .f32} (hX : Spread R P E)

include hX in
theorem keep_row (s : Fin 4) (c : Fin 1024) : E (ix2 ⟨14 + s, by omega⟩ c) = keep R P s (head c) := by
  rw [hX]
  obtain ⟨s, hs⟩ := s
  interval_cases s <;> rfl

include hA hX

/-- The tokens' contribution to the state, of one group's 512 rows. -/
theorem st0_at (j : Fin 512) (n : Fin 128) :
    k0_pay58 (k0_pay14 A) (k0_pay16 A) E (ix2 j n)
      = ∑ s : Fin 4, xs R P s ⟨j, by omega⟩ * keep R P s (head ⟨j, by omega⟩) * bm R P 0 s n := by
  pointwise [k0_pay58, k0_pay57, k0_pay14, k0_pay16, k0_pay15]
  simp only [mul_zero, Finset.sum_const_zero, add_zero, hA, keep_row R P hX]
  rfl

theorem st1_at (j : Fin 512) (n : Fin 128) :
    k0_pay68 (k0_pay19 A) (k0_pay57 (k0_pay14 A) E) (ix2 j n)
      = ∑ s : Fin 4, xs R P s ⟨512 + j, by omega⟩ * keep R P s (head ⟨512 + j, by omega⟩) * bm R P 1 s n := by
  pointwise [k0_pay68, k0_pay57, k0_pay14, k0_pay19, k0_pay15]
  simp only [mul_zero, Finset.sum_const_zero, add_zero, hA, keep_row R P hX]
  rfl

/-- One head's state, from its row block in the group's contribution. -/
theorem head0 (h : Fin 16) (hh : (h : ℕ) < 8) (p : Fin 64) (n : Fin 128) (a b : EReal) (ha : a = R.h0 h p n) (hb : b = cum R P 3 h) :
    a * Ideal.exp b + k0_pay58 (k0_pay14 A) (k0_pay16 A) E (ix2 ⟨64 * h + p, by omega⟩ n) = hlast R P h p n := by
  rw [st0_at R P hA hX, ha, hb]
  have e : head ⟨64 * h + p, by omega⟩ = h := Fin.ext (by simp only [head]; omega)
  have g : grp h = 0 := Fin.ext (by simp only [grp, Fin.val_zero]; omega)
  unfold hlast
  rw [g]
  simp only [e]
  rfl

theorem head1 (h : Fin 16) (hh : 8 ≤ (h : ℕ)) (p : Fin 64) (n : Fin 128) (a b : EReal) (ha : a = R.h0 h p n) (hb : b = cum R P 3 h) :
    a * Ideal.exp b + k0_pay68 (k0_pay19 A) (k0_pay57 (k0_pay14 A) E) (ix2 ⟨64 * h + p - 512, by omega⟩ n) = hlast R P h p n := by
  rw [st1_at R P hA hX, ha, hb]
  have e : (⟨512 + (64 * h + p - 512), by omega⟩ : Fin 1024) = chan h p := Fin.ext (by simp only [chan]; omega)
  have f : head (chan h p) = h := Fin.ext (by simp only [head, chan]; omega)
  have g : grp h = 1 := Fin.ext (by simp only [grp, Fin.val_one]; omega)
  unfold hlast
  rw [g]
  simp only [e, f]
end

end Cert.StepIdeal.Body
-- ==== Proof.Step.Blocks.lean ====
module

public import proofs.«01_k».proof.Proof.Step.Body2
public import proofs.«01_k».proof.Proof.Gen.StepIdeal.Value

/-! The blocks the decoding step's launch reads, as one sequence's rows and the layer's parameters. -/

@[expose] public section

set_option maxRecDepth 16384

noncomputable section

namespace Cert.StepIdeal.Body

open Idealize.ShloMosaic Idealize.ShloMosaic.TcCoe Idealize.SL.Sem
open Idealize.ShloMosaic.Pipeline (Dat)
open Cert.StepIdeal Cert.StepIdeal.Gen Cert.StepSpec

variable (m : (ℓ : Loc nD τ sig) → Buf (Elt Ideal) ℓ) (c : Dev nD)

/-- Sequence `b` and the parameters, read from the memory. -/
def row (b : Fin 32) : Row :=
  rowOf (fun b l ch => (m ((c : Thread nD τ).loc main_arg0) : Vec Ideal S32x4x1536 .f32) (ix3 b l ch))
    (fun b l ch => (m ((c : Thread nD τ).loc main_arg1) : Vec Ideal S32x3x1536 .f32) (ix3 b l ch))
    (fun b l h => (m ((c : Thread nD τ).loc main_arg2) : Vec Ideal S32x4x16 .f32) (ix3 b l h))
    (fun b l ch => (m ((c : Thread nD τ).loc main_arg3) : Vec Ideal S32x4x1024 .f32) (ix3 b l ch))
    (fun b h p n => (m ((c : Thread nD τ).loc main_arg4) : Vec Ideal S32x16x64x128 .f32) (ix4 b h p n)) b

def par : Par where
  cw k ch := (m ((c : Thread nD τ).loc main_arg5) : Vec Ideal S4x1536 .f32) (ix2 k ch)
  cb ch := (m ((c : Thread nD τ).loc main_arg6) : Vec Ideal S1536 .f32) (ix1 ch)
  bias h := (m ((c : Thread nD τ).loc main_arg7) : Vec Ideal S16 .f32) (ix1 h)
  alog h := (m ((c : Thread nD τ).loc main_arg8) : Vec Ideal S16 .f32) (ix1 h)
  dsk h := (m ((c : Thread nD τ).loc main_arg9) : Vec Ideal S16 .f32) (ix1 h)
  sg ch := (m ((c : Thread nD τ).loc main_arg10) : Vec Ideal S1024 .f32) (ix1 ch)

/-! The operands the host prepares. -/

/-- The head of each channel, as the host's floor division by sixty-four leaves it. -/
def lab : IVec S1x1024 32 :=
  let a := broadcastInDim S1x1024 ![1] bcast_S1024_S1x1024_1 (iotaInDim S1024 32 0)
  let k := fun v : BitVec 32 => broadcastInDim S1x1024 ![] bcast_S_S1x1024 (constantI S_ 32 v)
  select (andi (cmpi .ne (signi a) (broadcastInDim S1x1024 ![] bcast_S_S1x1024 (signi (constantI S_ 32 64#32)))) (cmpi .ne (Host.remsi a (k 64#32)) (k 0#32)))
    (subi (Host.divsi a (k 64#32)) (k 1#32)) (Host.divsi a (k 64#32))

theorem lab_at (l : Fin 1024) : lab (ix2 0 l) = BitVec.ofNat 32 ((l : ℕ) / 64) := by
  pointwise [lab]
  revert l
  decide +kernel

theorem v12 : V m c main_v12 = uitofp (F := Ideal) .f32 (cmpi .eq
    (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 lab)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  rfl

theorem v12_at (k : Fin 128) (l : Fin 1024) :
    (V m c main_v12 : Vec Ideal S128x1024 .f32) (ix2 k l) = if (k : ℕ) = (l : ℕ) / 64 then (1 : EReal) else 0 := by
  rw [v12]
  have e := lab_at l
  pointwise [e]
  by_cases h : (k : ℕ) = (l : ℕ) / 64
  · rw [if_pos h, h]
    simp only [IntOp.cmpi, BEq.rfl]
    change ((BitVec.toNat (BitVec.ofBool true) : ℝ) : EReal) = 1
    norm_num
    rfl
  · rw [if_neg h]
    have h' : BitVec.ofNat 32 (k : ℕ) ≠ BitVec.ofNat 32 ((l : ℕ) / 64) := by
      intro q
      have := congrArg BitVec.toNat q
      simp only [BitVec.toNat_ofNat] at this
      omega
    simp only [IntOp.cmpi, beq_false_of_ne h']
    change ((BitVec.toNat (BitVec.ofBool false) : ℝ) : EReal) = 0
    norm_num

theorem v13_at (k : Fin 1536) : (V m c main_v13 : Vec Ideal S1x1536 .f32) (ix2 0 k) = (m ((c : Thread nD τ).loc main_arg6) : Vec Ideal S1536 .f32) (ix1 k) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  pointwise

theorem v0_at (b : Fin 32) (l : Fin 4) (h : Fin 16) :
    (V m c main_v0 : Vec Ideal S32x4x128 .f32) (ix3 b l ⟨h, by omega⟩) = (m ((c : Thread nD τ).loc main_arg2) : Vec Ideal S32x4x16 .f32) (ix3 b l h) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise

theorem v15_at (h : Fin 16) :
    (V m c main_v15 : Vec Ideal S1x128 .f32) (ix2 0 ⟨h, by omega⟩) = (m ((c : Thread nD τ).loc main_arg7) : Vec Ideal S16 .f32) (ix1 h) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise

theorem v17_at (h : Fin 16) :
    (V m c main_v17 : Vec Ideal S1x128 .f32) (ix2 0 ⟨h, by omega⟩) = (m ((c : Thread nD τ).loc main_arg8) : Vec Ideal S16 .f32) (ix1 h) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  simp only [StableHlo.TRef.toBuf, StableHlo.TRef.ofBuf, cast_eq]
  pointwise

theorem v3_at (k : Fin 1024) : (V m c main_v3 : Vec Ideal S1x1024 .f32) (ix2 0 k) = (m ((c : Thread nD τ).loc main_arg9) : Vec Ideal S16 .f32) (ix1 (head k)) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  pointwise
  rfl

theorem v18_at (k : Fin 1024) : (V m c main_v18 : Vec Ideal S1x1024 .f32) (ix2 0 k) = (m ((c : Thread nD τ).loc main_arg10) : Vec Ideal S1024 .f32) (ix1 k) := by
  unfold V
  simp only [List.flatten_cons, List.flatten_nil, List.append_nil, List.cons_append, List.nil_append, hostOps0, hostOps0_1, hostOps0_2, hostOps0_3, hostOps0_4, hostOps0_5, hostOps0_6, hostOps0_7, hostOps0_8]
  after_results
  pointwise

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0, 0] ∧ win0_12.index t = ![t.val, 0, 0]
    ∧ win0_13.index t = ![t.val, 0, 0] ∧ win0_14.index t = ![t.val, 0, 0, 0] := (by decide +kernel : ∀ t : Fin grid0.N, _)

theorem idx0 : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- The sequence a grid point works on. -/
abbrev sq (t : Fin cfg0.N) : Fin 32 := t

set_option maxHeartbeats 1000000 in
theorem conv_blk (t : Fin cfg0.N) : Conv (row m c (sq t)) (par m c) (iblk m c 0 t) (iblk m c 1 t) (iblk m c 5 t) (iblk m c 6 t) where
  x l ch := by
    simp only [row, rowOf]
    split
    · omega
    · blk_ext [iblk, V, idx t]
      exact Nat.add_zero _
  s k ch := by
    simp only [row, rowOf, Fin.is_lt, ↓reduceDIte]
    blk_ext [iblk, V, idx t]
    exact Nat.add_zero _
  w k ch := by
    simp only [par]
    blk_ext [iblk, V, idx0 t]
  b ch := by
    refine Eq.trans ?_ (v13_at m c ch)
    blk_ext [iblk, idx0 t]

theorem heads_blk (t : Fin cfg0.N) : Heads (row m c (sq t)) (par m c) (iblk m c 2 t) (iblk m c 7 t) (iblk m c 8 t) where
  d l h := by
    refine Eq.trans ?_ (v0_at m c (sq t) l h)
    blk_ext [iblk, idx t]
    exact Nat.add_zero _
  b h := by
    refine Eq.trans ?_ (v15_at m c h)
    blk_ext [iblk, idx0 t]
  a h := by
    refine Eq.trans ?_ (v17_at m c h)
    blk_ext [iblk, idx0 t]

theorem dsk_blk (t : Fin cfg0.N) (k : Fin 1024) : (iblk m c 9 t : Vec Ideal S1x1024 .f32) (ix2 0 k) = (par m c).dsk (head k) := by
  refine Eq.trans ?_ (v3_at m c k)
  blk_ext [iblk, idx0 t]

theorem sg_blk (t : Fin cfg0.N) (k : Fin 1024) : (iblk m c 10 t : Vec Ideal S1x1024 .f32) (ix2 0 k) = (par m c).sg k := by
  refine Eq.trans ?_ (v18_at m c k)
  blk_ext [iblk, idx0 t]

theorem hd_blk (t : Fin cfg0.N) (k : Fin 128) (l : Fin 1024) :
    (iblk m c 11 t : Vec Ideal S128x1024 .f32) (ix2 k l) = if (k : ℕ) = (l : ℕ) / 64 then (1 : EReal) else 0 := by
  refine Eq.trans ?_ (v12_at m c k l)
  blk_ext [iblk, idx0 t]

theorem z_blk (t : Fin cfg0.N) (l : Fin 4) (k : Fin 1024) : (iblk m c 3 t : Vec Ideal S1x4x1024 .f32) (ix3 0 l k) = (row m c (sq t)).z l k := by
  simp only [row, rowOf]
  blk_ext [iblk, V, idx t]
  exact Nat.add_zero _

theorem h0_blk (t : Fin cfg0.N) (h : Fin 16) (p : Fin 64) (n : Fin 128) :
    (iblk m c 4 t : Vec Ideal S1x16x64x128 .f32) (ix4 0 h p n) = (row m c (sq t)).h0 h p n := by
  simp only [row, rowOf]
  blk_ext [iblk, V, idx t]
  exact Nat.add_zero _

end Cert.StepIdeal.Body
-- ==== Proof.Step.Tiles.lean ====
module

public import proofs.«01_k».proof.Proof.Step.Body2

/-! One grid point's state, as the sixteen heads' stores leave it. -/

@[expose] public section

set_option maxRecDepth 16384

noncomputable section

namespace Cert.StepIdeal.Body

open Idealize.ShloMosaic Idealize.ShloMosaic.TcCoe Idealize.SL.Sem
open Idealize.ShloMosaic.Pipeline (Dat)
open Cert.StepIdeal Cert.StepIdeal.Gen Cert.StepSpec

/-! The body's intermediate values, named. -/

theorem act_fold (x0 : Vec Ideal S1x4x1536 .f32) (x1 : Vec Ideal S1x3x1536 .f32) (x5 : Vec Ideal S4x1536 .f32) (x6 : Vec Ideal S1x1536 .f32) :
    k0_pay5
      (k0_pay4 x6 (scr x0 x1 0 4 inb_S16x1536_S4x1536_0_0)
        (View.ld x5 (Rect.unit ![0, 0] ![1, 1536] inb_S4x1536_S1x1536_0_0))
        (scr x0 x1 1 4 inb_S16x1536_S4x1536_1_0)
        (View.ld x5 (Rect.unit ![1, 0] ![1, 1536] inb_S4x1536_S1x1536_1_0))
        (scr x0 x1 2 4 inb_S16x1536_S4x1536_2_0)
        (View.ld x5 (Rect.unit ![2, 0] ![1, 1536] inb_S4x1536_S1x1536_2_0)))
      (scr x0 x1 3 4 inb_S16x1536_S4x1536_3_0)
      (View.ld x5 (Rect.unit ![3, 0] ![1, 1536] inb_S4x1536_S1x1536_3_0)) = ACT x0 x1 x5 x6 := rfl

section
variable (x2 : Vec Ideal S1x4x128 .f32) (x7 x8 : Vec Ideal S1x128 .f32)
theorem c3_fold : k0_pay13 (k0_pay8 x2 x7 x8) (k0_pay10 x2 x7 x8) (k0_pay11 x2 x7 x8) = C3 x2 x7 x8 := rfl
theorem c2_fold : k0_pay12 (k0_pay10 x2 x7 x8) (k0_pay11 x2 x7 x8) = C2 x2 x7 x8 := rfl
theorem c1_fold : k0_pay10 x2 x7 x8 = C1 x2 x7 x8 := rfl
theorem c0_fold : k0_pay9 x2 x7 x8 = C0 x2 x7 x8 := rfl
end

theorem rx_fold (A : FVec Ideal S4x1536 .f32) (D : FVec Ideal S4x128 .f32) (c0 c1 c2 c3 : FVec Ideal S1x128 .f32) (x11 : Vec Ideal S128x1024 .f32) :
    k0_pay43 D c0 c1 c2 c3 V73 (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11 = RX A D c0 c1 c2 c3 x11 := rfl

theorem lt128 (h : Fin 16) : (h : ℕ) < 128 := by omega

section
variable {R : Row} {P : Par} {A : FVec Ideal S4x1536 .f32} (hA : ∀ l ch, A (ix2 l ch) = act R P l ch) {E : FVec Ideal S24x1024 .f32} (hX : Spread R P E)
variable {X : Vec Ideal S1x16x64x128 .f32} (hH : ∀ h p n, X (ix4 0 h p n) = R.h0 h p n)
variable {c3 : FVec Ideal S1x128 .f32} (hD : ∀ h : Fin 16, c3 (ix2 0 ⟨h, lt128 h⟩) = cum R P 3 h)

theorem yd_fold (A : FVec Ideal S4x1536 .f32) (D : FVec Ideal S4x128 .f32) (c0 c1 c2 c3 : FVec Ideal S1x128 .f32) (x9 : Vec Ideal S1x1024 .f32)
    (x11 : Vec Ideal S128x1024 .f32) :
  k0_pay47 (k0_pay14 A) (RX A D c0 c1 c2 c3 x11)
    (k0_pay44 D c0 c1 c2 c3 V73 (k0_pay14 A) (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11)
    (k0_pay45 D c0 c1 c2 c3 V73 (k0_pay14 A) (k0_pay21 A) (k0_pay22 A D c0)
    (k0_pay26 D c0 c1 V73 (k0_pay18 A) (k0_pay21 A) k0_pay23 k0_pay24 k0_pay25)
    (k0_pay27 D c1 V73 (k0_pay18 A) (k0_pay21 A))
    (k0_pay31 D c0 c2 V73 (k0_pay21 A) k0_pay28 (k0_pay29 V73) (k0_pay30 (k0_pay18 A)))
    (k0_pay32 D c1 c2 V73 (k0_pay18 A) (k0_pay21 A))
    (k0_pay36 D c2 V73 (k0_pay21 A) k0_pay33 (k0_pay34 V73) (k0_pay35 (k0_pay18 A)))
    (k0_pay37 D c0 c3 V73 (k0_pay18 A) (k0_pay21 A))
    (k0_pay39 D c1 c3 V73 (k0_pay21 A) (k0_pay38 V73 (k0_pay18 A)) 8#32)
    (k0_pay40 D c2 c3 V73 (k0_pay18 A) (k0_pay21 A))
    (k0_pay41 V73 (k0_pay18 A)) (k0_pay42 V73) x11)
    k0_pay46 x9 = YD D c0 c1 c2 c3 x9 x11 A := rfl

theorem last {b : Fin 16} {q : Fin 64} {l : Fin 128} {h : Fin 16} {p : Fin 64} {n : Fin 128} {v : EReal} (e : v = hlast R P h p n)
    (e1 : (b : ℕ) = h) (e2 : (q : ℕ) = p) (e3 : (l : ℕ) = n) : v = hlast R P b q l := by
  rw [e, Fin.ext e1, Fin.ext e2, Fin.ext e3]

include hA hX hH hD
theorem low (h : Fin 16) (p : Fin 64) (n : Fin 128) (j : Fin 512) (hh : (h : ℕ) < 8) (hj : (j : ℕ) = 64 * h + p) :
    X (ix4 0 h p n) * Ideal.exp (c3 (ix2 0 ⟨h, lt128 h⟩)) + k0_pay58 (k0_pay14 A) (k0_pay16 A) E (ix2 j n) = hlast R P h p n := by
  rw [show j = ⟨64 * h + p, by omega⟩ from Fin.ext hj]
  exact head0 R P hA hX h hh p n _ _ (hH h p n) (hD h)

theorem high (h : Fin 16) (p : Fin 64) (n : Fin 128) (j : Fin 512) (hh : 8 ≤ (h : ℕ)) (hj : (j : ℕ) = 64 * h + p - 512) :
    X (ix4 0 h p n) * Ideal.exp (c3 (ix2 0 ⟨h, lt128 h⟩)) + k0_pay68 (k0_pay19 A) (k0_pay57 (k0_pay14 A) E) (ix2 j n) = hlast R P h p n := by
  rw [show j = ⟨64 * h + p - 512, by omega⟩ from Fin.ext hj]
  exact head1 R P hA hX h hh p n _ _ (hH h p n) (hD h)

set_option maxHeartbeats 1000000 in
theorem tiles14 (y : S1x16x64x128.Idx) :
    View.canon (Val := Elt Ideal) (s := S1x16x64x128) (e := .f32)
        [⟨Rect.unit (s := S1x16x64x128) ![0, 15, 0, 0] ![1, 1, 64, 128] inb_S1x16x64x128_S1x1x64x128_0_15_0_0,
            k0_pay1 (k0_pay68 (k0_pay19 A) (k0_pay57 (k0_pay14 A) E))
              (k0_pay76 (k0_pay56 c3)
                (View.ld X (Rect.unit ![0, 15, 0, 0] ![1, 1, 64, 128] inb_S1x16x64x128_S1x1x64x128_0_15_0_0)))⟩,
          ⟨Rect.unit ![0, 14, 0, 0] ![1, 1, 64, 128] inb_S1x16x64x128_S1x1x64x128_0_14_0_0,
            k0_pay75 (k0_pay56 c3) (k0_pay68 (k0_pay19 A) (k0_pay57 (k0_pay14 A) E))
              (View.ld X (Rect.unit ![0, 14, 0, 0] ![1, 1, 64, 128] inb_S1x16x64x128_S1x1x64x128_0_14_0_0))⟩,
          ⟨Rect.unit ![0, 13, 0, 0] ![1, 1, 64, 128] inb_S1x16x64x128_S1x1x64x128_0_13_0_0,
            k0_pay74 (k0_pay56 c3) (k0_pay68 (k0_pay19 A) (k0_pay57 (k0_pay14 A) E))
              (View.ld X (Rect.unit ![0, 13, 0, 0] ![1, 1, 64, 128] inb_S1x16x64x128_S1x1x64x128_0_13_0_0))⟩,
          ⟨Rect.unit ![0, 12, 0, 0] ![1, 1, 64, 128] inb_S1x16x64x128_S1x1x64x128_0_12_0_0,
            k0_pay73 (k0_pay56 c3) (k0_pay68 (k0_pay19 A) (k0_pay57 (k0_pay14 A) E))
              (View.ld X (Rect.unit ![0, 12, 0, 0] ![1, 1, 64, 128] inb_S1x16x64x128_S1x1x64x128_0_12_0_0))⟩,
          ⟨Rect.unit ![0, 11, 0, 0] ![1, 1, 64, 128] inb_S1x16x64x128_S1x1x64x128_0_11_0_0,
            k0_pay72 (k0_pay56 c3) (k0_pay68 (k0_pay19 A) (k0_pay57 (k0_pay14 A) E))
              (View.ld X (Rect.unit ![0, 11, 0, 0] ![1, 1, 64, 128] inb_S1x16x64x128_S1x1x64x128_0_11_0_0))⟩,
          ⟨Rect.unit ![0, 10, 0, 0] ![1, 1, 64, 128] inb_S1x16x64x128_S1x1x64x128_0_10_0_0,
            k0_pay71 (k0_pay56 c3) (k0_pay68 (k0_pay19 A) (k0_pay57 (k0_pay14 A) E))
              (View.ld X (Rect.unit ![0, 10, 0, 0] ![1, 1, 64, 128] inb_S1x16x64x128_S1x1x64x128_0_10_0_0))⟩,
          ⟨Rect.unit ![0, 9, 0, 0] ![1, 1, 64, 128] inb_S1x16x64x128_S1x1x64x128_0_9_0_0,
            k0_pay70 (k0_pay19 A) (k0_pay56 c3) (k0_pay57 (k0_pay14 A) E)
              (View.ld X (Rect.unit ![0, 9, 0, 0] ![1, 1, 64, 128] inb_S1x16x64x128_S1x1x64x128_0_9_0_0))⟩,
          ⟨Rect.unit ![0, 8, 0, 0] ![1, 1, 64, 128] inb_S1x16x64x128_S1x1x64x128_0_8_0_0,
            k0_pay69 (k0_pay19 A) (k0_pay56 c3) (k0_pay57 (k0_pay14 A) E)
              (View.ld X (Rect.unit ![0, 8, 0, 0] ![1, 1, 64, 128] inb_S1x16x64x128_S1x1x64x128_0_8_0_0))⟩,
          ⟨Rect.unit ![0, 7, 0, 0] ![1, 1, 64, 128] inb_S1x16x64x128_S1x1x64x128_0_7_0_0,
            k0_pay67 (k0_pay56 c3) (k0_pay58 (k0_pay14 A) (k0_pay16 A) E)
              (View.ld X (Rect.unit ![0, 7, 0, 0] ![1, 1, 64, 128] inb_S1x16x64x128_S1x1x64x128_0_7_0_0))⟩,
          ⟨Rect.unit ![0, 6, 0, 0] ![1, 1, 64, 128] inb_S1x16x64x128_S1x1x64x128_0_6_0_0,
            k0_pay66 (k0_pay56 c3) (k0_pay58 (k0_pay14 A) (k0_pay16 A) E)
              (View.ld X (Rect.unit ![0, 6, 0, 0] ![1, 1, 64, 128] inb_S1x16x64x128_S1x1x64x128_0_6_0_0))⟩,
          ⟨Rect.unit ![0, 5, 0, 0] ![1, 1, 64, 128] inb_S1x16x64x128_S1x1x64x128_0_5_0_0,
            k0_pay65 (k0_pay56 c3) (k0_pay58 (k0_pay14 A) (k0_pay16 A) E)
              (View.ld X (Rect.unit ![0, 5, 0, 0] ![1, 1, 64, 128] inb_S1x16x64x128_S1x1x64x128_0_5_0_0))⟩,
          ⟨Rect.unit ![0, 4, 0, 0] ![1, 1, 64, 128] inb_S1x16x64x128_S1x1x64x128_0_4_0_0,
            k0_pay64 (k0_pay56 c3) (k0_pay58 (k0_pay14 A) (k0_pay16 A) E)
              (View.ld X (Rect.unit ![0, 4, 0, 0] ![1, 1, 64, 128] inb_S1x16x64x128_S1x1x64x128_0_4_0_0))⟩,
          ⟨Rect.unit ![0, 3, 0, 0] ![1, 1, 64, 128] inb_S1x16x64x128_S1x1x64x128_0_3_0_0,
            k0_pay63 (k0_pay56 c3) (k0_pay58 (k0_pay14 A) (k0_pay16 A) E)
              (View.ld X (Rect.unit ![0, 3, 0, 0] ![1, 1, 64, 128] inb_S1x16x64x128_S1x1x64x128_0_3_0_0))⟩,
          ⟨Rect.unit ![0, 2, 0, 0] ![1, 1, 64, 128] inb_S1x16x64x128_S1x1x64x128_0_2_0_0,
            k0_pay62 (k0_pay56 c3) (k0_pay58 (k0_pay14 A) (k0_pay16 A) E)
              (View.ld X (Rect.unit ![0, 2, 0, 0] ![1, 1, 64, 128] inb_S1x16x64x128_S1x1x64x128_0_2_0_0))⟩,
          ⟨Rect.unit ![0, 1, 0, 0] ![1, 1, 64, 128] inb_S1x16x64x128_S1x1x64x128_0_1_0_0,
            k0_pay61 (k0_pay56 c3) (k0_pay58 (k0_pay14 A) (k0_pay16 A) E)
              (View.ld X (Rect.unit ![0, 1, 0, 0] ![1, 1, 64, 128] inb_S1x16x64x128_S1x1x64x128_0_1_0_0))⟩,
          ⟨Rect.unit ![0, 0, 0, 0] ![1, 1, 64, 128] inb_S1x16x64x128_S1x1x64x128_0_0_0_0,
            k0_pay60
              (k0_pay59 c3 (k0_pay14 A) (k0_pay16 A) E
                (View.ld X (Rect.unit ![0, 0, 0, 0] ![1, 1, 64, 128] inb_S1x16x64x128_S1x1x64x128_0_0_0_0)))⟩] y = hlast R P (y 1) (y 2) (y 3) := by
  canon_tiles x h
  all_goals pointwise [k0_pay1, k0_pay76, k0_pay75, k0_pay74, k0_pay73, k0_pay72, k0_pay71, k0_pay70, k0_pay69, k0_pay67, k0_pay66, k0_pay65,
    k0_pay64, k0_pay63, k0_pay62, k0_pay61, k0_pay60, k0_pay59, k0_pay56]
  all_goals idx_vars x
  case piece0 | piece1 | piece2 | piece3 | piece4 | piece5 | piece6 | piece7 =>
    refine last (high hA hX hH hD _ _ _ _ ?_ ?_) ?_ h2 h3
    · decide
    · simp only [Fin.reduceFinMk, Fin.val_ofNat, Nat.reduceMod]
      omega
    · obtain rfl : x1 = 0 := Subsingleton.elim _ _
      exact h1
  case piece15 =>
    change X (ix4 0 0 x2 x3) * Ideal.exp (c3 (ix2 0 0)) + k0_pay58 (k0_pay14 A) (k0_pay16 A) E (ix2 ⟨↑x2, _⟩ x3) = _
    refine last (low hA hX hH hD 0 _ _ _ ?_ ?_) ?_ h2 h3
    · decide
    · exact (Nat.zero_add _).symm
    · obtain rfl : x1 = 0 := Subsingleton.elim _ _
      exact h1
  all_goals
    refine last (low hA hX hH hD _ _ _ _ ?_ ?_) ?_ h2 h3
    · decide
    · simp only [Fin.reduceFinMk, Fin.val_ofNat, Nat.reduceMod]
      omega
    · obtain rfl : x1 = 0 := Subsingleton.elim _ _
      exact h1
end

theorem place {a b c d : ℕ} (f : Fin a → Fin b → Fin c → Fin d → EReal) {i i' : Fin a} {j j' : Fin b} {k k' : Fin c} {l l' : Fin d}
    (hi : (i : ℕ) = i') (hj : (j : ℕ) = j') (hk : (k : ℕ) = k') (hl : (l : ℕ) = l') : f i j k l = f i' j' k' l' := by
  rw [Fin.ext hi, Fin.ext hj, Fin.ext hk, Fin.ext hl]

theorem place3 {a b c : ℕ} (f : Fin a → Fin b → Fin c → EReal) {i i' : Fin a} {j j' : Fin b} {k k' : Fin c}
    (hi : (i : ℕ) = i') (hj : (j : ℕ) = j') (hk : (k : ℕ) = k') : f i j k = f i' j' k' := by
  rw [Fin.ext hi, Fin.ext hj, Fin.ext hk]

section
variable {R : Row} {P : Par} {E : FVec Ideal S24x1024 .f32} {Y : FVec Ideal S4x1024 .f32} {A : FVec Ideal S4x1536 .f32}
variable {X : Vec Ideal S1x16x64x128 .f32} {z : Vec Ideal S1x4x1024 .f32} {g : Vec Ideal S1x1024 .f32}

theorem tiles12 (hA : ∀ l ch, A (ix2 l ch) = act R P l ch) (hX : Spread R P E) (hY : ∀ l c, Y (ix2 l c) = P.dsk (head c) * xs R P l c + ydiag R P l c)
    (hH : ∀ h p n, X (ix4 0 h p n) = R.h0 h p n) (hz : ∀ l c, z (ix3 0 l c) = R.z l c) (hg : ∀ c, g (ix2 0 c) = P.sg c) (y : S1x4x1024.Idx) :
    View.canon (Val := Elt Ideal) (s := S1x4x1024) (e := .bf16)
      [⟨Rect.unit (s := S1x4x1024) ![0, 0, 512] ![1, 4, 512] inb_S1x4x1024_S1x4x512_0_0_512,
        k0_pay55 (k0_pay52 E Y
            (k0_pay48 (k0_pay17 A) (View.ld X (Rect.unit ![0, 0, 0, 0] ![1, 8, 64, 128] inb_S1x16x64x128_S1x8x64x128_0_0_0_0)))
            (k0_pay49 (k0_pay20 A) (View.ld X (Rect.unit ![0, 8, 0, 0] ![1, 8, 64, 128] inb_S1x16x64x128_S1x8x64x128_0_8_0_0))))
          (k0_pay53 (View.ld z (Rect.unit ![0, 0, 512] ![1, 4, 512] inb_S1x4x1024_S1x4x512_0_0_512)))
          (k0_pay54 (View.ld g (Rect.unit ![0, 512] ![1, 512] inb_S1x1024_S1x512_0_512))) (FloatOps.ofBits FTy.f32 0#32)⟩,
      ⟨Rect.unit ![0, 0, 0] ![1, 4, 512] inb_S1x4x1024_S1x4x512_0_0_0,
        k0_pay51 E Y
          (k0_pay48 (k0_pay17 A) (View.ld X (Rect.unit ![0, 0, 0, 0] ![1, 8, 64, 128] inb_S1x16x64x128_S1x8x64x128_0_0_0_0)))
          (k0_pay49 (k0_pay20 A) (View.ld X (Rect.unit ![0, 8, 0, 0] ![1, 8, 64, 128] inb_S1x16x64x128_S1x8x64x128_0_8_0_0)))
          (View.ld z (Rect.unit ![0, 0, 0] ![1, 4, 512] inb_S1x4x1024_S1x4x512_0_0_0))
          (View.ld g (Rect.unit ![0, 0] ![1, 512] inb_S1x1024_S1x512_0_0))⟩] y = sn R P (y 1) (y 2) := by
  have o0 := off0_at R P hA (x40 := View.ld X (Rect.unit ![0, 0, 0, 0] ![1, 8, 64, 128] inb_S1x16x64x128_S1x8x64x128_0_0_0_0))
    (by intro e p n; pointwise; exact hH _ p n)
  have o1 := off1_at R P hA (x41 := View.ld X (Rect.unit ![0, 8, 0, 0] ![1, 8, 64, 128] inb_S1x16x64x128_S1x8x64x128_0_8_0_0))
    (by intro e p n; pointwise; exact hH _ p n)
  generalize k0_pay48 (F := Ideal) _ _ = f0 at o0 ⊢
  generalize k0_pay49 (F := Ideal) _ _ = f1 at o1 ⊢
  have s0 := sn0_at R P hX hY o0 o1 (z0 := View.ld z (Rect.unit ![0, 0, 0] ![1, 4, 512] inb_S1x4x1024_S1x4x512_0_0_0))
    (g0 := View.ld g (Rect.unit ![0, 0] ![1, 512] inb_S1x1024_S1x512_0_0))
    (by intro l j; pointwise; exact hz l _) (by intro j; pointwise; exact hg _)
  have s1 := sn1_at R P hX hY o0 o1 (z1 := View.ld z (Rect.unit ![0, 0, 512] ![1, 4, 512] inb_S1x4x1024_S1x4x512_0_0_512))
    (g1 := View.ld g (Rect.unit ![0, 512] ![1, 512] inb_S1x1024_S1x512_0_512))
    (by intro l j; pointwise; exact hz l _) (by intro j; pointwise; exact hg _)
  have w : ∀ (l l' : Fin 4) (c c' : Fin 1024), (l' : ℕ) = l → (c' : ℕ) = c → sn R P l c = sn R P l' c' := by
    intro l l' c c' hl hc
    rw [Fin.ext hl, Fin.ext hc]
  canon_tiles x h
  all_goals
    idx_vars x
    obtain rfl : x0 = 0 := Subsingleton.elim _ _
  · exact (s1 x1 x2).trans (w _ _ _ _ h1 h2)
  · exact (s0 x1 x2).trans (w _ _ _ _ h1 h2)

/-- The convolution's last three inputs. -/
def tail (R : Row) (k : Fin 3) (ch : Fin 1536) : EReal := R.w ⟨4 + k, by omega⟩ ch

theorem tiles13 {x0 : Vec Ideal S1x4x1536 .f32} {x1 : Vec Ideal S1x3x1536 .f32} {x5 : Vec Ideal S4x1536 .f32} {x6 : Vec Ideal S1x1536 .f32}
    (K : Conv R P x0 x1 x5 x6) (y : S1x3x1536.Idx) :
    k0_pay6 (scr x0 x1 4 3 inb_S16x1536_S3x1536_4_0) y = tail R (y 1) (y 2) := by
  have e := fun l ch => scr_at K 4 3 inb_S16x1536_S3x1536_4_0 (by omega) l ch
  generalize scr x0 x1 4 3 inb_S16x1536_S3x1536_4_0 = S at e
  pointwise [k0_pay6]
  exact e _ _
end

end Cert.StepIdeal.Body
-- ==== Proof.Step.Final.lean ====
module

public import proofs.«01_k».proof.Proof.Step.Blocks
public import proofs.«01_k».proof.Proof.Step.Tiles

/-! What the decoding step's launch leaves in its three result arrays. -/

@[expose] public section

set_option maxRecDepth 16384

noncomputable section

namespace Cert.StepIdeal.Body

open Idealize.ShloMosaic Idealize.ShloMosaic.TcCoe Idealize.SL.Sem
open Idealize.ShloMosaic.Pipeline (Dat)
open Cert.StepIdeal Cert.StepIdeal.Gen Cert.StepSpec

variable (m : (ℓ : Loc nD τ sig) → Buf (Elt Ideal) ℓ) (c : Dev nD)

set_option maxHeartbeats 1000000 in
theorem final14 : (dats m 0 c).arrAt 14 cfg0.N = fun y : S32x16x64x128.Idx => hlast (row m c (y 0)) (par m c) (y 1) (y 2) (y 3) := by
  refine (dats m 0 c).arrAt_eq_of_covers 14 _ (by decide +kernel) fun t hf y => ?_
  blk_simp
  rw [after0_14]
  simp only [outsAt0]
  frame_out
  have ea := act_fold (iblk m c 0 t) (iblk m c 1 t) (iblk m c 5 t) (iblk m c 6 t)
  simp only [scr] at ea
  have e3 := c3_fold (iblk m c 2 t) (iblk m c 7 t) (iblk m c 8 t)
  have e2 := c2_fold (iblk m c 2 t) (iblk m c 7 t) (iblk m c 8 t)
  have e1 := c1_fold (iblk m c 2 t) (iblk m c 7 t) (iblk m c 8 t)
  have e0 := c0_fold (iblk m c 2 t) (iblk m c 7 t) (iblk m c 8 t)
  rw [ea, e3, e2, e1, e0, rx_fold]
  have hA := act_at (conv_blk m c t)
  have hX := spread _ _ hA (heads_blk m c t) (hd_blk m c t)
  have hD := fun h => cum_at (heads_blk m c t) 3 h
  have hH := h0_blk m c t
  clear ea e3 e2 e1 e0
  generalize RX _ _ _ _ _ _ _ = E at hX ⊢
  generalize ACT _ _ _ _ = A at hA ⊢
  change ∀ h : Fin 16, C3 _ _ _ _ = _ at hD
  generalize C3 _ _ _ = c3 at hD ⊢
  have q1 : hlast (row m c (((View.whole main_v19_2).slice (win0_14.rect t)).emb y 0)) (par m c)
      (((View.whole main_v19_2).slice (win0_14.rect t)).emb y 1)
      (((View.whole main_v19_2).slice (win0_14.rect t)).emb y 2)
      (((View.whole main_v19_2).slice (win0_14.rect t)).emb y 3) = hlast (row m c (sq t)) (par m c) (y 1) (y 2) (y 3) := by
    refine place (fun a b p n => hlast (row m c a) (par m c) b p n) ?_ ?_ ?_ ?_ <;> blk_simp [idx t]
  refine Eq.trans ?_ q1.symm
  exact tiles14 hA hX hH hD y

theorem final13 : (dats m 0 c).arrAt 13 cfg0.N = fun y : S32x3x1536.Idx => tail (row m c (y 0)) (y 1) (y 2) := by
  refine (dats m 0 c).arrAt_eq_of_covers 13 _ (by decide +kernel) fun t hf y => ?_
  blk_simp
  rw [after0_13]
  simp only [outsAt0]
  frame_out
  refine (tiles13 (conv_blk m c t) y).trans ?_
  refine place3 (fun a k ch => tail (row m c a) k ch) (i := sq t) ?_ ?_ ?_ <;> blk_simp [idx t]

set_option maxHeartbeats 1000000 in
theorem final12 : (dats m 0 c).arrAt 12 cfg0.N = fun y : S32x4x1024.Idx => sn (row m c (y 0)) (par m c) (y 1) (y 2) := by
  refine (dats m 0 c).arrAt_eq_of_covers 12 _ (by decide +kernel) fun t hf y => ?_
  blk_simp
  rw [after0_12]
  simp only [outsAt0]
  frame_out
  have ea := act_fold (iblk m c 0 t) (iblk m c 1 t) (iblk m c 5 t) (iblk m c 6 t)
  simp only [scr] at ea
  have e3 := c3_fold (iblk m c 2 t) (iblk m c 7 t) (iblk m c 8 t)
  have e2 := c2_fold (iblk m c 2 t) (iblk m c 7 t) (iblk m c 8 t)
  have e1 := c1_fold (iblk m c 2 t) (iblk m c 7 t) (iblk m c 8 t)
  have e0 := c0_fold (iblk m c 2 t) (iblk m c 7 t) (iblk m c 8 t)
  rw [ea, e3, e2, e1, e0, rx_fold, yd_fold]
  clear ea e3 e2 e1 e0
  have hA := act_at (conv_blk m c t)
  have hX := spread _ _ hA (heads_blk m c t) (hd_blk m c t)
  have hY := yd_at _ _ hA _ _ _ _ _ (iblk m c 9 t) (iblk m c 11 t) hX (dsk_blk m c t)
  refine (tiles12 hA hX hY (h0_blk m c t) (z_blk m c t) (sg_blk m c t) y).trans ?_
  refine place3 (fun a l ch => sn (row m c a) (par m c) l ch) (i := sq t) ?_ ?_ ?_ <;> blk_simp [idx t]

end Cert.StepIdeal.Body
-- ==== Proof.Step.Ref.lean ====
module

public import proofs.«01_k».proof.Proof.Step.Body
public import proofs.«01_k».proof.Proof.Gen.StepRefIdeal.Read

/-! The reference of the decoding step, at an element, in the layer's words. -/

@[expose] public section

set_option maxRecDepth 16384

noncomputable section

namespace Cert.StepRefIdeal.Spec

open Idealize.ShloMosaic Idealize.ShloMosaic.TcCoe Idealize.SL.Sem
open Cert.StepRefIdeal Cert.StepRefIdeal.Gen Cert.StepRefIdeal.Read Cert.StepSpec

variable (x0 : FVec Ideal S32x4x1536 .f32) (x1 : FVec Ideal S32x3x1536 .f32) (x2 : FVec Ideal S32x4x16 .f32) (x3 : FVec Ideal S32x4x1024 .f32)
  (x4 : FVec Ideal S32x16x64x128 .f32) (x5 : FVec Ideal S4x1536 .f32) (x6 : FVec Ideal S1536 .f32) (x7 x8 x9 : FVec Ideal S16 .f32)
  (x10 : FVec Ideal S1024 .f32)

/-- Sequence `b` and the parameters. -/
def row (b : Fin 32) : Row :=
  rowOf (fun b l ch => x0 (ix3 b l ch)) (fun b l ch => x1 (ix3 b l ch)) (fun b l h => x2 (ix3 b l h)) (fun b l ch => x3 (ix3 b l ch))
    (fun b h p n => x4 (ix4 b h p n)) b

def par : Par where
  cw k ch := x5 (ix2 k ch)
  cb ch := x6 (ix1 ch)
  bias h := x7 (ix1 h)
  alog h := x8 (ix1 h)
  dsk h := x9 (ix1 h)
  sg ch := x10 (ix1 ch)

theorem act_at (b : Fin 32) (l : Fin 4) (ch : Fin 1536) : val_main_v31 (F := Ideal) x0 x1 x5 x6 (ix3 b l ch) = act (row x0 x1 x2 x3 x4 b) (par x5 x6 x7 x8 x9 x10) l ch := by
  pointwise [val_main_v31, val_main_call0_v0, val_main_call0_v1, val_main_call0_cst, val_main_call0_v2, val_main_call0_v3, val_main_call0_cst_0, val_main_call0_v4, val_main_call0_v5, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, act, silu, row, rowOf, par]
  exact congrArg (fun q => _ * Ideal.div 1 (1 + Ideal.exp q)) (zero_sub _).symm

/-- A head from its group and its place in the group. -/
theorem hd_lt (g : Fin 2) (e : Fin 8) : g.val * 8 + e.val < 16 := by omega

theorem dt_at (b : Fin 32) (l : Fin 4) (g : Fin 2) (e : Fin 8) :
    val_main_v43 (F := Ideal) x2 x7 (ix4 b l g e) = dt (row x0 x1 x2 x3 x4 b) (par x5 x6 x7 x8 x9 x10) l ⟨g * 8 + e, hd_lt g e⟩ := by
  pointwise [val_main_v43, val_main_v42, val_main_v41, val_main_v40, val_main_v39, val_main_call1_cst, val_main_call1_v0, val_main_call1_v1, val_main_call1_v2, val_main_call1_v3, val_main_call1_v4,
    val_main_call1_v5, val_main_call1_v6, val_main_call1_v7, val_main_call1_v8, val_main_call1_v9, val_main_call1_v10, val_main_call1_v11, dt, sp, row, rowOf, par]
  refine (if_neg fun h => h rfl).trans ?_
  exact congrArg (fun q => _ + Ideal.log1p (Ideal.exp q)) (zero_sub _).symm

theorem da_at (b : Fin 32) (l : Fin 4) (g : Fin 2) (e : Fin 8) :
    val_main_v50 (F := Ideal) x2 x7 x8 (ix4 b l g e) = da (row x0 x1 x2 x3 x4 b) (par x5 x6 x7 x8 x9 x10) l ⟨g * 8 + e, hd_lt g e⟩ := by
  have h := dt_at x0 x1 x2 x3 x4 x5 x6 x7 x8 x9 x10 b l g e
  unfold da
  rw [← h]
  pointwise [val_main_v50, val_main_v49, val_main_v48, val_main_v46, val_main_v45, val_main_v44, par]
  exact congrArg (fun q => _ * q) (zero_sub _).symm

/-- Position `k` of the window that ends at token `l`. -/
def wterm (x : FVec Ideal S32x4x2x8 .f32) (b : Fin 32) (l : Fin 4) (g : Fin 2) (e : Fin 8) (k : Fin 4) : EReal :=
  if h : 3 ≤ l.val + k.val then x (ix4 b ⟨l + k - 3, by omega⟩ g e) else 0

theorem fold4 {N : Nat} (hN : N = 4) (f : EReal → Fin N → EReal) (v : EReal) :
    (List.finRange N).foldl f v = f (f (f (f v ⟨0, by omega⟩) ⟨1, by omega⟩) ⟨2, by omega⟩) ⟨3, by omega⟩ := by
  subst hN
  rfl

theorem dite_eq_of {Q Q' : Prop} [Decidable Q] [Decidable Q'] (hQ : Q ↔ Q') {u : Q → EReal} {u' : Q' → EReal} (h : ∀ q q', u q = u' q') :
    dite Q u (fun _ => 0) = dite Q' u' (fun _ => 0) := by
  by_cases q : Q
  · rw [dif_pos q, dif_pos (hQ.1 q)]; exact h _ _
  · rw [dif_neg q, dif_neg fun q' => q (hQ.2 q')]

/-- The window's position `n`. -/
abbrev wpos (n : Fin 4) : (⟨4, ![1, 4, 1, 1]⟩ : Shape).Idx := (⟨4, ![1, 4, 1, 1]⟩ : Shape).rowMajor.symm ⟨n, by change n.val < 4; omega⟩

theorem wpos_val : ∀ n : Fin 4, (wpos n 0).val = 0 ∧ (wpos n 1).val = n.val ∧ (wpos n 2).val = 0 ∧ (wpos n 3).val = 0 := by decide +kernel

theorem win_pos (x : FVec Ideal S32x4x2x8 .f32) (b : Fin 32) (l : Fin 4) (g : Fin 2) (e : Fin 8) (n : Fin 4)
    (d : Decidable (∀ a : Fin 4, (![0, 3, 0, 0] : Fin 4 → Nat) a ≤ ((ix4 b l g e : S32x4x2x8.Idx) a).val * (![1, 1, 1, 1] : Fin 4 → Nat) a + (wpos n a).val
          ∧ ((ix4 b l g e : S32x4x2x8.Idx) a).val * (![1, 1, 1, 1] : Fin 4 → Nat) a + (wpos n a).val - (![0, 3, 0, 0] : Fin 4 → Nat) a < S32x4x2x8.size a)) :
      (if hin : ∀ a : Fin 4, (![0, 3, 0, 0] : Fin 4 → Nat) a ≤ ((ix4 b l g e : S32x4x2x8.Idx) a).val * (![1, 1, 1, 1] : Fin 4 → Nat) a + (wpos n a).val
          ∧ ((ix4 b l g e : S32x4x2x8.Idx) a).val * (![1, 1, 1, 1] : Fin 4 → Nat) a + (wpos n a).val - (![0, 3, 0, 0] : Fin 4 → Nat) a < S32x4x2x8.size a
        then x (fun a => ⟨_, (hin a).2⟩) else (0 : EReal)) = wterm x b l g e n := by
  obtain ⟨h0, h1, h2, h3⟩ := wpos_val n
  unfold wterm
  refine dite_eq_of (Iff.intro (fun hin => ?_) (fun hle a => ?_)) (fun q q' => ?_)
  · have k1 := (hin 1).1
    change 3 ≤ l.val * 1 + (wpos n 1).val at k1
    omega
  · match a with
    | ⟨0, _⟩ => show 0 ≤ b.val * 1 + (wpos n 0).val ∧ b.val * 1 + (wpos n 0).val - 0 < 32; omega
    | ⟨1, _⟩ => show 3 ≤ l.val * 1 + (wpos n 1).val ∧ l.val * 1 + (wpos n 1).val - 3 < 4; omega
    | ⟨2, _⟩ => show 0 ≤ g.val * 1 + (wpos n 2).val ∧ g.val * 1 + (wpos n 2).val - 0 < 2; omega
    | ⟨3, _⟩ => show 0 ≤ e.val * 1 + (wpos n 3).val ∧ e.val * 1 + (wpos n 3).val - 0 < 8; omega
  · refine congrArg x (funext fun a => Fin.ext ?_)
    match a with
    | ⟨0, _⟩ => show b.val * 1 + (wpos n 0).val - 0 = b.val; omega
    | ⟨1, _⟩ => show l.val * 1 + (wpos n 1).val - 3 = l.val + n.val - 3; omega
    | ⟨2, _⟩ => show g.val * 1 + (wpos n 2).val - 0 = g.val; omega
    | ⟨3, _⟩ => show e.val * 1 + (wpos n 3).val - 0 = e.val; omega

theorem win_at (x : FVec Ideal S32x4x2x8 .f32) (init : FVec Ideal S_ .f32) (hi : ∀ i, init i = (0 : EReal)) (h hu)
    (b : Fin 32) (l : Fin 4) (g : Fin 2) (e : Fin 8) :
    Host.reduceWindowAdd ![1, 4, 1, 1] ![1, 1, 1, 1] ![0, 3, 0, 0] ![0, 0, 0, 0] x init h hu (ix4 b l g e)
      = 0 + wterm x b l g e 0 + wterm x b l g e 1 + wterm x b l g e 2 + wterm x b l g e 3 := by
  change Host.reduceWindow (fun p q : EReal => p + q) ![1, 4, 1, 1] ![1, 1, 1, 1] ![0, 3, 0, 0] ![0, 0, 0, 0] x (fun _ : S_.Idx => init _) h hu (ix4 b l g e) = _
  unfold Host.reduceWindow
  rw [hi]
  refine (fold4 (by decide +kernel) _ _).trans ?_
  exact congrArg₂ (fun p q : EReal => p + q) (congrArg₂ (fun p q : EReal => p + q) (congrArg₂ (fun p q : EReal => p + q)
    (congrArg (fun q : EReal => 0 + q) (win_pos x b l g e 0 _)) (win_pos x b l g e 1 _)) (win_pos x b l g e 2 _)) (win_pos x b l g e 3 _)

theorem cum_at (b : Fin 32) (l : Fin 4) (g : Fin 2) (e : Fin 8) :
    val_main_v51 (F := Ideal) x2 x7 x8 (ix4 b l g e) = cum (row x0 x1 x2 x3 x4 b) (par x5 x6 x7 x8 x9 x10) l ⟨g * 8 + e, hd_lt g e⟩ := by
  have h := fun l => da_at x0 x1 x2 x3 x4 x5 x6 x7 x8 x9 x10 b l g e
  refine (win_at _ _ (fun i => ?_) _ _ b l g e).trans ?_
  · pointwise [val_main_call2_call0_v0, val_main_call2_call0_cst]
  generalize val_main_v50 (F := Ideal) x2 x7 x8 = f at h ⊢
  unfold wterm cum
  obtain ⟨l, hl⟩ := l
  interval_cases l
  · simp [h]
  · simp [h]
  · simp [h]
  · simp [h]

theorem ch_lt (g : Fin 2) (e : Fin 8) (p : Fin 64) : (g.val * 8 + e.val) * 64 + p.val < 1024 := by omega

theorem xs_at (b : Fin 32) (l : Fin 4) (g : Fin 2) (e : Fin 8) (p : Fin 64) :
    val_main_v34 (F := Ideal) x0 x1 x5 x6 (ix5 b l g e p) = xs (row x0 x1 x2 x3 x4 b) (par x5 x6 x7 x8 x9 x10) l ⟨(g * 8 + e) * 64 + p, ch_lt g e p⟩ := by
  have h := fun ch => act_at x0 x1 x2 x3 x4 x5 x6 x7 x8 x9 x10 b l ch
  unfold xs
  rw [← h]
  pointwise [val_main_v34, val_main_v33]
  exact congrArg (fun q => val_main_v31 (F := Ideal) x0 x1 x5 x6 (ix3 b l q))
    (Fin.ext (show g.val * 512 + e.val * 64 + p.val = (g.val * 8 + e.val) * 64 + p.val by omega))

theorem bm_at (b : Fin 32) (l : Fin 4) (g : Fin 2) (n : Fin 128) :
    val_main_v36 (F := Ideal) x0 x1 x5 x6 (ix4 b l g n) = bm (row x0 x1 x2 x3 x4 b) (par x5 x6 x7 x8 x9 x10) g l n := by
  have h := fun ch => act_at x0 x1 x2 x3 x4 x5 x6 x7 x8 x9 x10 b l ch
  unfold bm
  rw [← h]
  pointwise [val_main_v36, val_main_v35]
  exact congrArg (fun q => val_main_v31 (F := Ideal) x0 x1 x5 x6 (ix3 b l q))
    (Fin.ext (show 1024 + (g.val * 128 + n.val) = 1024 + 128 * g.val + n.val by omega))

theorem cm_at (b : Fin 32) (l : Fin 4) (g : Fin 2) (n : Fin 128) :
    val_main_v38 (F := Ideal) x0 x1 x5 x6 (ix4 b l g n) = cm (row x0 x1 x2 x3 x4 b) (par x5 x6 x7 x8 x9 x10) g l n := by
  have h := fun ch => act_at x0 x1 x2 x3 x4 x5 x6 x7 x8 x9 x10 b l ch
  unfold cm
  rw [← h]
  pointwise [val_main_v38, val_main_v37]
  exact congrArg (fun q => val_main_v31 (F := Ideal) x0 x1 x5 x6 (ix3 b l q))
    (Fin.ext (show 1280 + (g.val * 128 + n.val) = 1280 + 128 * g.val + n.val by omega))

theorem h0_at (b : Fin 32) (g : Fin 2) (e : Fin 8) (p : Fin 64) (n : Fin 128) :
    val_main_v47 (F := Ideal) x4 (ix5 b g e p n) = (row x0 x1 x2 x3 x4 b).h0 ⟨g * 8 + e, hd_lt g e⟩ p n := by
  pointwise [val_main_v47, row, rowOf]

theorem sge_at : ∀ l s : Fin 4, IntOp.cmpi CmpIPredicate.sge (BitVec.ofNat 32 l.val) (BitVec.ofNat 32 s.val) = if s ≤ l then 1#1 else 0#1 := by
  decide +kernel

theorem bot_word : Ideal.ofBits FTy.f32 0xFF800000#32 = (⊥ : EReal) := by
  simp [Ideal.ofBits, Ideal.ieee]

theorem w_at (b : Fin 32) (l s : Fin 4) (g : Fin 2) (e : Fin 8) :
    val_main_v74 (F := Ideal) x0 x1 x2 x5 x6 x7 x8 (ix5 b l s g e)
      = (∑ n : Fin 128, bm (row x0 x1 x2 x3 x4 b) (par x5 x6 x7 x8 x9 x10) g s n * cm (row x0 x1 x2 x3 x4 b) (par x5 x6 x7 x8 x9 x10) g l n)
        * Ideal.exp (if s ≤ l then cum (row x0 x1 x2 x3 x4 b) (par x5 x6 x7 x8 x9 x10) l ⟨g * 8 + e, hd_lt g e⟩ - cum (row x0 x1 x2 x3 x4 b) (par x5 x6 x7 x8 x9 x10) s ⟨g * 8 + e, hd_lt g e⟩ else ⊥)
        * dt (row x0 x1 x2 x3 x4 b) (par x5 x6 x7 x8 x9 x10) s ⟨g * 8 + e, hd_lt g e⟩ := by
  have hc := fun l => cum_at x0 x1 x2 x3 x4 x5 x6 x7 x8 x9 x10 b l g e
  have hd := fun l => dt_at x0 x1 x2 x3 x4 x5 x6 x7 x8 x9 x10 b l g e
  have hb := fun l => bm_at x0 x1 x2 x3 x4 x5 x6 x7 x8 x9 x10 b l g
  have hm := fun l => cm_at x0 x1 x2 x3 x4 x5 x6 x7 x8 x9 x10 b l g
  pointwise [val_main_v74, val_main_v73, val_main_v72, val_main_v71, val_main_v70, val_main_v69, val_main_v68, val_main_v67, val_main_v66, val_main_v65,
    val_main_call3_v0, val_main_call3_v1, val_main_call3_v2, val_main_cst, id,
    val_main_v64, val_main_v63, val_main_v62, val_main_v61, val_main_v60, val_main_v59, val_main_v58, val_main_v57, val_main_v56, val_main_v55,
    val_main_v54, val_main_v53, val_main_v52, hc, hd, hb, hm]
  refine congrArg (fun q => _ * Ideal.exp q * _) ?_
  rw [sge_at, bot_word]
  by_cases q : s ≤ l
  · rw [if_pos q, if_pos q]; rfl
  · rw [if_neg q, if_neg q]; rfl

theorem grp_mk (g : Fin 2) (e : Fin 8) : grp ⟨g * 8 + e, hd_lt g e⟩ = g :=
  Fin.ext (show (g.val * 8 + e.val) / 8 = g.val by omega)

theorem head_mk (g : Fin 2) (e : Fin 8) (p : Fin 64) : head ⟨(g * 8 + e) * 64 + p, ch_lt g e p⟩ = ⟨g * 8 + e, hd_lt g e⟩ :=
  Fin.ext (show ((g.val * 8 + e.val) * 64 + p.val) / 64 = g.val * 8 + e.val by omega)

theorem pos_mk (g : Fin 2) (e : Fin 8) (p : Fin 64) : pos ⟨(g * 8 + e) * 64 + p, ch_lt g e p⟩ = p :=
  Fin.ext (show ((g.val * 8 + e.val) * 64 + p.val) % 64 = p.val by omega)

theorem chan_mk (g : Fin 2) (e : Fin 8) (p : Fin 64) : chan ⟨g * 8 + e, hd_lt g e⟩ p = ⟨(g * 8 + e) * 64 + p, ch_lt g e p⟩ :=
  Fin.ext (show 64 * (g.val * 8 + e.val) + p.val = (g.val * 8 + e.val) * 64 + p.val by omega)

theorem ydiag_at (b : Fin 32) (l : Fin 4) (g : Fin 2) (e : Fin 8) (p : Fin 64) :
    val_main_v76 (F := Ideal) x0 x1 x2 x5 x6 x7 x8 (ix5 b l g e p) = ydiag (row x0 x1 x2 x3 x4 b) (par x5 x6 x7 x8 x9 x10) l ⟨(g * 8 + e) * 64 + p, ch_lt g e p⟩ := by
  have hx := fun l => xs_at x0 x1 x2 x3 x4 x5 x6 x7 x8 x9 x10 b l g e p
  have hw := fun s => w_at x0 x1 x2 x3 x4 x5 x6 x7 x8 x9 x10 b l s g e
  pointwise [val_main_v76, val_main_v75, hx, hw]
  unfold ydiag
  refine Finset.sum_congr rfl fun s _ => ?_
  by_cases q : s ≤ l
  · rw [if_pos q, if_pos q, mul_comm]
    unfold coef cbv
    rw [head_mk, grp_mk]
    refine congrArg (fun q => q * _ * _ * _) (Finset.sum_congr rfl fun n _ => mul_comm _ _)
  · rw [if_neg q, if_neg q, show Ideal.exp ⊥ = 0 from rfl, mul_zero, zero_mul, mul_zero]

theorem carry_at (b : Fin 32) (g : Fin 2) (e : Fin 8) (p : Fin 64) (n : Fin 128) :
    val_main_v92 (F := Ideal) x0 x1 x2 x4 x5 x6 x7 x8 (ix5 b g e p n) = hlast (row x0 x1 x2 x3 x4 b) (par x5 x6 x7 x8 x9 x10) ⟨g * 8 + e, hd_lt g e⟩ p n := by
  have hx := fun l => xs_at x0 x1 x2 x3 x4 x5 x6 x7 x8 x9 x10 b l g e p
  have hc := fun l => cum_at x0 x1 x2 x3 x4 x5 x6 x7 x8 x9 x10 b l g e
  have hd := fun l => dt_at x0 x1 x2 x3 x4 x5 x6 x7 x8 x9 x10 b l g e
  have hb := fun l => bm_at x0 x1 x2 x3 x4 x5 x6 x7 x8 x9 x10 b l g n
  have hh := h0_at x0 x1 x2 x3 x4 b g e p n
  pointwise [val_main_v92, val_main_v91, val_main_v90, val_main_v89, val_main_v88, val_main_v87, val_main_v86, val_main_v85, val_main_v84, val_main_v83,
    val_main_v82, val_main_v81, val_main_v80, val_main_v79, val_main_v78, val_main_v77, hx, hc, hd, hb, hh]
  unfold hlast keep
  rw [chan_mk, grp_mk]
  refine congrArg₂ (fun p q => p + q) (mul_comm _ _) (Finset.sum_congr rfl fun s _ => congrArg (fun q => q * _) (mul_comm _ _))

theorem y_at (b : Fin 32) (l : Fin 4) (g : Fin 2) (e : Fin 8) (p : Fin 64) :
    val_main_v105 (F := Ideal) x0 x1 x2 x4 x5 x6 x7 x8 x9 (ix5 b l g e p) = y (row x0 x1 x2 x3 x4 b) (par x5 x6 x7 x8 x9 x10) l ⟨(g * 8 + e) * 64 + p, ch_lt g e p⟩ := by
  have hx := xs_at x0 x1 x2 x3 x4 x5 x6 x7 x8 x9 x10 b l g e p
  have hc := cum_at x0 x1 x2 x3 x4 x5 x6 x7 x8 x9 x10 b l g e
  have hm := cm_at x0 x1 x2 x3 x4 x5 x6 x7 x8 x9 x10 b l g
  have hh := h0_at x0 x1 x2 x3 x4 b g e p
  have hy := ydiag_at x0 x1 x2 x3 x4 x5 x6 x7 x8 x9 x10 b l g e p
  pointwise [val_main_v105, val_main_v104, val_main_v103, val_main_v102, val_main_v101, val_main_v100, val_main_v99, val_main_v98, val_main_v97,
    val_main_v96, val_main_v95, val_main_v94, val_main_v93, hx, hc, hm, hh, hy]
  unfold y yoff
  rw [head_mk, grp_mk, pos_mk]
  refine (add_comm _ _).trans ((add_assoc _ _ _).symm.trans ?_)
  exact congrArg (fun q => ((par x5 x6 x7 x8 x9 x10)).dsk ⟨g * 8 + e, hd_lt g e⟩ * xs (row x0 x1 x2 x3 x4 b) (par x5 x6 x7 x8 x9 x10) l ⟨(g * 8 + e) * 64 + p, ch_lt g e p⟩
    + ydiag (row x0 x1 x2 x3 x4 b) (par x5 x6 x7 x8 x9 x10) l ⟨(g * 8 + e) * 64 + p, ch_lt g e p⟩ + q * _) (Finset.sum_congr rfl fun n _ => mul_comm _ _)

theorem yz_at (b : Fin 32) (l : Fin 4) (c : Fin 1024) :
    val_main_v108 (F := Ideal) x0 x1 x2 x3 x4 x5 x6 x7 x8 x9 (ix3 b l c) = yz (row x0 x1 x2 x3 x4 b) (par x5 x6 x7 x8 x9 x10) l c := by
  have h := y_at x0 x1 x2 x3 x4 x5 x6 x7 x8 x9 x10 b l ⟨c / 512, by omega⟩ ⟨c / 64 % 8, by omega⟩ ⟨c % 64, by omega⟩
  rw [show (⟨(c.val / 512 * 8 + c.val / 64 % 8) * 64 + c.val % 64, ch_lt ⟨c / 512, by omega⟩ ⟨c / 64 % 8, by omega⟩ ⟨c % 64, by omega⟩⟩ : Fin 1024) = c from
    Fin.ext (show (c.val / 512 * 8 + c.val / 64 % 8) * 64 + c.val % 64 = c.val by omega)] at h
  unfold yz
  rw [← h]
  pointwise [val_main_v108, val_main_v107, val_main_v106, val_main_call4_v0, val_main_call4_v1, val_main_call4_cst, val_main_call4_v2, val_main_call4_v3,
    val_main_call4_cst_0, val_main_call4_v4, val_main_call4_v5, silu, row, rowOf]
  exact congrArg (fun q => _ * (_ * Ideal.div 1 (1 + Ideal.exp q))) (zero_sub _).symm

theorem gated_at (b : Fin 32) (l : Fin 4) (c : Fin 1024) :
    val_main_v124 (F := Ideal) x0 x1 x2 x3 x4 x5 x6 x7 x8 x9 x10 (ix3 b l c) = sn (row x0 x1 x2 x3 x4 b) (par x5 x6 x7 x8 x9 x10) l c := by
  have h := fun c => yz_at x0 x1 x2 x3 x4 x5 x6 x7 x8 x9 x10 b l c
  pointwise [val_main_v124, val_main_v123, val_main_v122, val_main_v121, val_main_v120, val_main_v119, val_main_v118, val_main_v117, val_main_v116, val_main_v115,
    val_main_v114, val_main_v113, val_main_v112, val_main_v111, val_main_v110, val_main_v109, val_main_cst_0, val_main_cst_1, val_main_cst_2, h]
  unfold sn
  refine congrArg (fun q => _ * Ideal.rsqrt (Ideal.div q _ + _) * _) (Finset.sum_congr rfl fun k _ => ?_)
  rw [show (⟨c.val / 512 * 512 + k.val, by omega⟩ : Fin 1024) = ⟨512 * (c.val / 512) + k.val, by omega⟩ from
    Fin.ext (show c.val / 512 * 512 + k.val = 512 * (c.val / 512) + k.val by omega)]

theorem tail_at (b : Fin 32) (k : Fin 3) (ch : Fin 1536) :
    val_main_v32 (F := Ideal) x0 x1 (ix3 b k ch) = (row x0 x1 x2 x3 x4 b).w ⟨4 + k, by omega⟩ ch := by
  pointwise [val_main_v32, val_main_v0, row, rowOf]

theorem last_at (b : Fin 32) (h : Fin 16) (p : Fin 64) (n : Fin 128) :
    val_main_v125 (F := Ideal) x0 x1 x2 x4 x5 x6 x7 x8 (ix4 b h p n) = hlast (row x0 x1 x2 x3 x4 b) (par x5 x6 x7 x8 x9 x10) h p n := by
  have hc := carry_at x0 x1 x2 x3 x4 x5 x6 x7 x8 x9 x10 b ⟨h / 8, by omega⟩ ⟨h % 8, by omega⟩ p n
  rw [show (⟨h.val / 8 * 8 + h.val % 8, hd_lt ⟨h / 8, by omega⟩ ⟨h % 8, by omega⟩⟩ : Fin 16) = h from
    Fin.ext (show h.val / 8 * 8 + h.val % 8 = h.val by omega)] at hc
  rw [← hc]
  pointwise [val_main_v125]

end Cert.StepRefIdeal.Spec
-- ==== Proof.Step.Value.lean ====
module

public import proofs.«01_k».proof.Proof.Step.Final
public import proofs.«01_k».proof.Proof.Step.Ref
public import proofs.«01_k».proof.Proof.Gen.StepRefIdeal.Run
public import proofs.«01_k».proof.Defs

/-! The decoding step: the kernel's three results are the reference's. -/

@[expose] public section

set_option maxRecDepth 16384

noncomputable section

namespace Cert.Step.Value

open Idealize.ShloMosaic Idealize.ShloMosaic.TcCoe Idealize.SL.Sem

theorem frame_ref : Cert.quiescent_StepRefIdeal := fun m ρ _ => by
  exact (θ_run Cert.StepRefIdeal.defs _ _).mono (fun r h => ⟨fun c => (h c).2.2.2, sem_eq_zero_of_no_sems (by decide) r.2⟩)
    (Cert.StepRefIdeal.Value.run (F := Ideal) m ρ)

/-- The reference's run, its results as stages of the arguments. -/
theorem run_ref (m : (ℓ : Loc Cert.StepRefIdeal.nD Cert.StepRefIdeal.τ Cert.StepRefIdeal.sig) → Buf (Elt Ideal) ℓ) (ρ : Dev Cert.StepRefIdeal.nD → PrngReg) :
    θ_run (Cert.StepRefIdeal.defs (F := Ideal)) (onTc (τ := Cert.StepRefIdeal.τ) (Cert.StepRefIdeal.main (F := Ideal))) ⟨m, fun _ => 0, ρ⟩ fun r => ∀ c : Dev Cert.StepRefIdeal.nD,
      r.2.mem ((c : Thread Cert.StepRefIdeal.nD Cert.StepRefIdeal.τ).loc Cert.StepRefIdeal.main_v124) = Cert.StepRefIdeal.Read.val_main_v124 (F := Ideal) (m ((c : Thread Cert.StepRefIdeal.nD Cert.StepRefIdeal.τ).loc Cert.StepRefIdeal.main_arg0)) (m ((c : Thread Cert.StepRefIdeal.nD Cert.StepRefIdeal.τ).loc Cert.StepRefIdeal.main_arg1)) (m ((c : Thread Cert.StepRefIdeal.nD Cert.StepRefIdeal.τ).loc Cert.StepRefIdeal.main_arg2)) (m ((c : Thread Cert.StepRefIdeal.nD Cert.StepRefIdeal.τ).loc Cert.StepRefIdeal.main_arg3)) (m ((c : Thread Cert.StepRefIdeal.nD Cert.StepRefIdeal.τ).loc Cert.StepRefIdeal.main_arg4)) (m ((c : Thread Cert.StepRefIdeal.nD Cert.StepRefIdeal.τ).loc Cert.StepRefIdeal.main_arg5)) (m ((c : Thread Cert.StepRefIdeal.nD Cert.StepRefIdeal.τ).loc Cert.StepRefIdeal.main_arg6)) (m ((c : Thread Cert.StepRefIdeal.nD Cert.StepRefIdeal.τ).loc Cert.StepRefIdeal.main_arg7)) (m ((c : Thread Cert.StepRefIdeal.nD Cert.StepRefIdeal.τ).loc Cert.StepRefIdeal.main_arg8)) (m ((c : Thread Cert.StepRefIdeal.nD Cert.StepRefIdeal.τ).loc Cert.StepRefIdeal.main_arg9)) (m ((c : Thread Cert.StepRefIdeal.nD Cert.StepRefIdeal.τ).loc Cert.StepRefIdeal.main_arg10))
      ∧ r.2.mem ((c : Thread Cert.StepRefIdeal.nD Cert.StepRefIdeal.τ).loc Cert.StepRefIdeal.main_v32) = Cert.StepRefIdeal.Read.val_main_v32 (F := Ideal) (m ((c : Thread Cert.StepRefIdeal.nD Cert.StepRefIdeal.τ).loc Cert.StepRefIdeal.main_arg0)) (m ((c : Thread Cert.StepRefIdeal.nD Cert.StepRefIdeal.τ).loc Cert.StepRefIdeal.main_arg1))
      ∧ r.2.mem ((c : Thread Cert.StepRefIdeal.nD Cert.StepRefIdeal.τ).loc Cert.StepRefIdeal.main_v125) = Cert.StepRefIdeal.Read.val_main_v125 (F := Ideal) (m ((c : Thread Cert.StepRefIdeal.nD Cert.StepRefIdeal.τ).loc Cert.StepRefIdeal.main_arg0)) (m ((c : Thread Cert.StepRefIdeal.nD Cert.StepRefIdeal.τ).loc Cert.StepRefIdeal.main_arg1)) (m ((c : Thread Cert.StepRefIdeal.nD Cert.StepRefIdeal.τ).loc Cert.StepRefIdeal.main_arg2)) (m ((c : Thread Cert.StepRefIdeal.nD Cert.StepRefIdeal.τ).loc Cert.StepRefIdeal.main_arg4)) (m ((c : Thread Cert.StepRefIdeal.nD Cert.StepRefIdeal.τ).loc Cert.StepRefIdeal.main_arg5)) (m ((c : Thread Cert.StepRefIdeal.nD Cert.StepRefIdeal.τ).loc Cert.StepRefIdeal.main_arg6)) (m ((c : Thread Cert.StepRefIdeal.nD Cert.StepRefIdeal.τ).loc Cert.StepRefIdeal.main_arg7)) (m ((c : Thread Cert.StepRefIdeal.nD Cert.StepRefIdeal.τ).loc Cert.StepRefIdeal.main_arg8))
      ∧ r.2.mem ((c : Thread Cert.StepRefIdeal.nD Cert.StepRefIdeal.τ).loc Cert.StepRefIdeal.main_arg0) = m ((c : Thread Cert.StepRefIdeal.nD Cert.StepRefIdeal.τ).loc Cert.StepRefIdeal.main_arg0)
      ∧ r.2.mem ((c : Thread Cert.StepRefIdeal.nD Cert.StepRefIdeal.τ).loc Cert.StepRefIdeal.main_arg1) = m ((c : Thread Cert.StepRefIdeal.nD Cert.StepRefIdeal.τ).loc Cert.StepRefIdeal.main_arg1)
      ∧ r.2.mem ((c : Thread Cert.StepRefIdeal.nD Cert.StepRefIdeal.τ).loc Cert.StepRefIdeal.main_arg2) = m ((c : Thread Cert.StepRefIdeal.nD Cert.StepRefIdeal.τ).loc Cert.StepRefIdeal.main_arg2)
      ∧ r.2.mem ((c : Thread Cert.StepRefIdeal.nD Cert.StepRefIdeal.τ).loc Cert.StepRefIdeal.main_arg3) = m ((c : Thread Cert.StepRefIdeal.nD Cert.StepRefIdeal.τ).loc Cert.StepRefIdeal.main_arg3)
      ∧ r.2.mem ((c : Thread Cert.StepRefIdeal.nD Cert.StepRefIdeal.τ).loc Cert.StepRefIdeal.main_arg4) = m ((c : Thread Cert.StepRefIdeal.nD Cert.StepRefIdeal.τ).loc Cert.StepRefIdeal.main_arg4)
      ∧ r.2.mem ((c : Thread Cert.StepRefIdeal.nD Cert.StepRefIdeal.τ).loc Cert.StepRefIdeal.main_arg5) = m ((c : Thread Cert.StepRefIdeal.nD Cert.StepRefIdeal.τ).loc Cert.StepRefIdeal.main_arg5)
      ∧ r.2.mem ((c : Thread Cert.StepRefIdeal.nD Cert.StepRefIdeal.τ).loc Cert.StepRefIdeal.main_arg6) = m ((c : Thread Cert.StepRefIdeal.nD Cert.StepRefIdeal.τ).loc Cert.StepRefIdeal.main_arg6)
      ∧ r.2.mem ((c : Thread Cert.StepRefIdeal.nD Cert.StepRefIdeal.τ).loc Cert.StepRefIdeal.main_arg7) = m ((c : Thread Cert.StepRefIdeal.nD Cert.StepRefIdeal.τ).loc Cert.StepRefIdeal.main_arg7)
      ∧ r.2.mem ((c : Thread Cert.StepRefIdeal.nD Cert.StepRefIdeal.τ).loc Cert.StepRefIdeal.main_arg8) = m ((c : Thread Cert.StepRefIdeal.nD Cert.StepRefIdeal.τ).loc Cert.StepRefIdeal.main_arg8)
      ∧ r.2.mem ((c : Thread Cert.StepRefIdeal.nD Cert.StepRefIdeal.τ).loc Cert.StepRefIdeal.main_arg9) = m ((c : Thread Cert.StepRefIdeal.nD Cert.StepRefIdeal.τ).loc Cert.StepRefIdeal.main_arg9)
      ∧ r.2.mem ((c : Thread Cert.StepRefIdeal.nD Cert.StepRefIdeal.τ).loc Cert.StepRefIdeal.main_arg10) = m ((c : Thread Cert.StepRefIdeal.nD Cert.StepRefIdeal.τ).loc Cert.StepRefIdeal.main_arg10) :=
  (θ_run Cert.StepRefIdeal.defs _ _).mono (fun _ h c => ⟨(h c).1.trans (Cert.StepRefIdeal.Read.val_main_v124_eq _),
      (h c).2.1.trans (Cert.StepRefIdeal.Read.val_main_v32_eq _), (h c).2.2.1.trans (Cert.StepRefIdeal.Read.val_main_v125_eq _), (h c).2.2.2⟩)
    (Cert.StepRefIdeal.Value.run m ρ)

theorem val_v124 (m : (ℓ : Loc Cert.StepIdeal.nD Cert.StepIdeal.τ Cert.StepIdeal.sig) → Buf (Elt Ideal) ℓ) (c : Dev Cert.StepIdeal.nD) :
    Cert.StepRefIdeal.Read.val_main_v124 (F := Ideal) (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4)) (m (c.tc.loc Cert.StepIdeal.main_arg5)) (m (c.tc.loc Cert.StepIdeal.main_arg6)) (m (c.tc.loc Cert.StepIdeal.main_arg7)) (m (c.tc.loc Cert.StepIdeal.main_arg8)) (m (c.tc.loc Cert.StepIdeal.main_arg9)) (m (c.tc.loc Cert.StepIdeal.main_arg10)) = (Cert.StepIdeal.Gen.dats m 0 c).arrAt 12 Cert.StepIdeal.cfg0.N := by
  refine Eq.trans ?_ (Cert.StepIdeal.Body.final12 m c).symm
  funext i
  idx_vars i
  exact Cert.StepRefIdeal.Spec.gated_at (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4)) (m (c.tc.loc Cert.StepIdeal.main_arg5)) (m (c.tc.loc Cert.StepIdeal.main_arg6)) (m (c.tc.loc Cert.StepIdeal.main_arg7)) (m (c.tc.loc Cert.StepIdeal.main_arg8)) (m (c.tc.loc Cert.StepIdeal.main_arg9)) (m (c.tc.loc Cert.StepIdeal.main_arg10)) i0 i1 i2

theorem val_v32 (m : (ℓ : Loc Cert.StepIdeal.nD Cert.StepIdeal.τ Cert.StepIdeal.sig) → Buf (Elt Ideal) ℓ) (c : Dev Cert.StepIdeal.nD) :
    Cert.StepRefIdeal.Read.val_main_v32 (F := Ideal) (m (c.tc.loc Cert.StepIdeal.main_arg0)) (m (c.tc.loc Cert.StepIdeal.main_arg1)) = (Cert.StepIdeal.Gen.dats m 0 c).arrAt 13 Cert.StepIdeal.cfg0.N := by
  refine Eq.trans ?_ (Cert.StepIdeal.Body.final13 m c).symm
  funext i
  idx_vars i
  exact Cert.StepRefIdeal.Spec.tail_at (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4)) i0 i1 i2

theorem val_v125 (m : (ℓ : Loc Cert.StepIdeal.nD Cert.StepIdeal.τ Cert.StepIdeal.sig) → Buf (Elt Ideal) ℓ) (c : Dev Cert.StepIdeal.nD) :
    Cert.StepRefIdeal.Read.val_main_v125 (F := Ideal) (m (c.tc.loc Cert.StepIdeal.main_arg0)) (m (c.tc.loc Cert.StepIdeal.main_arg1)) (m (c.tc.loc Cert.StepIdeal.main_arg2)) (m (c.tc.loc Cert.StepIdeal.main_arg4)) (m (c.tc.loc Cert.StepIdeal.main_arg5)) (m (c.tc.loc Cert.StepIdeal.main_arg6)) (m (c.tc.loc Cert.StepIdeal.main_arg7)) (m (c.tc.loc Cert.StepIdeal.main_arg8)) = (Cert.StepIdeal.Gen.dats m 0 c).arrAt 14 Cert.StepIdeal.cfg0.N := by
  refine Eq.trans ?_ (Cert.StepIdeal.Body.final14 m c).symm
  funext i
  idx_vars i
  exact Cert.StepRefIdeal.Spec.last_at (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4)) (m (c.tc.loc Cert.StepIdeal.main_arg5)) (m (c.tc.loc Cert.StepIdeal.main_arg6)) (m (c.tc.loc Cert.StepIdeal.main_arg7)) (m (c.tc.loc Cert.StepIdeal.main_arg8)) (m (c.tc.loc Cert.StepIdeal.main_arg9)) (m (c.tc.loc Cert.StepIdeal.main_arg10)) i0 i1 i2 i3

theorem algebraic : Cert.algebraic_StepIdeal_StepRefIdeal := by
  pair_intro
  · run_from Cert.StepIdeal.Value.run_blocks m g
  · run_from run_ref m' g'
    · exact val_v124 m c
    · exact val_v32 m c
    · exact val_v125 m c

end Cert.Step.Value

end
-- ==== Proof.Ffn.Body.lean ====
module

public import proofs.«01_k».proof.Proof.Gen.FfnIdeal.Value
public import Idealize.ShloMosaic.Lib.Pointwise
public import Idealize.ShloMosaic.Lib.Pipeline.ValueKit
public import Idealize.ShloMosaic.Lib.Pipeline.ReadBack

/-! The gated feed-forward layer: its mathematics over the extended reals, one token's row at a time, and the vectors
    the kernel's body computes read at an index in these words. -/

@[expose] public section

set_option maxRecDepth 16384

noncomputable section

namespace Cert.Ffn

open Idealize.ShloMosaic Idealize.ShloMosaic.TcCoe Idealize.SL.Sem

/-- A row divided by its root mean square, times the gain. -/
def nrm (x g : Fin 2048 → EReal) (k : Fin 2048) : EReal :=
  x k * Ideal.rsqrt (Ideal.div (∑ j, x j * x j) (Ideal.ofBits FTy.f32 1157627904#32) + Ideal.ofBits FTy.f32 897988541#32) * g k

/-- One hidden unit: the gate's sigmoid linear unit times the other projection. -/
def hid (h a b : Fin 2048 → EReal) : EReal :=
  (∑ j, h j * a j) * Ideal.div 1 (1 + Ideal.exp (0 - ∑ j, h j * a j)) * ∑ j, h j * b j

end Cert.Ffn

namespace Cert.FfnIdeal.Body

open Idealize.ShloMosaic Idealize.ShloMosaic.TcCoe Idealize.SL.Sem
open Idealize.ShloMosaic.Pipeline (Dat)
open Cert.FfnIdeal Cert.FfnIdeal.Gen Cert.Ffn

/-- What 512 hidden units add to a row. -/
def part (h : Fin 2048 → EReal) (wg wu : Vec Ideal S2048x512 .bf16) (wd : Vec Ideal S512x2048 .bf16) (l : Fin 2048) : EReal :=
  ∑ x : Fin 512, hid h (fun j => wg (ix2 j x)) (fun j => wu (ix2 j x)) * wd (ix2 x l)

theorem pay2_at (x : Vec Ideal S1024x2048 .f32) (g : Vec Ideal S1x2048 .f32) (r : Fin 1024) (k : Fin 2048) :
    k0_pay2 x g (ix2 r k) = nrm (fun j => x (ix2 r j)) (fun j => g (ix2 0 j)) k := by
  pointwise [k0_pay2]
  rfl

section
variable (hn : Vec Ideal S512x2048 .bf16) (wg wu : Vec Ideal S2048x512 .bf16) (o : Vec Ideal S512x2048 .f32) (wd : Vec Ideal S512x2048 .bf16)

theorem pay3_at (r : Fin 512) (l : Fin 2048) :
    k0_pay3 hn wg wu o wd (ix2 r l) = o (ix2 r l) + part (fun j => hn (ix2 r j)) wg wu wd l := by
  pointwise [k0_pay3]
  rfl

theorem pay1_at (r : Fin 512) (l : Fin 2048) :
    k0_pay1 hn (k0_pay4 hn wg) wu o wd (ix2 r l) = o (ix2 r l) + part (fun j => hn (ix2 r j)) wg wu wd l := by
  pointwise [k0_pay1, k0_pay4]
  rfl
end

section
variable (H : Vec Ideal S1024x2048 .bf16) (O : Vec Ideal S1024x2048 .f32) (wg wu : Vec Ideal S2048x512 .bf16) (wd : Vec Ideal S512x2048 .bf16)

theorem top_at (r : Fin 512) (l : Fin 2048) :
    k0_pay3 (View.ld H (Rect.unit ![0, 0] ![512, 2048] inb_S1024x2048_S512x2048_0_0)) wg wu
      (View.ld O (Rect.unit ![0, 0] ![512, 2048] inb_S1024x2048_S512x2048_0_0)) wd (ix2 r l)
      = O (ix2 ⟨r, by omega⟩ l) + part (fun j => H (ix2 ⟨r, by omega⟩ j)) wg wu wd l := by
  rw [pay3_at]
  pointwise
  blk_ext

theorem low_at (r : Fin 512) (l : Fin 2048) :
    k0_pay1 (View.ld H (Rect.unit ![512, 0] ![512, 2048] inb_S1024x2048_S512x2048_512_0))
      (k0_pay4 (View.ld H (Rect.unit ![512, 0] ![512, 2048] inb_S1024x2048_S512x2048_512_0)) wg) wu
      (View.ld O (Rect.unit ![512, 0] ![512, 2048] inb_S1024x2048_S512x2048_512_0)) wd (ix2 r l)
      = O (ix2 ⟨512 + r, by omega⟩ l) + part (fun j => H (ix2 ⟨512 + r, by omega⟩ j)) wg wu wd l := by
  rw [pay1_at]
  pointwise
  blk_ext
end

end Cert.FfnIdeal.Body
-- ==== Proof.Ffn.Final.lean ====
module

public import proofs.«01_k».proof.Proof.Ffn.Body

/-! What the feed-forward layer's launch leaves in its result: each token's row, plus the hidden units' contributions,
    eleven groups of 512 one after the other. -/

@[expose] public section

set_option maxRecDepth 16384

noncomputable section

namespace Cert.FfnIdeal.Body

open Idealize.ShloMosaic Idealize.ShloMosaic.TcCoe Idealize.SL.Sem
open Idealize.ShloMosaic.Pipeline (Dat)
open Cert.FfnIdeal Cert.FfnIdeal.Gen Cert.Ffn

section
variable (H : Vec Ideal S1024x2048 .bf16) (O : Vec Ideal S1024x2048 .f32) (wg wu : Vec Ideal S2048x512 .bf16) (wd : Vec Ideal S512x2048 .bf16)

/-- A block after one group of hidden units. -/
def grow (y : S1024x2048.Idx) : EReal := O y + part (fun j => H (ix2 (y 0) j)) wg wu wd (y 1)

/-- The two halves of the block, stored one after the other. -/
abbrev halves : List (View.Piece (Elt Ideal) S1024x2048 .f32) :=
  [⟨Rect.unit (s := S1024x2048) ![512, 0] ![512, 2048] inb_S1024x2048_S512x2048_512_0,
      k0_pay1 (View.ld H (Rect.unit ![512, 0] ![512, 2048] inb_S1024x2048_S512x2048_512_0))
        (k0_pay4 (View.ld H (Rect.unit ![512, 0] ![512, 2048] inb_S1024x2048_S512x2048_512_0)) wg) wu
        (View.ld O (Rect.unit ![512, 0] ![512, 2048] inb_S1024x2048_S512x2048_512_0)) wd⟩,
    ⟨Rect.unit (s := S1024x2048) ![0, 0] ![512, 2048] inb_S1024x2048_S512x2048_0_0,
      k0_pay3 (View.ld H (Rect.unit ![0, 0] ![512, 2048] inb_S1024x2048_S512x2048_0_0)) wg wu
        (View.ld O (Rect.unit ![0, 0] ![512, 2048] inb_S1024x2048_S512x2048_0_0)) wd⟩]

theorem halves_of : View.PiecesOf (grow H O wg wu wd) (halves H O wg wu wd) := by
  refine ⟨fun x => ?_, fun x => ?_, trivial⟩
  · change S512x2048.Idx at x
    idx_vars x
    refine (low_at H O wg wu wd x0 x1).trans (congrArg (grow H O wg wu wd) (a₁ := ix2 ⟨512 + x0, by omega⟩ x1) ?_)
    blk_ext
  · change S512x2048.Idx at x
    idx_vars x
    refine (top_at H O wg wu wd x0 x1).trans (congrArg (grow H O wg wu wd) (a₁ := ix2 ⟨x0, by omega⟩ x1) ?_)
    blk_ext

theorem tiles (L : List (View.Piece (Elt Ideal) S1024x2048 .f32)) (r : Fin 1024) (l : Fin 2048) :
    View.canon (halves H O wg wu wd ++ L) (ix2 r l) = O (ix2 r l) + part (fun j => H (ix2 r j)) wg wu wd l :=
  View.canon_append_of_piecesOf _ L _ (halves_of H O wg wu wd) _ (View.cover_of_tiledL (halves H O wg wu wd) S512x2048.size (by sl_kernel_rfl) _)
end

variable (m : (ℓ : Loc nD τ sig) → Buf (Elt Ideal) ℓ) (c : Dev nD)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

theorem v0_at (k : Fin 2048) : (V m c main_v0 : Vec Ideal S1x2048 .f32) (ix2 0 k) = (m ((c : Thread nD τ).loc main_arg1) : Vec Ideal S2048 .f32) (ix1 k) := by
  unfold V
  simp only [List.flatten_cons, List.flatten_nil, List.append_nil, List.cons_append, List.nil_append, hostOps0]
  after_results
  pointwise

theorem v1 : (V m c main_v1 : Vec Ideal S2048x5632 .bf16) = (m ((c : Thread nD τ).loc main_arg2) : Vec Ideal S2048x5632 .f32) := by
  unfold V
  simp only [List.flatten_cons, List.flatten_nil, List.append_nil, List.cons_append, List.nil_append, hostOps0]
  after_results
  rfl

theorem v2 : (V m c main_v2 : Vec Ideal S2048x5632 .bf16) = (m ((c : Thread nD τ).loc main_arg3) : Vec Ideal S2048x5632 .f32) := by
  unfold V
  simp only [List.flatten_cons, List.flatten_nil, List.append_nil, List.cons_append, List.nil_append, hostOps0]
  after_results
  rfl

theorem v3 : (V m c main_v3 : Vec Ideal S5632x2048 .bf16) = (m ((c : Thread nD τ).loc main_arg4) : Vec Ideal S5632x2048 .f32) := by
  unfold V
  simp only [List.flatten_cons, List.flatten_nil, List.append_nil, List.cons_append, List.nil_append, hostOps0]
  after_results
  rfl

section
variable {m c}
theorem out_A (t : Fin cfg0.N) (h0 : t.val % 11 = 0) (r : Fin 1024) (l : Fin 2048) :
    (outsAt0 (F := Ideal) m c t.val t.isLt).1 (ix2 r l) = (show Vec Ideal S1024x2048 .f32 from iblk m c 0 t) (ix2 r l)
      + part (fun j => k0_pay2 (F := Ideal) (iblk m c 0 t) (iblk m c 1 t) (ix2 r j)) (iblk m c 2 t) (iblk m c 3 t) (iblk m c 4 t) l := by
  rw [outsAt0_A m c t h0]
  frame_open
  simp (disch := decide) only [↓ View.readCov_skip, ↓ View.readCov_cons_toLoadRect, ↓ View.readCov_fill]
  frame_out
  exact tiles _ _ _ _ _ [_] r l

theorem sc_A (t : Fin cfg0.N) (h0 : t.val % 11 = 0) :
    (outsAt0 (F := Ideal) m c t.val t.isLt).2 = k0_pay2 (F := Ideal) (iblk m c 0 t) (iblk m c 1 t) := by
  rw [outsAt0_A m c t h0]
  frame_out

theorem out_B (t : Fin cfg0.N) (h0 : ¬ t.val % 11 = 0) (hp : t.val - 1 < cfg0.N) (r : Fin 1024) (l : Fin 2048) :
    (outsAt0 (F := Ideal) m c t.val t.isLt).1 (ix2 r l) = (outsAt0 (F := Ideal) m c (t.val - 1) hp).1 (ix2 r l)
      + part (fun j => (outsAt0 (F := Ideal) m c (t.val - 1) hp).2 (ix2 r j)) (iblk m c 2 t) (iblk m c 3 t) (iblk m c 4 t) l := by
  rw [outsAt0_B m c t h0]
  frame_out
  simp only [read_unread_whole]
  exact tiles _ _ _ _ _ [] r l

theorem sc_B (t : Fin cfg0.N) (h0 : ¬ t.val % 11 = 0) (hp : t.val - 1 < cfg0.N) :
    (outsAt0 (F := Ideal) m c t.val t.isLt).2 = (outsAt0 (F := Ideal) m c (t.val - 1) hp).2 := by
  rw [outsAt0_B m c t h0]
  rfl
end

theorem place (f : Fin 16384 → Fin 2048 → EReal) {a a' : Fin 16384} {b b' : Fin 2048} (h : (a : ℕ) = a') (h' : (b : ℕ) = b') : f a b = f a' b' := by
  rw [Fin.ext h, Fin.ext h']

/-! The layer over the whole memory. -/

/-- Entry `l` of token `R`. -/
def tin (R : Fin 16384) (l : Fin 2048) : EReal := (m ((c : Thread nD τ).loc main_arg0) : Vec Ideal S16384x2048 .f32) (ix2 R l)

/-- Token `R`, normalised. -/
def hrow (R : Fin 16384) : Fin 2048 → EReal :=
  nrm (fun j => (m ((c : Thread nD τ).loc main_arg0) : Vec Ideal S16384x2048 .f32) (ix2 R j)) (fun j => (m ((c : Thread nD τ).loc main_arg1) : Vec Ideal S2048 .f32) (ix1 j))

/-- Hidden unit `f` of token `R`. -/
def hunit (R : Fin 16384) (f : Fin 5632) : EReal :=
  hid (hrow m c R) (fun j => (m ((c : Thread nD τ).loc main_arg2) : Vec Ideal S2048x5632 .f32) (ix2 j f))
    (fun j => (m ((c : Thread nD τ).loc main_arg3) : Vec Ideal S2048x5632 .f32) (ix2 j f))

/-- What hidden unit `f` adds to entry `l` of token `R`. -/
def adds (R : Fin 16384) (l : Fin 2048) (f : Fin 5632) : EReal :=
  hunit m c R f * (m ((c : Thread nD τ).loc main_arg4) : Vec Ideal S5632x2048 .f32) (ix2 f l)

/-- Row `r` of the grid's row block `i`. -/
abbrev tok (i : Fin 16) (r : Fin 1024) : Fin 16384 := ⟨1024 * i + r, by omega⟩

/-- Unit `x` of group `s`. -/
abbrev lane (s : Fin 11) (x : Fin 512) : Fin 5632 := ⟨s * 512 + x, by omega⟩

theorem pt_lt (i : Fin 16) (s : ℕ) (hs : s < 11) : 11 * (i : ℕ) + s < cfg0.N := lt_of_lt_of_eq (by omega : 11 * (i : ℕ) + s < 176) N_0.symm

/-- The grid point of row block `i` and group `s`. -/
abbrev pt (i : Fin 16) (s : ℕ) (hs : s < 11) : Fin cfg0.N := ⟨11 * i + s, pt_lt i s hs⟩

section
variable {m c} (i : Fin 16) (s : ℕ) (hs : s < 11)

theorem blk0 (r : Fin 1024) (j : Fin 2048) : (show Vec Ideal S1024x2048 .f32 from iblk m c 0 (pt i s hs)) (ix2 r j)
    = (m ((c : Thread nD τ).loc main_arg0) : Vec Ideal S16384x2048 .f32) (ix2 (tok i r) j) := by
  blk_point [iblk, V, idx (pt i s hs)]

theorem blk1 (j : Fin 2048) : (show Vec Ideal S1x2048 .f32 from iblk m c 1 (pt i s hs)) (ix2 0 j)
    = (m ((c : Thread nD τ).loc main_arg1) : Vec Ideal S2048 .f32) (ix1 j) := by
  refine Eq.trans ?_ (v0_at m c j)
  blk_ext [iblk, idx (pt i s hs)]

theorem blk2 (j : Fin 2048) (x : Fin 512) : (show Vec Ideal S2048x512 .bf16 from iblk m c 2 (pt i s hs)) (ix2 j x)
    = (m ((c : Thread nD τ).loc main_arg2) : Vec Ideal S2048x5632 .f32) (ix2 j (lane ⟨s, hs⟩ x)) := by
  refine Eq.trans ?_ (congrFun (v1 m c) (ix2 j (lane ⟨s, hs⟩ x)))
  blk_ext [iblk, idx (pt i s hs)]

theorem blk3 (j : Fin 2048) (x : Fin 512) : (show Vec Ideal S2048x512 .bf16 from iblk m c 3 (pt i s hs)) (ix2 j x)
    = (m ((c : Thread nD τ).loc main_arg3) : Vec Ideal S2048x5632 .f32) (ix2 j (lane ⟨s, hs⟩ x)) := by
  refine Eq.trans ?_ (congrFun (v2 m c) (ix2 j (lane ⟨s, hs⟩ x)))
  blk_ext [iblk, idx (pt i s hs)]

theorem blk4 (x : Fin 512) (l : Fin 2048) : (show Vec Ideal S512x2048 .bf16 from iblk m c 4 (pt i s hs)) (ix2 x l)
    = (m ((c : Thread nD τ).loc main_arg4) : Vec Ideal S5632x2048 .f32) (ix2 (lane ⟨s, hs⟩ x) l) := by
  refine Eq.trans ?_ (congrFun (v3 m c) (ix2 (lane ⟨s, hs⟩ x) l))
  blk_ext [iblk, idx (pt i s hs)]

theorem norm_at (r : Fin 1024) (k : Fin 2048) :
    k0_pay2 (F := Ideal) (iblk m c 0 (pt i s hs)) (iblk m c 1 (pt i s hs)) (ix2 r k) = hrow m c (tok i r) k := by
  rw [pay2_at]
  exact congrArg₂ (fun a b => nrm a b k) (funext fun j => blk0 i s hs r j) (funext fun j => blk1 i s hs j)

theorem part_at (r : Fin 1024) (l : Fin 2048) :
    part (hrow m c (tok i r)) (iblk m c 2 (pt i s hs)) (iblk m c 3 (pt i s hs)) (iblk m c 4 (pt i s hs)) l
      = ∑ x : Fin 512, adds m c (tok i r) l (lane ⟨s, hs⟩ x) :=
  Finset.sum_congr rfl fun x _ => congrArg₂ (· * ·)
    (congrArg₂ (hid (hrow m c (tok i r))) (funext fun j => blk2 i s hs j x) (funext fun j => blk3 i s hs j x)) (blk4 i s hs x l)

theorem sc_at (r : Fin 1024) (k : Fin 2048) :
    (outsAt0 (F := Ideal) m c (11 * (i : ℕ) + s) (pt_lt i s hs)).2 (ix2 r k) = hrow m c (tok i r) k := by
  induction s with
  | zero =>
    refine (congrFun (sc_A (pt i 0 hs) (by simp)) (ix2 r k)).trans ?_
    exact norm_at i 0 hs r k
  | succ s ih =>
    refine (congrFun (sc_B (pt i (s + 1) hs) (by simp; omega) (pt_lt i s (by omega))) (ix2 r k)).trans ?_
    exact ih (by omega)

theorem out_at (r : Fin 1024) (l : Fin 2048) :
    (outsAt0 (F := Ideal) m c (11 * (i : ℕ) + s) (pt_lt i s hs)).1 (ix2 r l)
      = tin m c (tok i r) l + ∑ g : Fin (s + 1), ∑ x : Fin 512, adds m c (tok i r) l (lane ⟨g, by omega⟩ x) := by
  induction s with
  | zero =>
    refine (out_A (pt i 0 hs) (by simp) r l).trans ?_
    rw [Fin.sum_univ_one]
    refine congrArg₂ (· + ·) (blk0 i 0 hs r l) ?_
    refine Eq.trans ?_ (part_at i 0 hs r l)
    exact congrArg (fun h => part h _ _ _ l) (funext fun j => norm_at i 0 hs r j)
  | succ s ih =>
    refine (out_B (pt i (s + 1) hs) (by simp; omega) (pt_lt i s (by omega)) r l).trans ?_
    rw [Fin.sum_univ_castSucc, ← add_assoc]
    refine congrArg₂ (· + ·) (ih (by omega)) ?_
    refine Eq.trans ?_ (part_at i (s + 1) hs r l)
    exact congrArg (fun h => part h _ _ _ l) (funext fun j => sc_at i s (by omega) r j)
end

theorem final : (dats m 0 c).arrAt 5 cfg0.N = fun y : S16384x2048.Idx => tin m c (y 0) (y 1) + ∑ f : Fin 5632, adds m c (y 0) (y 1) f := by
  refine (dats m 0 c).arrAt_eq_of_covers 5 _ (by decide +kernel) fun t hf y => ?_
  have ht : (t : ℕ) % 11 = 10 := (flush0_5 t).mp hf
  have htN : (t : ℕ) < 176 := lt_of_lt_of_eq t.isLt N_0
  obtain ⟨i, rfl⟩ : ∃ i : Fin 16, t = pt i 10 (by decide) := ⟨⟨(t : ℕ) / 11, by omega⟩, Fin.ext (by simp only []; omega)⟩
  blk_simp
  rw [after0_5]
  change S1024x2048.Idx at y
  idx_vars y
  refine (out_at i 10 (by decide) y0 y1).trans ?_
  rw [Fin.sum_mul_add_fin 11 512 (fun f => adds m c (tok i y0) y1 f)]
  refine place (fun R l => tin m c R l + ∑ f : Fin 5632, adds m c R l f) ?_ ?_ <;> blk_simp [idx (pt i 10 (by decide))]
  change 1024 * (i : ℕ) + y0 = (11 * (i : ℕ) + 10) / 11 * 1024 + y0
  omega

end Cert.FfnIdeal.Body
-- ==== Proof.Ffn.Ref.lean ====
module

public import proofs.«01_k».proof.Proof.Ffn.Body
public import proofs.«01_k».proof.Proof.Gen.FfnRefIdeal.Read

/-! The feed-forward layer's reference, stage by stage, in the words of `Cert.Ffn`. -/

@[expose] public section

set_option maxRecDepth 16384

noncomputable section

namespace Cert.FfnRefIdeal.Spec

open Idealize.ShloMosaic Idealize.ShloMosaic.TcCoe Idealize.SL.Sem
open Cert.FfnRefIdeal Cert.FfnRefIdeal.Read Cert.Ffn

variable (x0 : (⟨S16384x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

/-- Token `R` as the reference normalises it. -/
abbrev rn (R : Fin 16384) : Fin 2048 → EReal := nrm (fun j => x0 (ix2 R j)) (fun j => x1 (ix1 j))

theorem norm_at (R : Fin 16384) (k : Fin 2048) : val_main_v12 (F := Ideal) x0 x1 (ix2 R k) = rn x0 x1 R k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem gate_at (R : Fin 16384) (f : Fin 5632) : val_main_v13 (F := Ideal) x0 x1 x2 (ix2 R f) = ∑ j : Fin 2048, rn x0 x1 R j * x2 (ix2 j f) := by
  have h := norm_at x0 x1
  pointwise [val_main_v13, h]

theorem up_at (R : Fin 16384) (f : Fin 5632) : val_main_v15 (F := Ideal) x0 x1 x3 (ix2 R f) = ∑ j : Fin 2048, rn x0 x1 R j * x3 (ix2 j f) := by
  have h := norm_at x0 x1
  pointwise [val_main_v15, h]

theorem hid_at (R : Fin 16384) (f : Fin 5632) :
    val_main_v16 (F := Ideal) x0 x1 x2 x3 (ix2 R f) = hid (rn x0 x1 R) (fun j => x2 (ix2 j f)) (fun j => x3 (ix2 j f)) := by
  have h := gate_at x0 x1 x2
  have h' := up_at x0 x1 x3
  pointwise [val_main_v16, val_main_v14, val_main_call0_v5, val_main_call0_v4, val_main_call0_v3, val_main_call0_v2, val_main_call0_v1, val_main_call0_v0, val_main_call0_cst, val_main_call0_cst_0, h, h']
  unfold hid
  rw [zero_sub]

theorem res_at (R : Fin 16384) (l : Fin 2048) : val_main_v18 (F := Ideal) x0 x1 x2 x3 x4 (ix2 R l)
    = x0 (ix2 R l) + ∑ f : Fin 5632, hid (rn x0 x1 R) (fun j => x2 (ix2 j f)) (fun j => x3 (ix2 j f)) * x4 (ix2 f l) := by
  have h := hid_at x0 x1 x2 x3
  pointwise [val_main_v18, val_main_v17, h]

end Cert.FfnRefIdeal.Spec
-- ==== Proof.Ffn.Value.lean ====
module

public import proofs.«01_k».proof.Proof.Ffn.Final
public import proofs.«01_k».proof.Proof.Ffn.Ref
public import proofs.«01_k».proof.Proof.Gen.FfnRefIdeal.Run
public import proofs.«01_k».proof.Defs

/-! The feed-forward layer: the kernel's result is the reference's. -/

@[expose] public section

set_option maxRecDepth 16384

noncomputable section

namespace Cert.Ffn.Value

open Idealize.ShloMosaic Idealize.ShloMosaic.TcCoe Idealize.SL.Sem

theorem frame_ref : Cert.quiescent_FfnRefIdeal := fun m ρ _ => by
  exact (θ_run Cert.FfnRefIdeal.defs _ _).mono (fun r h => ⟨fun c => (h c).2, sem_eq_zero_of_no_sems (by decide) r.2⟩)
    (Cert.FfnRefIdeal.Value.run (F := Ideal) m ρ)

theorem val (m : (ℓ : Loc Cert.FfnIdeal.nD Cert.FfnIdeal.τ Cert.FfnIdeal.sig) → Buf (Elt Ideal) ℓ) (c : Dev Cert.FfnIdeal.nD) :
    Cert.FfnRefIdeal.Read.val_main_v18 (F := Ideal) (m (c.tc.loc Cert.FfnIdeal.main_arg0)) (m (c.tc.loc Cert.FfnIdeal.main_arg1)) (m (c.tc.loc Cert.FfnIdeal.main_arg2)) (m (c.tc.loc Cert.FfnIdeal.main_arg3)) (m (c.tc.loc Cert.FfnIdeal.main_arg4))
      = (Cert.FfnIdeal.Gen.dats m 0 c).arrAt 5 Cert.FfnIdeal.cfg0.N := by
  refine Eq.trans ?_ (Cert.FfnIdeal.Body.final m c).symm
  funext i
  idx_vars i
  exact Cert.FfnRefIdeal.Spec.res_at (m (c.tc.loc Cert.FfnIdeal.main_arg0)) (m (c.tc.loc Cert.FfnIdeal.main_arg1)) (m (c.tc.loc Cert.FfnIdeal.main_arg2)) (m (c.tc.loc Cert.FfnIdeal.main_arg3)) (m (c.tc.loc Cert.FfnIdeal.main_arg4)) i0 i1

theorem algebraic : Cert.algebraic_FfnIdeal_FfnRefIdeal := by
  pair_intro
  · run_from Cert.FfnIdeal.Value.run_blocks m g
  · run_from Cert.FfnRefIdeal.Value.run m' g'
    exact (Cert.FfnRefIdeal.Read.val_main_v18_eq _ _ _ _ _).trans (val m c)

end Cert.Ffn.Value

end
-- ==== Proof.Out.Body.lean ====
module

public import proofs.«01_k».proof.Proof.Gen.OutIdeal.Value
public import Idealize.ShloMosaic.Lib.Pointwise
public import Idealize.ShloMosaic.Lib.Pipeline.ValueKit
public import Idealize.ShloMosaic.Lib.Pipeline.ReadBack

/-! The mixer's output projection: its mathematics over the extended reals, one token's row at a time, and the vectors
    the kernel's body computes read at an index in these words. -/

@[expose] public section

set_option maxRecDepth 16384

noncomputable section

namespace Cert.Out

open Idealize.ShloMosaic Idealize.ShloMosaic.TcCoe Idealize.SL.Sem

/-- A row divided by its root mean square, times the gain. -/
def nrm (x g : Fin 1024 → EReal) (k : Fin 1024) : EReal :=
  x k * Ideal.rsqrt (Ideal.div (∑ j, x j * x j) (Ideal.ofBits FTy.f32 1149239296#32) + Ideal.ofBits FTy.f32 897988541#32) * g k

/-- The normalised attention row beside the recurrence's row, times a column of the weights. -/
def mixd (a s g : Fin 1024 → EReal) (w : Fin 2048 → EReal) : EReal :=
  (∑ x : Fin 1024, nrm a g x * w ⟨x, by omega⟩) + ∑ x : Fin 1024, s x * w ⟨1024 + x, by omega⟩

end Cert.Out

namespace Cert.OutIdeal.Body

open Idealize.ShloMosaic Idealize.ShloMosaic.TcCoe Idealize.SL.Sem
open Idealize.ShloMosaic.Pipeline (Dat)
open Cert.OutIdeal Cert.OutIdeal.Gen Cert.Out

section
variable (a : Vec Ideal S256x1024 .f32) (g : Vec Ideal S1x1024 .f32) (s : Vec Ideal S256x1024 .bf16) (x : Vec Ideal S256x2048 .f32) (w : Vec Ideal S2048x2048 .bf16)

theorem pay2_at (r : Fin 256) (l : Fin 2048) :
    k0_pay2 a g s x w (ix2 r l) = x (ix2 r l) + mixd (fun j => a (ix2 r j)) (fun j => s (ix2 r j)) (fun j => g (ix2 0 j)) (fun k => w (ix2 k l)) := by
  pointwise [k0_pay2]
  rfl

theorem pay1_at (r : Fin 256) (l : Fin 2048) :
    k0_pay1 (k0_pay3 a) (k0_pay4 g) (k0_pay5 a) s x w (ix2 r l)
      = x (ix2 r l) + mixd (fun j => a (ix2 r j)) (fun j => s (ix2 r j)) (fun j => g (ix2 0 j)) (fun k => w (ix2 k l)) := by
  pointwise [k0_pay1, k0_pay3, k0_pay4, k0_pay5]
  rfl
end

variable (A : Vec Ideal S512x1024 .f32) (S : Vec Ideal S512x1024 .bf16) (X : Vec Ideal S512x2048 .f32) (G : Vec Ideal S1x1024 .f32) (W : Vec Ideal S2048x2048 .bf16)

/-- One block of the result. -/
def block (y : S512x2048.Idx) : EReal :=
  X y + mixd (fun j => A (ix2 (y 0) j)) (fun j => S (ix2 (y 0) j)) (fun j => G (ix2 0 j)) (fun k => W (ix2 k (y 1)))

theorem out_at (r : Fin 512) (l : Fin 2048) : out0_5 A S X G W (ix2 r l) = block A S X G W (ix2 r l) := by
  unfold out0_5
  canon_tiles x h
  · idx_vars x
    rw [pay1_at]
    obtain rfl : r = ⟨256 + x0, by clear h0; omega⟩ := Fin.ext h0
    obtain rfl : l = x1 := Fin.ext h1
    pointwise [block]
    blk_ext
  · idx_vars x
    rw [pay2_at]
    obtain rfl : r = ⟨x0, by clear h0; omega⟩ := Fin.ext h0
    obtain rfl : l = x1 := Fin.ext h1
    pointwise [block]
    blk_ext

end Cert.OutIdeal.Body
-- ==== Proof.Out.Final.lean ====
module

public import proofs.«01_k».proof.Proof.Out.Body

/-! What the output projection's launch leaves in its result. -/

@[expose] public section

set_option maxRecDepth 16384

noncomputable section

namespace Cert.OutIdeal.Body

open Idealize.ShloMosaic Idealize.ShloMosaic.TcCoe Idealize.SL.Sem
open Idealize.ShloMosaic.Pipeline (Dat)
open Cert.OutIdeal Cert.OutIdeal.Gen Cert.Out

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The sequence and the place of token `R`. -/
abbrev sq (R : Fin 16384) : Fin 8 := ⟨(R : ℕ) / 2048, by omega⟩
abbrev pl (R : Fin 16384) : Fin 2048 := ⟨(R : ℕ) % 2048, by omega⟩

theorem v0_at (R : Fin 16384) (l : Fin 2048) : (V m c main_v0 : Vec Ideal S16384x2048 .f32) (ix2 R l)
    = (m ((c : Thread nD τ).loc main_arg2) : Vec Ideal S8x2048x2048 .f32) (ix3 (sq R) (pl R) l) := by
  unfold V
  simp only [List.flatten_cons, List.flatten_nil, List.append_nil, List.cons_append, List.nil_append, hostOps0]
  after_results
  pointwise

theorem v1_at (R : Fin 16384) (l : Fin 1024) : (V m c main_v1 : Vec Ideal S16384x1024 .f32) (ix2 R l)
    = (m ((c : Thread nD τ).loc main_arg0) : Vec Ideal S8x2048x1024 .f32) (ix3 (sq R) (pl R) l) := by
  unfold V
  simp only [List.flatten_cons, List.flatten_nil, List.append_nil, List.cons_append, List.nil_append, hostOps0]
  after_results
  pointwise

theorem v2_at (R : Fin 16384) (l : Fin 1024) : (V m c main_v2 : Vec Ideal S16384x1024 .bf16) (ix2 R l)
    = (m ((c : Thread nD τ).loc main_arg1) : Vec Ideal S8x2048x1024 .bf16) (ix3 (sq R) (pl R) l) := by
  unfold V
  simp only [List.flatten_cons, List.flatten_nil, List.append_nil, List.cons_append, List.nil_append, hostOps0]
  after_results
  pointwise

theorem v3_at (l : Fin 1024) : (V m c main_v3 : Vec Ideal S1x1024 .f32) (ix2 0 l) = (m ((c : Thread nD τ).loc main_arg3) : Vec Ideal S1024 .f32) (ix1 l) := by
  unfold V
  simp only [List.flatten_cons, List.flatten_nil, List.append_nil, List.cons_append, List.nil_append, hostOps0]
  after_results
  pointwise

theorem v4 : (V m c main_v4 : Vec Ideal S2048x2048 .bf16) = (m ((c : Thread nD τ).loc main_arg4) : Vec Ideal S2048x2048 .f32) := by
  unfold V
  simp only [List.flatten_cons, List.flatten_nil, List.append_nil, List.cons_append, List.nil_append, hostOps0]
  after_results
  rfl

/-- Entry `l` of token `R` before the projection is added. -/
def tin (R : Fin 16384) (l : Fin 2048) : EReal := (m ((c : Thread nD τ).loc main_arg2) : Vec Ideal S8x2048x2048 .f32) (ix3 (sq R) (pl R) l)

/-- Entry `l` of token `R` after the projection. -/
def tout (R : Fin 16384) (l : Fin 2048) : EReal :=
  tin m c R l + mixd (fun j => (m ((c : Thread nD τ).loc main_arg0) : Vec Ideal S8x2048x1024 .f32) (ix3 (sq R) (pl R) j))
        (fun j => (m ((c : Thread nD τ).loc main_arg1) : Vec Ideal S8x2048x1024 .bf16) (ix3 (sq R) (pl R) j))
        (fun j => (m ((c : Thread nD τ).loc main_arg3) : Vec Ideal S1024 .f32) (ix1 j))
        (fun k => (m ((c : Thread nD τ).loc main_arg4) : Vec Ideal S2048x2048 .f32) (ix2 k l))

theorem n_lt (t : Fin cfg0.N) : (t : ℕ) < 32 := lt_of_lt_of_eq t.isLt N_0

/-- Row `r` of the grid's row block `t`. -/
abbrev tok (t : Fin cfg0.N) (r : Fin 512) : Fin 16384 := ⟨t * 512 + r, by have := n_lt t; omega⟩

theorem block_at (t : Fin cfg0.N) (r : Fin 512) (l : Fin 2048) :
    block (iblk m c 0 t) (iblk m c 1 t) (iblk m c 2 t) (iblk m c 3 t) (iblk m c 4 t) (ix2 r l) = tout m c (tok t r) l := by
  have e0 : ∀ j : Fin 1024, (show Vec Ideal S512x1024 .f32 from iblk m c 0 t) (ix2 r j) = _ := fun j => Eq.trans (b := (V m c main_v1 : Vec Ideal S16384x1024 .f32) (ix2 (tok t r) j)) (by blk_ext [iblk, idx t]) (v1_at m c (tok t r) j)
  have e1 : ∀ j : Fin 1024, (show Vec Ideal S512x1024 .bf16 from iblk m c 1 t) (ix2 r j) = _ := fun j => Eq.trans (b := (V m c main_v2 : Vec Ideal S16384x1024 .bf16) (ix2 (tok t r) j)) (by blk_ext [iblk, idx t]) (v2_at m c (tok t r) j)
  have e2 : (show Vec Ideal S512x2048 .f32 from iblk m c 2 t) (ix2 r l) = _ := Eq.trans (b := (V m c main_v0 : Vec Ideal S16384x2048 .f32) (ix2 (tok t r) l)) (by blk_ext [iblk, idx t]) (v0_at m c (tok t r) l)
  have e3 : ∀ j : Fin 1024, (show Vec Ideal S1x1024 .f32 from iblk m c 3 t) (ix2 0 j) = _ := fun j => Eq.trans (b := (V m c main_v3 : Vec Ideal S1x1024 .f32) (ix2 0 j)) (by blk_ext [iblk, idx t]) (v3_at m c j)
  have e4 : ∀ k : Fin 2048, (show Vec Ideal S2048x2048 .bf16 from iblk m c 4 t) (ix2 k l) = _ := fun k => Eq.trans (b := (V m c main_v4 : Vec Ideal S2048x2048 .bf16) (ix2 k l)) (by blk_ext [iblk, idx t]) (congrFun (v4 m c) (ix2 k l))
  refine congrArg₂ (· + ·) e2 ?_
  change mixd _ _ _ _ = mixd _ _ _ _
  congr 1
  · exact funext e0
  · exact funext e1
  · exact funext e3
  · exact funext e4

theorem place (f : Fin 16384 → Fin 2048 → EReal) {a a' : Fin 16384} {b b' : Fin 2048} (h : (a : ℕ) = a') (h' : (b : ℕ) = b') : f a b = f a' b' := by
  rw [Fin.ext h, Fin.ext h']

theorem final : (dats m 0 c).arrAt 5 cfg0.N = fun y : S16384x2048.Idx => tout m c (y 0) (y 1) := by
  refine (dats m 0 c).arrAt_eq_of_covers 5 _ (by decide +kernel) fun t hf y => ?_
  blk_simp
  rw [after0_5]
  change S512x2048.Idx at y
  idx_vars y
  refine ((out_at _ _ _ _ _ y0 y1).trans (block_at m c t y0 y1)).trans ?_
  refine place (tout m c) ?_ ?_ <;> blk_simp [idx t]

end Cert.OutIdeal.Body
-- ==== Proof.Out.Ref.lean ====
module

public import proofs.«01_k».proof.Proof.Out.Body
public import proofs.«01_k».proof.Proof.Gen.OutRefIdeal.Read

/-! The output projection's reference, stage by stage, in the words of `Cert.Out`. -/

@[expose] public section

set_option maxRecDepth 16384

noncomputable section

namespace Cert.OutRefIdeal.Spec

open Idealize.ShloMosaic Idealize.ShloMosaic.TcCoe Idealize.SL.Sem
open Cert.OutRefIdeal Cert.OutRefIdeal.Read Cert.Out

variable (x0 : (⟨S8x2048x1024, .f32⟩ : BufTy).Contents (Elt Ideal)) (x1 : (⟨S8x2048x1024, .bf16⟩ : BufTy).Contents (Elt Ideal))
  (x2 : (⟨S8x2048x2048, .f32⟩ : BufTy).Contents (Elt Ideal)) (x3 : (⟨S1024, .f32⟩ : BufTy).Contents (Elt Ideal)) (x4 : (⟨S2048x2048, .f32⟩ : BufTy).Contents (Elt Ideal))

theorem norm_at (b : Fin 8) (r : Fin 2048) (k : Fin 1024) :
    val_main_v12 (F := Ideal) x0 x3 (ix3 b r k) = nrm (fun j => x0 (ix3 b r j)) (fun j => x3 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem sum_at (b : Fin 8) (r l : Fin 2048) : val_main_v16 (F := Ideal) x0 x1 x2 x3 x4 (ix3 b r l)
    = x2 (ix3 b r l) + mixd (fun j => x0 (ix3 b r j)) (fun j => x1 (ix3 b r j)) (fun j => x3 (ix1 j)) (fun k => x4 (ix2 k l)) := by
  have h := norm_at x0 x3
  pointwise [val_main_v16, val_main_v15, val_main_v14, val_main_v13, h]
  rfl

theorem res_at (R : Fin 16384) (l : Fin 2048) : val_main_v17 (F := Ideal) x0 x1 x2 x3 x4 (ix2 R l)
    = x2 (ix3 ⟨(R : ℕ) / 2048, by omega⟩ ⟨(R : ℕ) % 2048, by omega⟩ l)
      + mixd (fun j => x0 (ix3 ⟨(R : ℕ) / 2048, by omega⟩ ⟨(R : ℕ) % 2048, by omega⟩ j))
        (fun j => x1 (ix3 ⟨(R : ℕ) / 2048, by omega⟩ ⟨(R : ℕ) % 2048, by omega⟩ j)) (fun j => x3 (ix1 j)) (fun k => x4 (ix2 k l)) := by
  have h := sum_at x0 x1 x2 x3 x4
  pointwise [val_main_v17, h]

end Cert.OutRefIdeal.Spec
-- ==== Proof.Out.Value.lean ====
module

public import proofs.«01_k».proof.Proof.Out.Final
public import proofs.«01_k».proof.Proof.Out.Ref
public import proofs.«01_k».proof.Proof.Gen.OutRefIdeal.Run
public import proofs.«01_k».proof.Defs

/-! The output projection: the kernel's result is the reference's. -/

@[expose] public section

set_option maxRecDepth 16384

noncomputable section

namespace Cert.Out.Value

open Idealize.ShloMosaic Idealize.ShloMosaic.TcCoe Idealize.SL.Sem

theorem frame_ref : Cert.quiescent_OutRefIdeal := fun m ρ _ => by
  exact (θ_run Cert.OutRefIdeal.defs _ _).mono (fun r h => ⟨fun c => (h c).2, sem_eq_zero_of_no_sems (by decide) r.2⟩)
    (Cert.OutRefIdeal.Value.run (F := Ideal) m ρ)

theorem val (m : (ℓ : Loc Cert.OutIdeal.nD Cert.OutIdeal.τ Cert.OutIdeal.sig) → Buf (Elt Ideal) ℓ) (c : Dev Cert.OutIdeal.nD) :
    Cert.OutRefIdeal.Read.val_main_v17 (F := Ideal) (m (c.tc.loc Cert.OutIdeal.main_arg0)) (m (c.tc.loc Cert.OutIdeal.main_arg1)) (m (c.tc.loc Cert.OutIdeal.main_arg2)) (m (c.tc.loc Cert.OutIdeal.main_arg3)) (m (c.tc.loc Cert.OutIdeal.main_arg4))
      = (Cert.OutIdeal.Gen.dats m 0 c).arrAt 5 Cert.OutIdeal.cfg0.N := by
  refine Eq.trans ?_ (Cert.OutIdeal.Body.final m c).symm
  funext i
  idx_vars i
  exact Cert.OutRefIdeal.Spec.res_at (m (c.tc.loc Cert.OutIdeal.main_arg0)) (m (c.tc.loc Cert.OutIdeal.main_arg1)) (m (c.tc.loc Cert.OutIdeal.main_arg2)) (m (c.tc.loc Cert.OutIdeal.main_arg3)) (m (c.tc.loc Cert.OutIdeal.main_arg4)) i0 i1

/-- The reference's run, its result as a stage of the arguments. -/
theorem run_ref (m : (ℓ : Loc Cert.OutRefIdeal.nD Cert.OutRefIdeal.τ Cert.OutRefIdeal.sig) → Buf (Elt Ideal) ℓ) (ρ : Dev Cert.OutRefIdeal.nD → PrngReg) :
    θ_run (Cert.OutRefIdeal.defs (F := Ideal)) (onTc (τ := Cert.OutRefIdeal.τ) (Cert.OutRefIdeal.main (F := Ideal))) ⟨m, fun _ => 0, ρ⟩ fun r => ∀ c : Dev Cert.OutRefIdeal.nD,
      r.2.mem ((c.tc : Thread Cert.OutRefIdeal.nD Cert.OutRefIdeal.τ).loc Cert.OutRefIdeal.main_v17) = Cert.OutRefIdeal.Read.val_main_v17 (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))
      ∧ r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4) :=
  (θ_run Cert.OutRefIdeal.defs _ _).mono (fun _ h c => ⟨(h c).1.trans (Cert.OutRefIdeal.Read.val_main_v17_eq (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))), (h c).2⟩)
    (Cert.OutRefIdeal.Value.run m ρ)

theorem algebraic : Cert.algebraic_OutIdeal_OutRefIdeal := by
  pair_intro
  · run_from Cert.OutIdeal.Value.run_blocks m g
  · run_from run_ref m' g'
    exact val m c

end Cert.Out.Value

end
-- ==== Proof.Inp.Run.lean ====
module

public import proofs.«01_k».proof.Proof.Gen.InpIdeal.Frame
public import proofs.«01_k».proof.Proof.Gen.InpIdeal.Skeleton
public import proofs.«01_k».proof.Proof.Gen.InpIdeal.Points
public import Idealize.ShloMosaic.Lib.Claim
public import Idealize.ShloMosaic.Lib.Pipeline.ValueKit

/-! The input projection's body run once, at any float: what it leaves in each buffer from what it finds there, on each
    of the six ways its conditions on the column tile can fall. -/

@[expose] public section

set_option maxRecDepth 16384

noncomputable section

namespace Cert.InpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpIdeal Cert.InpIdeal.Gen

variable {F : FTy → Type} [FloatOps F]

/-- The normalised token rows the point works on: made afresh on a row block's first column tile, kept afterwards. -/
def normed (i : grid0.Coords) (x : Vec F S1024x2048 .f32) (g : Vec F S1x2048 .f32) (old : Vec F S1024x2048 .bf16) : Vec F S1024x2048 .bf16 :=
  if k0_cond1 i = 1#1 then k0_pay12 x g else old

/-- A tile of queries: four heads, each stored on its own. -/
def qBlock (xn : Vec F S1024x2048 .bf16) (w : Vec F S2048x512 .f32) (g : Vec F S1x128 .f32) : Vec F S1024x512 .f32 :=
  View.canon [
    ⟨Rect.unit (s := S1024x512) ![0, 384] S1024x128.size inb_S1024x512_S1024x128_0_384, k0_pay15 xn w (k0_pay1 g)⟩,
    ⟨Rect.unit (s := S1024x512) ![0, 256] S1024x128.size inb_S1024x512_S1024x128_0_256, k0_pay4 (k0_pay14 xn w) g⟩,
    ⟨Rect.unit (s := S1024x512) ![0, 128] S1024x128.size inb_S1024x512_S1024x128_0_128, k0_pay3 (k0_pay14 xn w) g⟩,
    ⟨Rect.unit (s := S1024x512) ![0, 0] S1024x128.size inb_S1024x512_S1024x128_0_0, k0_pay2 (k0_pay14 xn w) g⟩]

/-- A tile of keys: four heads, each stored on its own. -/
def kBlock (xn : Vec F S1024x2048 .bf16) (w : Vec F S2048x512 .f32) (g : Vec F S1x128 .f32) : Vec F S1024x512 .f32 :=
  View.canon [
    ⟨Rect.unit (s := S1024x512) ![0, 384] S1024x128.size inb_S1024x512_S1024x128_0_384, k0_pay16 xn w (k0_pay5 g)⟩,
    ⟨Rect.unit (s := S1024x512) ![0, 256] S1024x128.size inb_S1024x512_S1024x128_0_256, k0_pay8 (k0_pay14 xn w) g⟩,
    ⟨Rect.unit (s := S1024x512) ![0, 128] S1024x128.size inb_S1024x512_S1024x128_0_128, k0_pay7 (k0_pay14 xn w) g⟩,
    ⟨Rect.unit (s := S1024x512) ![0, 0] S1024x128.size inb_S1024x512_S1024x128_0_0, k0_pay6 (k0_pay14 xn w) g⟩]

theorem off_zero : (![0, 0] : Fin 2 → ℕ) = fun _ => 0 := by decide

section
variable {κ : Kind} {sp : Space} {S : Shape} {e : EltTy} {off : Fin S.rank → ℕ}

/-- A buffer wholly overwritten reads what was stored. -/
theorem read_stored (h : off = fun _ => 0) (v : View sig κ sp S e) (f : v.ty.Contents (Elt F)) (inb) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- A whole load of a buffer reads its contents. -/
theorem readAt_whole (h : off = fun _ => 0) (r : Memref sig κ sp S e) (hr : r.IsWhole) (inb) (x : S.Idx → Elt F e) :
    r.view.readAt (Elt F) (Rect.unit off S.size inb).toLoadRect (hr.unread x) = x := by
  rw [View.readAt_eq_ld, hr.read_unread]
  exact View.ld_unit_zero h inb x
end

set_option maxHeartbeats 40000000 in
theorem body_run (c : Dev nD) (i : grid0.Coords)
    (arg2 : Memref sig .tc .vmem S1024x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S2048x128 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S512x128 .f32) (harg10 : arg10.IsWhole) (arg11 : Memref sig .tc .vmem S1024x512 .f32) (harg11 : arg11.IsWhole)
    (arg12 : Memref sig .tc .vmem S1024x512 .f32) (harg12 : arg12.IsWhole) (arg13 : Memref sig .tc .vmem S1024x512 .f32) (harg13 : arg13.IsWhole)
    (arg14 : Memref sig .tc .vmem S1024x512 .f32) (harg14 : arg14.IsWhole) (arg15 : Memref sig .tc .vmem S1024x512 .f32) (harg15 : arg15.IsWhole)
    (arg16 : Memref sig .tc .vmem S1024x128 .f32) (harg16 : arg16.IsWhole) (arg17 : Memref sig .tc .vmem S128x512 .bf16) (harg17 : arg17.IsWhole)
    (arg18 : Memref sig .tc .vmem S128x512 .bf16) (harg18 : arg18.IsWhole) (arg19 : Memref sig .tc .vmem S512x128 .bf16) (harg19 : arg19.IsWhole)
    (arg20 : Memref sig .tc .vmem S1024x2048 .bf16) (harg20 : arg20.IsWhole)
    (x0 : Vec F S1024x2048 .f32) (x1 : Vec F S1x2048 .f32) (x2 : Vec F S2048x512 .f32) (x3 : Vec F S2048x128 .bf16) (x4 : Vec F S1x128 .f32)
    (x5 : Vec F S1x128 .f32) (x6 : Vec F S128x512 .f32) (x7 : Vec F S128x512 .f32) (x8 : Vec F S512x128 .f32) (y9 : Vec F S1024x512 .f32)
    (y10 : Vec F S1024x512 .f32) (y11 : Vec F S1024x512 .f32) (y12 : Vec F S1024x512 .f32) (y13 : Vec F S1024x512 .f32) (y14 : Vec F S1024x128 .f32)
    (y15 : Vec F S128x512 .bf16) (y16 : Vec F S128x512 .bf16) (y17 : Vec F S512x128 .bf16) (xs : Vec F S1024x2048 .bf16)
    (hcase : (k0_cond1 i = 1#1 ∧ k0_cond2 i = 1#1 ∧ ¬ k0_cond3 i = 1#1 ∧ ¬ k0_cond4 i = 1#1 ∧ ¬ k0_cond5 i = 1#1 ∧ ¬ k0_cond6 i = 1#1) ∨
      (¬ k0_cond1 i = 1#1 ∧ k0_cond2 i = 1#1 ∧ ¬ k0_cond3 i = 1#1 ∧ ¬ k0_cond4 i = 1#1 ∧ ¬ k0_cond5 i = 1#1 ∧ ¬ k0_cond6 i = 1#1) ∨
      (¬ k0_cond1 i = 1#1 ∧ ¬ k0_cond2 i = 1#1 ∧ k0_cond3 i = 1#1 ∧ ¬ k0_cond4 i = 1#1 ∧ ¬ k0_cond5 i = 1#1 ∧ ¬ k0_cond6 i = 1#1) ∨
      (¬ k0_cond1 i = 1#1 ∧ ¬ k0_cond2 i = 1#1 ∧ ¬ k0_cond3 i = 1#1 ∧ k0_cond4 i = 1#1 ∧ ¬ k0_cond5 i = 1#1 ∧ ¬ k0_cond6 i = 1#1) ∨
      (¬ k0_cond1 i = 1#1 ∧ ¬ k0_cond2 i = 1#1 ∧ ¬ k0_cond3 i = 1#1 ∧ ¬ k0_cond4 i = 1#1 ∧ k0_cond5 i = 1#1 ∧ ¬ k0_cond6 i = 1#1) ∨
      (¬ k0_cond1 i = 1#1 ∧ ¬ k0_cond2 i = 1#1 ∧ ¬ k0_cond3 i = 1#1 ∧ ¬ k0_cond4 i = 1#1 ∧ ¬ k0_cond5 i = 1#1 ∧ k0_cond6 i = 1#1))
    (E : Set ℕ) (K : PUnit → sProp (MT nD τ sig Unit (Elt F) ℕ (UR sig nD τ) ℕ)) :
    iprop(
        owns (c : Thread nD τ) arg2 fullShare x0 ∗ owns (c : Thread nD τ) arg3 fullShare x1 ∗ owns (c : Thread nD τ) arg4 fullShare x2 ∗
        owns (c : Thread nD τ) arg5 fullShare x3 ∗ owns (c : Thread nD τ) arg6 fullShare x4 ∗ owns (c : Thread nD τ) arg7 fullShare x5 ∗
        owns (c : Thread nD τ) arg8 fullShare x6 ∗ owns (c : Thread nD τ) arg9 fullShare x7 ∗ owns (c : Thread nD τ) arg10 fullShare x8 ∗
        owns (c : Thread nD τ) arg11 fullShare y9 ∗ owns (c : Thread nD τ) arg12 fullShare y10 ∗ owns (c : Thread nD τ) arg13 fullShare y11 ∗
        owns (c : Thread nD τ) arg14 fullShare y12 ∗ owns (c : Thread nD τ) arg15 fullShare y13 ∗ owns (c : Thread nD τ) arg16 fullShare y14 ∗
        owns (c : Thread nD τ) arg17 fullShare y15 ∗ owns (c : Thread nD τ) arg18 fullShare y16 ∗ owns (c : Thread nD τ) arg19 fullShare y17 ∗
        owns (c : Thread nD τ) arg20 fullShare xs
      ∗ (iprop(
          owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare x6 ∗ owns (c : Thread nD τ) arg9 fullShare x7 ∗ owns (c : Thread nD τ) arg10 fullShare x8 ∗
          owns (c : Thread nD τ) arg11 fullShare (if k0_cond2 i = 1#1 then qBlock (normed i x0 x1 xs) x2 x4 else y9) ∗
          owns (c : Thread nD τ) arg12 fullShare (if k0_cond3 i = 1#1 then kBlock (normed i x0 x1 xs) x2 x5 else y10) ∗
          owns (c : Thread nD τ) arg13 fullShare (if k0_cond4 i = 1#1 then k0_pay14 (normed i x0 x1 xs) x2 else y11) ∗
          owns (c : Thread nD τ) arg14 fullShare (if k0_cond5 i = 1#1 then k0_pay14 (normed i x0 x1 xs) x2 else y12) ∗
          owns (c : Thread nD τ) arg15 fullShare (if k0_cond6 i = 1#1 then k0_pay14 (normed i x0 x1 xs) x2 else y13) ∗
          owns (c : Thread nD τ) arg16 fullShare (if k0_cond1 i = 1#1 then k0_pay13 (normed i x0 x1 xs) x3 else y14) ∗
          owns (c : Thread nD τ) arg17 fullShare (k0_pay9 x6) ∗ owns (c : Thread nD τ) arg18 fullShare (k0_pay10 x7) ∗
          owns (c : Thread nD τ) arg19 fullShare (k0_pay11 x8) ∗ owns (c : Thread nD τ) arg20 fullShare (normed i x0 x1 xs)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  have r0 := fun inb => readAt_whole (S := S1024x2048) off_zero arg2 harg2 inb x0
  have r1 := fun inb => readAt_whole (S := S1x2048) off_zero arg3 harg3 inb x1
  have r2 := fun inb => readAt_whole (S := S2048x512) off_zero arg4 harg4 inb x2
  have r3 := fun inb => readAt_whole (S := S2048x128) off_zero arg5 harg5 inb x3
  have r4 := fun inb => readAt_whole (S := S1x128) off_zero arg6 harg6 inb x4
  have r5 := fun inb => readAt_whole (S := S1x128) off_zero arg7 harg7 inb x5
  have r6 := fun inb => readAt_whole (S := S128x512) off_zero arg8 harg8 inb x6
  have r7 := fun inb => readAt_whole (S := S128x512) off_zero arg9 harg9 inb x7
  have r8 := fun inb => readAt_whole (S := S512x128) off_zero arg10 harg10 inb x8
  have rs := fun inb => readAt_whole (S := S1024x2048) off_zero arg20 harg20 inb xs
  have rc := fun inb w => View.readCov_unit_zero (Val := Elt F) (S := S1024x2048) arg20.view off_zero inb w
  rcases hcase with ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩
  all_goals
    simp only [normed, h1, h2, h3, h4, h5, h6, if_true, if_false]
    simp only [cc0_inproj_eq_skeleton]; unfold cc0_inproj_skel
    simp only [k0_part3_eq_skeleton]; unfold k0_part3_skel
    simp only [k0_part1_eq_skeleton, k0_part2_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, HS⟩, Hk⟩
    obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e6; obtain rfl := harg9.eq_unread e7; obtain rfl := harg10.eq_unread e8; obtain rfl := harg11.eq_unread e9; obtain rfl := harg12.eq_unread e10; obtain rfl := harg13.eq_unread e11; obtain rfl := harg14.eq_unread e12; obtain rfl := harg15.eq_unread e13; obtain rfl := harg16.eq_unread e14; obtain rfl := harg17.eq_unread e15; obtain rfl := harg18.eq_unread e16; obtain rfl := harg19.eq_unread e17; obtain rfl := harg20.eq_unread e18
    sl_exec (disch := first | sl_exact h1 | sl_exact h2 | sl_exact h3 | sl_exact h4 | sl_exact h5 | sl_exact h6)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; exact harg10.read_unread _
    isplitl [H9]
    · iexists _; isplitr; swap; · iexact H9
      ipureintro; first | with_reducible exact harg11.read_unread _ | (refine (View.read_writes_eq_canon _ _ _ (View.cover_of_tiledL _ ![1024, 128] (by sl_kernel_rfl))).trans ?_; (try delta body_run.sl.r); (try delta body_run.sl.r_1); (try delta body_run.sl.r_2); (try delta body_run.sl.v57); (try delta body_run.sl.HS_1); simp only [r0, r1, r2, r3, r4, r5, r6, r7, r8, rs, rc, qBlock])
    isplitl [H10]
    · iexists _; isplitr; swap; · iexact H10
      ipureintro; first | with_reducible exact harg12.read_unread _ | (refine (View.read_writes_eq_canon _ _ _ (View.cover_of_tiledL _ ![1024, 128] (by sl_kernel_rfl))).trans ?_; (try delta body_run.sl.r); (try delta body_run.sl.r_1); (try delta body_run.sl.r_2); (try delta body_run.sl.v57); (try delta body_run.sl.HS_1); simp only [r0, r1, r2, r3, r4, r5, r6, r7, r8, rs, rc, kBlock])
    isplitl [H11]
    · iexists _; isplitr; swap; · iexact H11
      ipureintro; first | with_reducible exact harg13.read_unread _ | (with_reducible refine (read_stored (S := S1024x512) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    isplitl [H12]
    · iexists _; isplitr; swap; · iexact H12
      ipureintro; first | with_reducible exact harg14.read_unread _ | (with_reducible refine (read_stored (S := S1024x512) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    isplitl [H13]
    · iexists _; isplitr; swap; · iexact H13
      ipureintro; first | with_reducible exact harg15.read_unread _ | (with_reducible refine (read_stored (S := S1024x512) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    isplitl [H14]
    · iexists _; isplitr; swap; · iexact H14
      ipureintro; first | with_reducible exact harg16.read_unread _ | (with_reducible refine (read_stored (S := S1024x128) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    isplitl [H15]
    · iexists _; isplitr; swap; · iexact H15
      ipureintro; (with_reducible refine (read_stored (S := S128x512) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    isplitl [H16]
    · iexists _; isplitr; swap; · iexact H16
      ipureintro; (with_reducible refine (read_stored (S := S128x512) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    isplitl [H17]
    · iexists _; isplitr; swap; · iexact H17
      ipureintro; (with_reducible refine (read_stored (S := S512x128) off_zero _ _ _ _).trans ?_; (try delta body_run.sl.r); (try delta body_run.sl.r_1); (try delta body_run.sl.r_2); (try delta body_run.sl.v57); (try delta body_run.sl.HS_1); simp only [r0, r1, r2, r3, r4, r5, r6, r7, r8, rs, rc])
    iexists _; isplitr; swap; · iexact HS
    ipureintro; first | with_reducible exact harg20.read_unread _ | (delta body_run.sl.HS_1; with_reducible refine (read_stored (S := S1024x2048) off_zero _ _ _ _).trans ?_; simp only [r0, r1, r2, r3, r4, r5, r6, r7, r8, rs, rc])

end Cert.InpIdeal.Hand

end
-- ==== Proof.Inp.Data.lean ====
module

public import proofs.«01_k».proof.Proof.Inp.Run
public import Idealize.ShloMosaic.Lib.Pipeline.TableIdle

/-! The input projection at any float: when each condition holds, and what every window's buffer holds point by point. -/

@[expose] public section

set_option maxRecDepth 16384

noncomputable section

namespace Cert.InpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpIdeal Cert.InpIdeal.Gen

variable {F : FTy → Type} [FloatOps F]
variable (m : (ℓ : Loc nD τ sig) → Buf (Elt F) ℓ) (ρ : Dev nD → PrngReg)

/-! ## The conditions, by the column tile -/

theorem col_val (t : Fin grid0.N) : (grid0.coords t 1).val = t.val / 1 % 11 := Pipeline.Grid.coords_val t 1 (by decide) rfl

theorem cond1 : ∀ t : Fin grid0.N, k0_cond1 (grid0.coords t) = 1#1 ↔ t.val % 11 = 0 := by decide +kernel
theorem cond2 : ∀ t : Fin grid0.N, k0_cond2 (grid0.coords t) = 1#1 ↔ t.val % 11 < 2 := by decide +kernel
theorem cond3 : ∀ t : Fin grid0.N, k0_cond3 (grid0.coords t) = 1#1 ↔ (2 ≤ t.val % 11 ∧ t.val % 11 < 4) := by decide +kernel
theorem cond4 : ∀ t : Fin grid0.N, k0_cond4 (grid0.coords t) = 1#1 ↔ (4 ≤ t.val % 11 ∧ t.val % 11 < 6) := by decide +kernel
theorem cond5 : ∀ t : Fin grid0.N, k0_cond5 (grid0.coords t) = 1#1 ↔ (6 ≤ t.val % 11 ∧ t.val % 11 < 8) := by decide +kernel
theorem cond6 : ∀ t : Fin grid0.N, k0_cond6 (grid0.coords t) = 1#1 ↔ 8 ≤ t.val % 11 := by decide +kernel

/-! ## When a result's buffer holds nothing of the kernel's yet -/

theorem fresh9 (t : Fin cfg0.N) : cfg0.fresh 9 t.val = decide (t.val % 11 < 2) :=
  Cfg.fresh_tab cfg0 9 (fun n => decide (n % 11 < 2)) rfl (by decide +kernel) _ (Nat.le_of_lt t.isLt)
theorem fresh10 (t : Fin cfg0.N) : cfg0.fresh 10 t.val = decide (t.val % 11 < 4) :=
  Cfg.fresh_tab cfg0 10 (fun n => decide (n % 11 < 4)) rfl (by decide +kernel) _ (Nat.le_of_lt t.isLt)
theorem fresh11 (t : Fin cfg0.N) : cfg0.fresh 11 t.val = decide (t.val % 11 < 6) :=
  Cfg.fresh_tab cfg0 11 (fun n => decide (n % 11 < 6)) rfl (by decide +kernel) _ (Nat.le_of_lt t.isLt)
theorem fresh12 (t : Fin cfg0.N) : cfg0.fresh 12 t.val = decide (t.val % 11 < 8) :=
  Cfg.fresh_tab cfg0 12 (fun n => decide (n % 11 < 8)) rfl (by decide +kernel) _ (Nat.le_of_lt t.isLt)
theorem fresh14 (t : Fin cfg0.N) : cfg0.fresh 14 t.val = decide (t.val % 11 < 1) :=
  Cfg.fresh_tab cfg0 14 (fun n => decide (n % 11 < 1)) rfl (by decide +kernel) _ (Nat.le_of_lt t.isLt)

/-! ## What the buffers hold after each point -/

/-- The point of the same row block whose column tile is the nearest to `t`'s in `[lo, hi]`: the last that stored. -/
def src (lo hi : ℕ) (t : Fin cfg0.N) : Fin cfg0.N :=
  ⟨t.val - t.val % 11 + min 10 (min hi (max lo (t.val % 11))), by
    have h : t.val < 176 := Nat.lt_of_lt_of_eq t.isLt N_0
    have e : cfg0.N = 176 := N_0
    omega⟩

theorem src_self (lo hi : ℕ) (t : Fin cfg0.N) (h : lo ≤ t.val % 11) (h' : t.val % 11 ≤ hi) : src lo hi t = t := by
  apply Fin.ext; simp only [src]; omega

theorem src_pred (lo hi : ℕ) (t : Fin cfg0.N) (h : t.val % 11 ≠ 0) (h' : t.val % 11 ≤ lo ∨ hi < t.val % 11) (ht : t.val - 1 < cfg0.N) :
    src lo hi ⟨t.val - 1, ht⟩ = src lo hi t := by
  apply Fin.ext; simp only [src]; omega

/-- The row block's normalised rows. -/
def XN (c : Dev nD) (t : Fin cfg0.N) : Vec F S1024x2048 .bf16 := k0_pay12 (iblk m c 0 (src 0 0 t)) (iblk m c 1 (src 0 0 t))

/-- Their product with the point's column tile of the weights. -/
def ACC (c : Dev nD) (t : Fin cfg0.N) : Vec F S1024x512 .f32 := k0_pay14 (XN m c t) (X0_2 m c t)

def Q9 (c : Dev nD) (t : Fin cfg0.N) : Vec F S1024x512 .f32 := qBlock (XN m c t) (X0_2 m c t) (iblk m c 4 t)
def K10 (c : Dev nD) (t : Fin cfg0.N) : Vec F S1024x512 .f32 := kBlock (XN m c t) (X0_2 m c t) (iblk m c 5 t)
def DT14 (c : Dev nD) (t : Fin cfg0.N) : Vec F S1024x128 .f32 := k0_pay13 (XN m c t) (iblk m c 3 t)

/-- The kept rows before position `n`: anything at first, then the last point's. -/
def Kept (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0) fullShare (XN m c ⟨n, hn⟩) ∗ (∃ r, prngReg c r))

theorem entry_eq (c : Dev nD) :
    (Pipeline.ΦA spec0 c : sProp (MT nD τ sig Unit (Elt F) ℕ (UR sig nD τ) ℕ))
      = iprop((∃ d, owns (c : Thread nD τ) (Memref.whole cc0_scratch0) fullShare d) ∗ (∃ r, prngReg c r)) := by
  unfold Pipeline.ΦA; rw [scopedRest0_eq]; simp only [owns_whole]

/-- Before any point the kept rows are some rows, and past a row block's first tile they are the block's own. -/
theorem Kept_open (c : Dev nD) (t : Fin cfg0.N) :
    Kept m c t.val (Nat.le_of_lt t.isLt)
      ⊢ iprop((∃ d, ⌜¬ t.val % 11 = 0 → d = XN m c t⌝ ∗ owns (c : Thread nD τ) (Memref.whole cc0_scratch0) fullShare d) ∗ (∃ r, prngReg c r)) := by
  obtain ⟨n, hn⟩ := t
  cases n with
  | zero =>
    show Pipeline.ΦA spec0 c ⊢ _
    rw [entry_eq]
    iintro ⟨⟨%d, H⟩, Hg⟩
    isplitl [H]
    · iexists d; isplitr
      · ipureintro; intro h; exact absurd (Nat.zero_mod _) h
      iexact H
    iexact Hg
  | succ n =>
    show iprop(owns (c : Thread nD τ) (Memref.whole cc0_scratch0) fullShare (XN m c ⟨n, _⟩) ∗ (∃ r, prngReg c r)) ⊢ _
    iintro ⟨H, Hg⟩
    isplitl [H]
    · iexists _; isplitr; swap; · iexact H
      ipureintro; intro h
      have e : src 0 0 ⟨n, Nat.lt_of_succ_lt hn⟩ = src 0 0 ⟨n + 1, hn⟩ :=
        src_pred 0 0 ⟨n + 1, hn⟩ h (.inr (Nat.pos_of_ne_zero h)) (Nat.lt_of_succ_lt hn)
      unfold XN; rw [e]
    iexact Hg

theorem Kept_out (c : Dev nD) (n : ℕ) (hn : n ≤ cfg0.N) (h : n ≠ 0) : Kept m c n hn ⊢ Pipeline.ΦA spec0 c := by
  cases n with
  | zero => exact absurd rfl h
  | succ n =>
    rw [entry_eq]
    show iprop(owns (c : Thread nD τ) (Memref.whole cc0_scratch0) fullShare (XN m c ⟨n, _⟩) ∗ (∃ r, prngReg c r)) ⊢ _
    iintro ⟨H, Hg⟩
    isplitl [H]; · iexists _; iexact H
    iexact Hg

/-- The region's proof data: arrays as the region finds them; after each point an operand's buffer at its block, a result's
    at what the last storing point left, the three copies at the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Q9 m c (src 0 1 t)
    | ⟨10, _⟩ => K10 m c (src 2 3 t)
    | ⟨11, _⟩ => ACC m c (src 4 5 t)
    | ⟨12, _⟩ => ACC m c (src 6 7 t)
    | ⟨13, _⟩ => ACC m c (src 8 10 t)
    | ⟨14, _⟩ => DT14 m c (src 0 0 t)
    | ⟨15, _⟩ => k0_pay9 (iblk m c 6 t)
    | ⟨16, _⟩ => k0_pay10 (iblk m c 7 t)
    | ⟨17, _⟩ => k0_pay11 (iblk m c 8 t)
    | ⟨n + 18, h⟩ => absurd h (Nat.not_lt.2 (Nat.le_add_left _ _))
  Φ t := Kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = Q9 m c (src 0 1 t) := by dsimp only [dats]
theorem after10 (c : Dev nD) (t : Fin cfg0.N) : (dats m 0 c).after 10 t = K10 m c (src 2 3 t) := by dsimp only [dats]
theorem after11 (c : Dev nD) (t : Fin cfg0.N) : (dats m 0 c).after 11 t = ACC m c (src 4 5 t) := by dsimp only [dats]
theorem after12 (c : Dev nD) (t : Fin cfg0.N) : (dats m 0 c).after 12 t = ACC m c (src 6 7 t) := by dsimp only [dats]
theorem after13 (c : Dev nD) (t : Fin cfg0.N) : (dats m 0 c).after 13 t = ACC m c (src 8 10 t) := by dsimp only [dats]
theorem after14 (c : Dev nD) (t : Fin cfg0.N) : (dats m 0 c).after 14 t = DT14 m c (src 0 0 t) := by dsimp only [dats]
theorem after15 (c : Dev nD) (t : Fin cfg0.N) : (dats m 0 c).after 15 t = k0_pay9 (iblk m c 6 t) := by dsimp only [dats]
theorem after16 (c : Dev nD) (t : Fin cfg0.N) : (dats m 0 c).after 16 t = k0_pay10 (iblk m c 7 t) := by dsimp only [dats]
theorem after17 (c : Dev nD) (t : Fin cfg0.N) : (dats m 0 c).after 17 t = k0_pay11 (iblk m c 8 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## What a result's buffer holds before a point that leaves it alone -/

/-- Past the last storing point of the row block, the buffer holds what the tables say and keeps it. -/
theorem before_kept (c : Dev nD) (w : Fin cfg0.W) (hw : (cfg0.win w).isOut = true) (hclip : ∀ (i : cfg0.grid.Coords) a, (cfg0.win w).clip i a = none)
    (k : ℕ) (hk : 0 < k) (hf : ∀ t : Fin cfg0.N, cfg0.fresh w t.val = decide (t.val % 11 < k))
    (ha : ∀ (t : Fin cfg0.N) (ht : t.val - 1 < cfg0.N), k ≤ t.val % 11 → (dats m 0 c).after w ⟨t.val - 1, ht⟩ = (dats m 0 c).after w t)
    (t : Fin cfg0.N) (h : k ≤ t.val % 11) (d) : (dats m 0 c).before w t d = (dats m 0 c).after w t := by
  rw [(dats m 0 c).before_out_traj w hw hclip (fun t' _ _ hfr => by
      rw [hf t'] at hfr
      exact (ha t' (by omega) (Nat.le_of_not_lt (of_decide_eq_false hfr))).symm) t.val t rfl d,
    if_neg (by rw [hf t, decide_eq_true_eq]; omega)]
  exact ha t _ h

theorem before9 (c : Dev nD) (t : Fin cfg0.N) (h : 2 ≤ t.val % 11) (d) : (dats m 0 c).before 9 t d = (dats m 0 c).after 9 t :=
  before_kept m c 9 rfl (fun _ _ => rfl) 2 (by decide) fresh9 (fun t ht hk => by
    rw [after9, after9, src_pred 0 1 t (by omega) (by omega) ht]) t h d
theorem before10 (c : Dev nD) (t : Fin cfg0.N) (h : 4 ≤ t.val % 11) (d) : (dats m 0 c).before 10 t d = (dats m 0 c).after 10 t :=
  before_kept m c 10 rfl (fun _ _ => rfl) 4 (by decide) fresh10 (fun t ht hk => by
    rw [after10, after10, src_pred 2 3 t (by omega) (by omega) ht]) t h d
theorem before11 (c : Dev nD) (t : Fin cfg0.N) (h : 6 ≤ t.val % 11) (d) : (dats m 0 c).before 11 t d = (dats m 0 c).after 11 t :=
  before_kept m c 11 rfl (fun _ _ => rfl) 6 (by decide) fresh11 (fun t ht hk => by
    rw [after11, after11, src_pred 4 5 t (by omega) (by omega) ht]) t h d
theorem before12 (c : Dev nD) (t : Fin cfg0.N) (h : 8 ≤ t.val % 11) (d) : (dats m 0 c).before 12 t d = (dats m 0 c).after 12 t :=
  before_kept m c 12 rfl (fun _ _ => rfl) 8 (by decide) fresh12 (fun t ht hk => by
    rw [after12, after12, src_pred 6 7 t (by omega) (by omega) ht]) t h d
theorem before14 (c : Dev nD) (t : Fin cfg0.N) (h : 1 ≤ t.val % 11) (d) : (dats m 0 c).before 14 t d = (dats m 0 c).after 14 t :=
  before_kept m c 14 rfl (fun _ _ => rfl) 1 (by decide) fresh14 (fun t ht hk => by
    rw [after14, after14, src_pred 0 0 t (by omega) (by omega) ht]) t h d

/-! ## Handing a result's buffer back -/

/-- What the obligation asks back of window `w`'s buffer at point `t`. -/
def handed (c : Dev nD) (w : Fin cfg0.W) (t : Fin cfg0.N) : sProp (MT nD τ sig Unit (Elt F) ℕ (UR sig nD τ) ℕ) :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem hand_back (c : Dev nD) (w : Fin cfg0.W) (t : Fin cfg0.N) (d) (p : Prop) [Decidable p]
    (new : (cfg0.win w).block.Idx → Elt F (cfg0.win w).elt)
    (hi : cfg0.idle w (cfg0.grid.coords t) = !decide p)
    (hn : p → new = (dats m 0 c).after w t)
    (ho : ¬ p → (cfg0.win w).flush t = true → (dats m 0 c).before w t d = (dats m 0 c).after w t) :
    owns (c : Thread nD τ) ((cfg0.win w).stage (cfg0.slots t w)) fullShare (if p then new else (dats m 0 c).before w t d) ⊢ handed m c w t := by
  unfold handed
  by_cases hp : p
  · rw [hi, if_pos hp, decide_eq_true hp, hn hp]
    exact Idealize.SL.BI.Entails.refl _
  · rw [hi, if_neg hp, decide_eq_false hp]
    cases hfl : (cfg0.win w).flush t with
    | false => show _ ⊢ iprop(∃ d, _); iintro H; iexists d; iexact H
    | true => rw [ho hp hfl]; exact Idealize.SL.BI.Entails.refl _

theorem flushed9 : ∀ t : Fin cfg0.N, ¬ k0_cond2 (grid0.coords t) = 1#1 → (cfg0.win 9).flush t = true → 2 ≤ t.val % 11 := by decide +kernel
theorem flushed10 : ∀ t : Fin cfg0.N, ¬ k0_cond3 (grid0.coords t) = 1#1 → (cfg0.win 10).flush t = true → 4 ≤ t.val % 11 := by decide +kernel
theorem flushed11 : ∀ t : Fin cfg0.N, ¬ k0_cond4 (grid0.coords t) = 1#1 → (cfg0.win 11).flush t = true → 6 ≤ t.val % 11 := by decide +kernel
theorem flushed12 : ∀ t : Fin cfg0.N, ¬ k0_cond5 (grid0.coords t) = 1#1 → (cfg0.win 12).flush t = true → 8 ≤ t.val % 11 := by decide +kernel
theorem flushed14 : ∀ t : Fin cfg0.N, ¬ k0_cond1 (grid0.coords t) = 1#1 → (cfg0.win 14).flush t = true → 1 ≤ t.val % 11 := by decide +kernel

theorem unflushed13 : ∀ t : Fin cfg0.N, ¬ k0_cond6 (grid0.coords t) = 1#1 → ¬ (cfg0.win 13).flush t = true := by decide +kernel

theorem back9 (c : Dev nD) (t : Fin cfg0.N) (d) :
    owns (c : Thread nD τ) (st0_9 t) fullShare
      (if k0_cond2 (grid0.coords t) = 1#1 then qBlock (XN m c t) (X0_2 m c t) (iblk m c 4 t) else (dats m 0 c).before 9 t d) ⊢ handed m c 9 t :=
  hand_back m c 9 t d (k0_cond2 (grid0.coords t) = 1#1) (Q9 m c t) rfl
    (fun h => by rw [cond2] at h; rw [after9, src_self 0 1 t (by omega) (by omega)]) (fun h hf => before9 m c t (flushed9 t h hf) d)

theorem back10 (c : Dev nD) (t : Fin cfg0.N) (d) :
    owns (c : Thread nD τ) (st0_10 t) fullShare
      (if k0_cond3 (grid0.coords t) = 1#1 then kBlock (XN m c t) (X0_2 m c t) (iblk m c 5 t) else (dats m 0 c).before 10 t d) ⊢ handed m c 10 t :=
  hand_back m c 10 t d (k0_cond3 (grid0.coords t) = 1#1) (K10 m c t) rfl
    (fun h => by rw [cond3] at h; rw [after10, src_self 2 3 t (by omega) (by omega)]) (fun h hf => before10 m c t (flushed10 t h hf) d)

theorem back11 (c : Dev nD) (t : Fin cfg0.N) (d) :
    owns (c : Thread nD τ) (st0_11 t) fullShare
      (if k0_cond4 (grid0.coords t) = 1#1 then k0_pay14 (XN m c t) (X0_2 m c t) else (dats m 0 c).before 11 t d) ⊢ handed m c 11 t :=
  hand_back m c 11 t d (k0_cond4 (grid0.coords t) = 1#1) (ACC m c t) rfl
    (fun h => by rw [cond4] at h; rw [after11, src_self 4 5 t (by omega) (by omega)]) (fun h hf => before11 m c t (flushed11 t h hf) d)

theorem back12 (c : Dev nD) (t : Fin cfg0.N) (d) :
    owns (c : Thread nD τ) (st0_12 t) fullShare
      (if k0_cond5 (grid0.coords t) = 1#1 then k0_pay14 (XN m c t) (X0_2 m c t) else (dats m 0 c).before 12 t d) ⊢ handed m c 12 t :=
  hand_back m c 12 t d (k0_cond5 (grid0.coords t) = 1#1) (ACC m c t) rfl
    (fun h => by rw [cond5] at h; rw [after12, src_self 6 7 t (by omega) (by omega)]) (fun h hf => before12 m c t (flushed12 t h hf) d)

theorem back13 (c : Dev nD) (t : Fin cfg0.N) (d) :
    owns (c : Thread nD τ) (st0_13 t) fullShare
      (if k0_cond6 (grid0.coords t) = 1#1 then k0_pay14 (XN m c t) (X0_2 m c t) else (dats m 0 c).before 13 t d) ⊢ handed m c 13 t :=
  hand_back m c 13 t d (k0_cond6 (grid0.coords t) = 1#1) (ACC m c t) rfl
    (fun h => by rw [cond6] at h; rw [after13, src_self 8 10 t (by omega) (by omega)]) (fun h hf => absurd hf (unflushed13 t h))

theorem back14 (c : Dev nD) (t : Fin cfg0.N) (d) :
    owns (c : Thread nD τ) (st0_14 t) fullShare
      (if k0_cond1 (grid0.coords t) = 1#1 then k0_pay13 (XN m c t) (iblk m c 3 t) else (dats m 0 c).before 14 t d) ⊢ handed m c 14 t :=
  hand_back m c 14 t d (k0_cond1 (grid0.coords t) = 1#1) (DT14 m c t) rfl
    (fun h => by rw [cond1] at h; rw [after14, src_self 0 0 t (by omega) (by omega)]) (fun h hf => before14 m c t (flushed14 t h hf) d)

/-- A point is on one of the body's six ways. -/
theorem ways (t : Fin grid0.N) :
    (k0_cond1 (grid0.coords t) = 1#1 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1) ∨
    (¬ k0_cond1 (grid0.coords t) = 1#1 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1) ∨
    (¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1) ∨
    (¬ k0_cond1 (grid0.coords t) = 1#1 ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1) ∨
    (¬ k0_cond1 (grid0.coords t) = 1#1 ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1) ∨
    (¬ k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ k0_cond6 (grid0.coords t) = 1#1) := by
  rw [cond1, cond2, cond3, cond4, cond5, cond6]
  omega

end Cert.InpIdeal.Hand

end
-- ==== Proof.Inp.Math.lean ====
module

public import Idealize.ShloMosaic.Lib.Pointwise
public import Idealize.ShloMosaic.Lib.Pipeline.ValueKit

/-! The input projection's mathematics over the extended reals, one token's row at a time. -/

@[expose] public section

noncomputable section

namespace Cert.Inp

open Idealize.ShloMosaic

/-- A row divided by its root mean square, times the gain. -/
def nrm (x g : Fin 2048 → EReal) (k : Fin 2048) : EReal :=
  x k * Ideal.rsqrt (Ideal.div (∑ j, x j * x j) (Ideal.ofBits FTy.f32 1157627904#32) + Ideal.ofBits FTy.f32 897988541#32) * g k

/-- One head's 128 entries divided by their root mean square, times the gain. -/
def head (p g : Fin 128 → EReal) (k : Fin 128) : EReal :=
  p k * Ideal.rsqrt (Ideal.div (∑ j, p j * p j) (Ideal.ofBits FTy.f32 1124073472#32) + Ideal.ofBits FTy.f32 897988541#32) * g k

/-- A normalised row against column `l` of the weights. -/
def prj (x g : Fin 2048 → EReal) (w : Fin 2048 → Fin 5648 → EReal) (l : Fin 5648) : EReal := ∑ j, nrm x g j * w j l

/-- Entry `l` of the eight heads that start at column `o`. -/
def heads (P : Fin 5648 → EReal) (o : ℕ) (ho : o ≤ 1024) (g : Fin 128 → EReal) (l : Fin 1024) : EReal :=
  head (fun e => P ⟨o + (l / 128 * 128 + e), by omega⟩) g ⟨l % 128, by omega⟩

/-- Entry `l` of the step sizes: sixteen columns, the other lanes zero. -/
def steps (P : Fin 5648 → EReal) (l : Fin 128) : EReal := if h : (l : ℕ) < 16 then P ⟨5632 + l, by omega⟩ else 0

end Cert.Inp

end
-- ==== Proof.Inp.Body.lean ====
module

public import proofs.«01_k».proof.Proof.Inp.Run
public import proofs.«01_k».proof.Proof.Inp.Math
public import Idealize.ShloMosaic.Lib.Pointwise
public import Idealize.ShloMosaic.Lib.Pipeline.ValueKit
public import Idealize.ShloMosaic.Lib.Pipeline.ReadBack

/-! The vectors the input projection's body computes, read at an index. -/

@[expose] public section

set_option maxRecDepth 16384

noncomputable section

namespace Cert.InpIdeal.Hand

open Idealize.ShloMosaic Idealize.ShloMosaic.TcCoe Idealize.SL.Sem
open Idealize.ShloMosaic.Pipeline (Dat)
open Cert.InpIdeal Cert.InpIdeal.Gen Cert.Inp

theorem pay12_at (x : Vec Ideal S1024x2048 .f32) (g : Vec Ideal S1x2048 .f32) (r : Fin 1024) (k : Fin 2048) :
    k0_pay12 x g (ix2 r k) = nrm (fun j => x (ix2 r j)) (fun j => g (ix2 0 j)) k := by
  pointwise [k0_pay12]
  rfl

theorem pay13_at (h : Vec Ideal S1024x2048 .bf16) (w : Vec Ideal S2048x128 .bf16) (r : Fin 1024) (l : Fin 128) :
    k0_pay13 h w (ix2 r l) = ∑ j : Fin 2048, h (ix2 r j) * w (ix2 j l) := by
  pointwise [k0_pay13]

theorem pay14_at (h : Vec Ideal S1024x2048 .bf16) (w : Vec Ideal S2048x512 .f32) (r : Fin 1024) (l : Fin 512) :
    k0_pay14 h w (ix2 r l) = ∑ j : Fin 2048, h (ix2 r j) * w (ix2 j l) := by
  pointwise [k0_pay14]

section
variable (A : Vec Ideal S1024x512 .f32) (g : Vec Ideal S1x128 .f32)

/-- A block's heads, each normalised. -/
def four (y : S1024x512.Idx) : EReal :=
  head (fun e => A (ix2 (y 0) ⟨(y 1 : ℕ) / 128 * 128 + e, by have := (y 1).isLt; change (y 1 : ℕ) < 512 at this; omega⟩)) (fun k => g (ix2 0 k))
    ⟨(y 1 : ℕ) % 128, Nat.mod_lt _ (by decide)⟩

theorem four_at (o : ℕ) (ho : o % 128 = 0) (ho' : o ≤ 384) (r : Fin 1024) (k : Fin 128) :
    four A g (ix2 r ⟨o + k, by omega⟩) = head (fun e => A (ix2 r ⟨o + e, by omega⟩)) (fun k => g (ix2 0 k)) k := by
  have e1 : (o + (k : ℕ)) / 128 * 128 = o := by omega
  have e2 : (o + (k : ℕ)) % 128 = k := by omega
  show head (fun e => A (ix2 r ⟨(o + (k : ℕ)) / 128 * 128 + e, _⟩)) _ ⟨(o + (k : ℕ)) % 128, _⟩ = _
  simp only [e1, e2]

theorem pay2_at (r : Fin 1024) (k : Fin 128) : k0_pay2 A g (ix2 r k) = head (fun e => A (ix2 r ⟨0 + e, by omega⟩)) (fun k => g (ix2 0 k)) k := by
  simp only [Nat.zero_add]
  pointwise [k0_pay2, k0_pay1]
  rfl

theorem pay3_at (r : Fin 1024) (k : Fin 128) : k0_pay3 A g (ix2 r k) = head (fun e => A (ix2 r ⟨128 + e, by omega⟩)) (fun k => g (ix2 0 k)) k := by
  pointwise [k0_pay3, k0_pay1]
  rfl

theorem pay4_at (r : Fin 1024) (k : Fin 128) : k0_pay4 A g (ix2 r k) = head (fun e => A (ix2 r ⟨256 + e, by omega⟩)) (fun k => g (ix2 0 k)) k := by
  pointwise [k0_pay4, k0_pay1]
  rfl
end

theorem pay15_at (h : Vec Ideal S1024x2048 .bf16) (w : Vec Ideal S2048x512 .f32) (g : Vec Ideal S1x128 .f32) (r : Fin 1024) (k : Fin 128) :
    k0_pay15 h w (k0_pay1 g) (ix2 r k) = head (fun e => k0_pay14 h w (ix2 r ⟨384 + e, by omega⟩)) (fun k => g (ix2 0 k)) k := by
  pointwise [k0_pay15, k0_pay1]
  rfl

theorem qBlock_at (h : Vec Ideal S1024x2048 .bf16) (w : Vec Ideal S2048x512 .f32) (g : Vec Ideal S1x128 .f32) (y : S1024x512.Idx) :
    qBlock h w g y = four (k0_pay14 h w) g y := by
  unfold qBlock
  refine (congrArg (fun L => View.canon L y) (List.append_nil _).symm).trans (View.canon_append_of_piecesOf (Val := Elt Ideal) (s := S1024x512) (e := .f32) (four (k0_pay14 h w) g) [] _ ?_ y ?_)
  swap
  · exact View.cover_of_tiledL (s := S1024x512) _ S1024x128.size (by sl_kernel_rfl) y
  refine ⟨fun x => ?_, fun x => ?_, fun x => ?_, fun x => ?_, trivial⟩
  · change S1024x128.Idx at x
    idx_vars x
    refine ((pay15_at h w g x0 x1).trans (four_at _ g 384 rfl (by decide) x0 x1).symm).trans (congrArg (four (k0_pay14 h w) g) ?_)
    blk_ext
  · change S1024x128.Idx at x
    idx_vars x
    refine ((pay4_at _ g x0 x1).trans (four_at _ g 256 rfl (by decide) x0 x1).symm).trans (congrArg (four (k0_pay14 h w) g) ?_)
    blk_ext
  · change S1024x128.Idx at x
    idx_vars x
    refine ((pay3_at _ g x0 x1).trans (four_at _ g 128 rfl (by decide) x0 x1).symm).trans (congrArg (four (k0_pay14 h w) g) ?_)
    blk_ext
  · change S1024x128.Idx at x
    idx_vars x
    refine ((pay2_at _ g x0 x1).trans (four_at _ g 0 rfl (by decide) x0 x1).symm).trans (congrArg (four (k0_pay14 h w) g) ?_)
    blk_ext

theorem kBlock_eq (h : Vec Ideal S1024x2048 .bf16) (w : Vec Ideal S2048x512 .f32) (g : Vec Ideal S1x128 .f32) : kBlock h w g = qBlock h w g := rfl

end Cert.InpIdeal.Hand

end
-- ==== Proof.Inp.Final.lean ====
module

public import proofs.«01_k».proof.Proof.Inp.Data
public import proofs.«01_k».proof.Proof.Inp.Body

/-! What the input projection's launch leaves in its nine results. -/

@[expose] public section

set_option maxRecDepth 16384

noncomputable section

namespace Cert.InpIdeal.Hand

open Idealize.ShloMosaic Idealize.ShloMosaic.TcCoe Idealize.SL.Sem
open Idealize.ShloMosaic.Pipeline (Dat)
open Cert.InpIdeal Cert.InpIdeal.Gen Cert.Inp

variable (m : (ℓ : Loc nD τ sig) → Buf (Elt Ideal) ℓ) (c : Dev nD)

/-! ## Which block a point has of each array -/

theorem idx : ∀ t : Fin cfg0.N, win0_0.index t = ![t.val / 11, 0] ∧ win0_1.index t = ![0, 0] ∧ win0_2.index t = ![0, t.val % 11]
    ∧ win0_3.index t = ![0, 0] ∧ win0_4.index t = ![0, 0] ∧ win0_5.index t = ![0, 0] ∧ win0_6.index t = ![t.val / 11, t.val % 11]
    ∧ win0_7.index t = ![t.val / 11, t.val % 11] ∧ win0_8.index t = ![t.val % 11, t.val / 11] :=
  (by decide +kernel : ∀ t : Fin grid0.N, _)

theorem odx : ∀ t : Fin cfg0.N, win0_9.index t = ![t.val / 11, min 1 (t.val % 11)] ∧ win0_10.index t = ![t.val / 11, min 1 (t.val % 11 - 2)]
    ∧ win0_11.index t = ![t.val / 11, min 1 (t.val % 11 - 4)] ∧ win0_12.index t = ![t.val / 11, min 1 (t.val % 11 - 6)]
    ∧ win0_13.index t = ![t.val / 11, min 2 (t.val % 11 - 8)] ∧ win0_14.index t = ![t.val / 11, 0] ∧ win0_15.index t = ![t.val / 11, t.val % 11]
    ∧ win0_16.index t = ![t.val / 11, t.val % 11] ∧ win0_17.index t = ![t.val % 11, t.val / 11] :=
  (by decide +kernel : ∀ t : Fin grid0.N, _)

theorem n_lt (t : Fin cfg0.N) : (t : ℕ) < 176 := lt_of_lt_of_eq t.isLt N_0

theorem src_div (lo hi : ℕ) (t : Fin cfg0.N) : (src lo hi t : ℕ) / 11 = t / 11 := by
  simp only [src]; omega

theorem src_mod (lo hi : ℕ) (t : Fin cfg0.N) : (src lo hi t : ℕ) % 11 = min 10 (min hi (max lo (t % 11))) := by
  simp only [src]; omega

/-- Row `r` of the grid's row block at `t`. -/
abbrev tok (t : Fin cfg0.N) (r : Fin 1024) : Fin 16384 := ⟨t / 11 * 1024 + r, by have := n_lt t; omega⟩

/-- Column `l` of the column tile at `t`. -/
abbrev col (t : Fin cfg0.N) (l : Fin 512) : Fin 5648 := ⟨t % 11 * 512 + l, by omega⟩

/-! ## The operands the host prepares -/

/-- The sequence and the place of token `R`. -/
abbrev sq (R : Fin 16384) : Fin 8 := ⟨(R : ℕ) / 2048, by omega⟩
abbrev pl (R : Fin 16384) : Fin 2048 := ⟨(R : ℕ) % 2048, by omega⟩

theorem v6_at (R : Fin 16384) (l : Fin 2048) : (V m c main_v6 : Vec Ideal S16384x2048 .f32) (ix2 R l)
    = (m ((c : Thread nD τ).loc main_arg0) : Vec Ideal S8x2048x2048 .f32) (ix3 (sq R) (pl R) l) := by
  unfold V
  simp only [List.flatten_cons, List.flatten_nil, List.append_nil, List.cons_append, List.nil_append, hostOps0, hostOps0_1, hostOps0_2]
  after_results
  pointwise

theorem v3_at (l : Fin 2048) : (V m c main_v3 : Vec Ideal S1x2048 .f32) (ix2 0 l) = (m ((c : Thread nD τ).loc main_arg1) : Vec Ideal S2048 .f32) (ix1 l) := by
  unfold V
  simp only [List.flatten_cons, List.flatten_nil, List.append_nil, List.cons_append, List.nil_append, hostOps0, hostOps0_1, hostOps0_2]
  after_results
  pointwise

theorem v4_at (l : Fin 128) : (V m c main_v4 : Vec Ideal S1x128 .f32) (ix2 0 l) = (m ((c : Thread nD τ).loc main_arg3) : Vec Ideal S128 .f32) (ix1 l) := by
  unfold V
  simp only [List.flatten_cons, List.flatten_nil, List.append_nil, List.cons_append, List.nil_append, hostOps0, hostOps0_1, hostOps0_2]
  after_results
  pointwise

theorem v5_at (l : Fin 128) : (V m c main_v5 : Vec Ideal S1x128 .f32) (ix2 0 l) = (m ((c : Thread nD τ).loc main_arg4) : Vec Ideal S128 .f32) (ix1 l) := by
  unfold V
  simp only [List.flatten_cons, List.flatten_nil, List.append_nil, List.cons_append, List.nil_append, hostOps0, hostOps0_1, hostOps0_2]
  after_results
  pointwise

/-- The integer zero, converted. -/
theorem zero_of (φ : FTy) : FloatOps.sitofp (F := Ideal) φ (0#32) = (0 : EReal) := by
  show (((0#32 : BitVec 32).toInt : ℝ) : EReal) = 0
  simp

/-- The step sizes' sixteen columns of the weights, the other lanes zero. -/
theorem v2_at (j : Fin 2048) (l : Fin 128) : (V m c main_v2 : Vec Ideal S2048x128 .bf16) (ix2 j l)
    = if h : (l : ℕ) < 16 then (m ((c : Thread nD τ).loc main_arg2) : Vec Ideal S2048x5648 .f32) (ix2 j ⟨5632 + l, by omega⟩) else (0 : EReal) := by
  unfold V
  simp only [List.flatten_cons, List.flatten_nil, List.append_nil, List.cons_append, List.nil_append, hostOps0, hostOps0_1, hostOps0_2]
  after_results
  change (pad (s := S2048x16) (u := S_) S2048x128 ![0, 0] ![0, 112] ![0, 0]
    (truncf (F := Ideal) .bf16 (extractStridedSlice S2048x16 ![0, 5632] (m ((c : Thread nD τ).loc main_arg2) : Vec Ideal S2048x5648 .f32) slices_S2048x5648_S2048x16_0_5632) bitsLt_bf16_f32)
    (sitofp (F := Ideal) .bf16 (constantI S_ 32 0#32)) pads_S2048x16_S2048x128_000_01120 h_S_ : Vec Ideal S2048x128 .bf16) (ix2 j l) = _
  pointwise
  by_cases hl : (l : ℕ) < 16
  · rw [dif_pos hl, dif_pos hl]
  · rw [dif_neg hl, dif_neg hl]
    exact zero_of _

/-! ## One point's products -/

/-- Token `R`'s projection. -/
def P (R : Fin 16384) : Fin 5648 → EReal :=
  prj (fun j => (m ((c : Thread nD τ).loc main_arg0) : Vec Ideal S8x2048x2048 .f32) (ix3 (sq R) (pl R) j))
    (fun j => (m ((c : Thread nD τ).loc main_arg1) : Vec Ideal S2048 .f32) (ix1 j))
    (fun j l => (m ((c : Thread nD τ).loc main_arg2) : Vec Ideal S2048x5648 .f32) (ix2 j l))

/-- Token `R`'s normalised row. -/
def NR (R : Fin 16384) : Fin 2048 → EReal :=
  nrm (fun j => (m ((c : Thread nD τ).loc main_arg0) : Vec Ideal S8x2048x2048 .f32) (ix3 (sq R) (pl R) j))
    (fun j => (m ((c : Thread nD τ).loc main_arg1) : Vec Ideal S2048 .f32) (ix1 j))

theorem xn_at (t : Fin cfg0.N) (r : Fin 1024) (k : Fin 2048) : XN m c t (ix2 r k) = NR m c (tok t r) k := by
  have hs := src_div 0 0 t
  have e0 : ∀ j : Fin 2048, (show Vec Ideal S1024x2048 .f32 from iblk m c 0 (src 0 0 t)) (ix2 r j) = _ := fun j =>
    Eq.trans (b := (V m c main_v6 : Vec Ideal S16384x2048 .f32) (ix2 (tok t r) j)) (by blk_ext [iblk, idx (src 0 0 t), hs]) (v6_at m c (tok t r) j)
  have e1 : ∀ j : Fin 2048, (show Vec Ideal S1x2048 .f32 from iblk m c 1 (src 0 0 t)) (ix2 0 j) = _ := fun j =>
    Eq.trans (b := (V m c main_v3 : Vec Ideal S1x2048 .f32) (ix2 0 j)) (by blk_ext [iblk, idx (src 0 0 t)]) (v3_at m c j)
  refine (pay12_at _ _ r k).trans ?_
  unfold NR
  congr 1
  · exact funext e0
  · exact funext e1

theorem x2_at (t : Fin cfg0.N) (j : Fin 2048) (l : Fin 512) :
    X0_2 m c t (ix2 j l) = (m ((c : Thread nD τ).loc main_arg2) : Vec Ideal S2048x5648 .f32) (ix2 j (col t l)) := by
  refine Eq.trans (b := (V m c main_arg2 : Vec Ideal S2048x5648 .f32) (ix2 j (col t l))) ?_ (congrFun (V_main_arg2 m c) _)
  unfold X0_2 Pipeline.Window.fill
  rw [dif_pos (moved0_2 t _)]
  blk_ext [iblk, idx t]

theorem acc_at (t : Fin cfg0.N) (r : Fin 1024) (l : Fin 512) : ACC m c t (ix2 r l) = P m c (tok t r) (col t l) := by
  refine (pay14_at _ _ r l).trans ?_
  exact Finset.sum_congr rfl fun j _ => congrArg₂ (· * ·) (xn_at m c t r j) (x2_at m c t j l)

theorem dt_at (t : Fin cfg0.N) (r : Fin 1024) (l : Fin 128) : DT14 m c t (ix2 r l) = steps (P m c (tok t r)) l := by
  have e3 : ∀ j : Fin 2048, (show Vec Ideal S2048x128 .bf16 from iblk m c 3 t) (ix2 j l) = _ := fun j =>
    Eq.trans (b := (V m c main_v2 : Vec Ideal S2048x128 .bf16) (ix2 j l)) (by blk_ext [iblk, idx t]) (v2_at m c j l)
  refine (pay13_at _ _ r l).trans ?_
  refine (Finset.sum_congr rfl fun j _ => congrArg₂ (· * ·) (xn_at m c t r j) (e3 j)).trans ?_
  unfold steps
  by_cases hl : (l : ℕ) < 16
  · simp only [dif_pos hl]
    rfl
  · simp only [dif_neg hl, mul_zero, Finset.sum_const_zero]

/-- A tile of heads, from the tile of the projection it normalises. -/
theorem four_of (t : Fin cfg0.N) (o : ℕ) (ho : o ≤ 1024) (h1 : o ≤ t.val % 11 * 512) (h2 : t.val % 11 * 512 < o + 1024) (h3 : o % 512 = 0) (g : Vec Ideal S1x128 .f32) (G : Fin 128 → EReal)
    (hg : ∀ k, g (ix2 0 k) = G k) (r : Fin 1024) (l : Fin 512) :
    four (ACC m c t) g (ix2 r l) = heads (P m c (tok t r)) o ho G ⟨t.val % 11 * 512 + l - o, by omega⟩ := by
  have e : (fun k => g (ix2 0 k)) = G := funext hg
  show head (fun e => ACC m c t (ix2 r ⟨(l : ℕ) / 128 * 128 + e, _⟩)) (fun k => g (ix2 0 k)) ⟨(l : ℕ) % 128, _⟩ = head _ G ⟨_, _⟩
  rw [e]
  congr 1
  · funext e
    rw [acc_at]
    refine congrArg (P m c (tok t r)) (Fin.ext ?_)
    show t.val % 11 * 512 + ((l : ℕ) / 128 * 128 + e) = o + ((t.val % 11 * 512 + l - o) / 128 * 128 + e)
    omega
  · refine Fin.ext ?_
    show (l : ℕ) % 128 = (t.val % 11 * 512 + l - o) % 128
    omega

theorem q_at (t : Fin cfg0.N) (h : t.val % 11 < 2) (r : Fin 1024) (l : Fin 512) :
    Q9 m c t (ix2 r l) = heads (P m c (tok t r)) 0 (by decide) (fun k => (m ((c : Thread nD τ).loc main_arg3) : Vec Ideal S128 .f32) (ix1 k)) ⟨t.val % 11 * 512 + l - 0, by omega⟩ := by
  refine (qBlock_at _ _ _ _).trans (four_of m c t 0 (by decide) (by omega) (by omega) rfl _ _ (fun k => ?_) r l)
  exact Eq.trans (b := (V m c main_v4 : Vec Ideal S1x128 .f32) (ix2 0 k)) (by blk_ext [iblk, idx t]) (v4_at m c k)

theorem k_at (t : Fin cfg0.N) (h : 2 ≤ t.val % 11) (h' : t.val % 11 < 4) (r : Fin 1024) (l : Fin 512) :
    K10 m c t (ix2 r l) = heads (P m c (tok t r)) 1024 (by decide) (fun k => (m ((c : Thread nD τ).loc main_arg4) : Vec Ideal S128 .f32) (ix1 k)) ⟨t.val % 11 * 512 + l - 1024, by omega⟩ := by
  refine ((congrFun (kBlock_eq _ _ _) _).trans (qBlock_at _ _ _ _)).trans (four_of m c t 1024 (by decide) (by omega) (by omega) rfl _ _ (fun k => ?_) r l)
  exact Eq.trans (b := (V m c main_v5 : Vec Ideal S1x128 .f32) (ix2 0 k)) (by blk_ext [iblk, idx t]) (v5_at m c k)

/-! ## The nine results -/

theorem place {α : Type} {p q : ℕ} (f : Fin p → Fin q → α) {a a' : Fin p} {b b' : Fin q} (h : (a : ℕ) = a') (h' : (b : ℕ) = b') : f a b = f a' b' := by
  rw [Fin.ext h, Fin.ext h']

theorem final9 : (dats m 0 c).arrAt 9 cfg0.N = fun y : S16384x1024.Idx =>
    heads (P m c (y 0)) 0 (by decide) (fun k => (m ((c : Thread nD τ).loc main_arg3) : Vec Ideal S128 .f32) (ix1 k)) (y 1) := by
  refine (dats m 0 c).arrAt_eq_of_covers 9 _ (by decide +kernel) fun t hf y => ?_
  have hs := src_mod 0 1 t
  have hd := src_div 0 1 t
  blk_simp
  rw [after9]
  change S1024x512.Idx at y
  idx_vars y
  refine (q_at m c (src 0 1 t) (by omega) y0 y1).trans ?_
  refine place (fun R l => heads (P m c R) 0 (by decide) _ l) ?_ ?_ <;> blk_simp [odx t] <;> (try dsimp only [tok, col]) <;> omega

theorem final10 : (dats m 0 c).arrAt 10 cfg0.N = fun y : S16384x1024.Idx =>
    heads (P m c (y 0)) 1024 (by decide) (fun k => (m ((c : Thread nD τ).loc main_arg4) : Vec Ideal S128 .f32) (ix1 k)) (y 1) := by
  refine (dats m 0 c).arrAt_eq_of_covers 10 _ (by decide +kernel) fun t hf y => ?_
  have hs := src_mod 2 3 t
  have hd := src_div 2 3 t
  blk_simp
  rw [after10]
  change S1024x512.Idx at y
  idx_vars y
  refine (k_at m c (src 2 3 t) (by omega) (by omega) y0 y1).trans ?_
  refine place (fun R l => heads (P m c R) 1024 (by decide) _ l) ?_ ?_ <;> blk_simp [odx t] <;> (try dsimp only [tok, col]) <;> omega

theorem final11 : (dats m 0 c).arrAt 11 cfg0.N = fun y : S16384x1024.Idx =>
    P m c (y 0) ⟨2048 + y 1, by have := (y 1).isLt; change (y 1 : ℕ) < 1024 at this; omega⟩ := by
  refine (dats m 0 c).arrAt_eq_of_covers 11 _ (by decide +kernel) fun t hf y => ?_
  have hs := src_mod 4 5 t
  have hd := src_div 4 5 t
  blk_simp
  rw [after11]
  change S1024x512.Idx at y
  idx_vars y
  refine (acc_at m c (src 4 5 t) y0 y1).trans ?_
  refine place (P m c) ?_ ?_ <;> blk_simp [odx t] <;> (try dsimp only [tok, col]) <;> omega

theorem final12 : (dats m 0 c).arrAt 12 cfg0.N = fun y : S16384x1024.Idx =>
    P m c (y 0) ⟨3072 + y 1, by have := (y 1).isLt; change (y 1 : ℕ) < 1024 at this; omega⟩ := by
  refine (dats m 0 c).arrAt_eq_of_covers 12 _ (by decide +kernel) fun t hf y => ?_
  have hs := src_mod 6 7 t
  have hd := src_div 6 7 t
  blk_simp
  rw [after12]
  change S1024x512.Idx at y
  idx_vars y
  refine (acc_at m c (src 6 7 t) y0 y1).trans ?_
  refine place (P m c) ?_ ?_ <;> blk_simp [odx t] <;> (try dsimp only [tok, col]) <;> omega

theorem final13 : (dats m 0 c).arrAt 13 cfg0.N = fun y : S16384x1536.Idx =>
    P m c (y 0) ⟨4096 + y 1, by have := (y 1).isLt; change (y 1 : ℕ) < 1536 at this; omega⟩ := by
  refine (dats m 0 c).arrAt_eq_of_covers 13 _ (by decide +kernel) fun t hf y => ?_
  have hs := src_mod 8 10 t
  have hd := src_div 8 10 t
  blk_simp
  rw [after13]
  change S1024x512.Idx at y
  idx_vars y
  refine (acc_at m c (src 8 10 t) y0 y1).trans ?_
  refine place (P m c) ?_ ?_ <;> blk_simp [odx t] <;> (try dsimp only [tok, col]) <;> omega

theorem final14 : (dats m 0 c).arrAt 14 cfg0.N = fun y : S16384x128.Idx => steps (P m c (y 0)) (y 1) := by
  refine (dats m 0 c).arrAt_eq_of_covers 14 _ (by decide +kernel) fun t hf y => ?_
  have hd := src_div 0 0 t
  blk_simp
  rw [after14]
  change S1024x128.Idx at y
  idx_vars y
  refine (dt_at m c (src 0 0 t) y0 y1).trans ?_
  refine place (fun R l => steps (P m c R) l) ?_ ?_ <;> blk_simp [odx t] <;> (try dsimp only [tok, col]) <;> omega

theorem final15 : (dats m 0 c).arrAt 15 cfg0.N = (m ((c : Thread nD τ).loc main_arg5) : Vec Ideal S2048x5632 .f32) := by
  refine (dats m 0 c).arrAt_eq_of_covers 15 _ (by decide +kernel) fun t hf y => ?_
  blk_simp
  rw [after15]
  change S128x512.Idx at y
  rw [← V_main_arg5 m c]
  blk_ext [k0_pay9, iblk, idx t, odx t]

theorem final16 : (dats m 0 c).arrAt 16 cfg0.N = (m ((c : Thread nD τ).loc main_arg6) : Vec Ideal S2048x5632 .f32) := by
  refine (dats m 0 c).arrAt_eq_of_covers 16 _ (by decide +kernel) fun t hf y => ?_
  blk_simp
  rw [after16]
  change S128x512.Idx at y
  rw [← V_main_arg6 m c]
  blk_ext [k0_pay10, iblk, idx t, odx t]

theorem final17 : (dats m 0 c).arrAt 17 cfg0.N = (m ((c : Thread nD τ).loc main_arg7) : Vec Ideal S5632x2048 .f32) := by
  refine (dats m 0 c).arrAt_eq_of_covers 17 _ (by decide +kernel) fun t hf y => ?_
  blk_simp
  rw [after17]
  change S512x128.Idx at y
  rw [← V_main_arg7 m c]
  blk_ext [k0_pay11, iblk, idx t, odx t]

end Cert.InpIdeal.Hand

end
-- ==== Proof.Inp.Frame.lean ====
module

public import proofs.«01_k».proof.Proof.Inp.Data

/-! The body's obligation of the input projection at any float, and from it the run and the frame. -/

@[expose] public section

set_option maxRecDepth 16384

noncomputable section

namespace Cert.InpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpIdeal Cert.InpIdeal.Gen

variable {F : FTy → Type} [FloatOps F]
variable (m : (ℓ : Loc nD τ sig) → Buf (Elt F) ℓ) (ρ : Dev nD → PrngReg)

/-! ## The body's obligation -/

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d))
    ∗ (∃ d, owns (c : Thread nD τ) ((cfg0.win 15).stage (cfg0.slots t 15)) fullShare ((dats m 0 c).before 15 t d))
    ∗ (∃ d, owns (c : Thread nD τ) ((cfg0.win 16).stage (cfg0.slots t 16)) fullShare ((dats m 0 c).before 16 t d))
    ∗ (∃ d, owns (c : Thread nD τ) ((cfg0.win 17).stage (cfg0.slots t 17)) fullShare ((dats m 0 c).before 17 t d)))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ handed m c 9 t
    ∗ handed m c 10 t
    ∗ handed m c 11 t
    ∗ handed m c 12 t
    ∗ handed m c 13 t
    ∗ handed m c 14 t
    ∗ owns (c : Thread nD τ) ((cfg0.win 15).stage (cfg0.slots t 15)) fullShare ((dats m 0 c).after 15 t)
    ∗ owns (c : Thread nD τ) ((cfg0.win 16).stage (cfg0.slots t 16)) fullShare ((dats m 0 c).after 16 t)
    ∗ owns (c : Thread nD τ) ((cfg0.win 17).stage (cfg0.slots t 17)) fullShare ((dats m 0 c).after 17 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after15, after16, after17,
    show (dats m 0 c).Φ t.castSucc = Kept m c t.val (Nat.le_of_lt t.isLt) from by dsimp only [dats]; exact Dat.Φ_castSucc (Kept m c) t,
    show (dats m 0 c).Φ t.succ = iprop(owns (c : Thread nD τ) (Memref.whole cc0_scratch0) fullShare (XN m c t) ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave HΦ := Kept_open m c t $$ HΦ
  icases HΦ with ⟨⟨%d, %hd, HS⟩, Hg⟩
  have hx : normed (grid0.coords t) (iblk m c 0 t) (iblk m c 1 t) d = XN m c t := by
    unfold normed
    split
    · next h => rw [cond1] at h; unfold XN; rw [src_self 0 0 t (Nat.zero_le _) (Nat.le_of_eq h)]
    · next h => rw [cond1] at h; exact hd h
  iapply (body_run c (grid0.coords t) _ _ _ _ _ _ _ _ _ _ _ _ _ _ _ _ _ _ _ _ _ _ _ _ _ _ _ _ _ _ _ _ _ _ _ _ _ _
    (iblk m c 0 t) (iblk m c 1 t) (X0_2 m c t) (iblk m c 3 t) (iblk m c 4 t) (iblk m c 5 t) (iblk m c 6 t) (iblk m c 7 t) (iblk m c 8 t)
    _ _ _ _ _ _ _ _ _ d (ways t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS]; · iexact HS
  rw [hx]
  iintro ⟨H0, H1, H2, H3, H4, H5, H6, H7, H8, H9, H10, H11, H12, H13, H14, H15, H16, H17, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (back9 m c t d9)
    iexact H9
  isplitl [H10]
  · iapply (back10 m c t d10)
    iexact H10
  isplitl [H11]
  · iapply (back11 m c t d11)
    iexact H11
  isplitl [H12]
  · iapply (back12 m c t d12)
    iexact H12
  isplitl [H13]
  · iapply (back13 m c t d13)
    iexact H13
  isplitl [H14]
  · iapply (back14 m c t d14)
    iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c :=
  (show (dats m 0 c).Φ (Fin.last cfg0.N) = Kept m c (Fin.last cfg0.N).val (Nat.le_of_lt_succ (Fin.last cfg0.N).isLt) from rfl) ▸
    Kept_out m c _ _ (by rw [Fin.val_last]; have : cfg0.N = 176 := N_0; omega)

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the region ends at what the proof data compute, every other buffer as the region found it. -/
theorem run_main : θ_run defs (onTc (τ := τ) (main (F := F))) (s₀ m ρ) (Pipeline.FramePost cfgs (dats m) 0 (V m)) :=
  (θ_run defs _ _).mono (fun _ h => h.1) (run_quiet m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.InpIdeal.Hand

end
-- ==== Proof.Inp.Ref.lean ====
module

public import proofs.«01_k».proof.Proof.Inp.Math
public import proofs.«01_k».proof.Proof.Gen.InpRefIdeal.Read

/-! The input projection's reference, stage by stage, in the words of `Cert.Inp`. -/

@[expose] public section

set_option maxRecDepth 16384

noncomputable section

namespace Cert.InpRefIdeal.Spec

open Idealize.ShloMosaic Idealize.ShloMosaic.TcCoe Idealize.SL.Sem
open Cert.InpRefIdeal Cert.InpRefIdeal.Read Cert.Inp

variable (x0 : (⟨S8x2048x2048, .f32⟩ : BufTy).Contents (Elt Ideal)) (x1 : (⟨S2048, .f32⟩ : BufTy).Contents (Elt Ideal))
  (x2 : (⟨S2048x5648, .f32⟩ : BufTy).Contents (Elt Ideal)) (x3 x4 : (⟨S128, .f32⟩ : BufTy).Contents (Elt Ideal))

/-- The projection of the token at place `r` of sequence `b`. -/
abbrev row (b : Fin 8) (r : Fin 2048) : Fin 5648 → EReal :=
  prj (fun j => x0 (ix3 b r j)) (fun j => x1 (ix1 j)) (fun j l => x2 (ix2 j l))

abbrev sq (R : Fin 16384) : Fin 8 := ⟨(R : ℕ) / 2048, by omega⟩
abbrev pl (R : Fin 16384) : Fin 2048 := ⟨(R : ℕ) % 2048, by omega⟩

theorem norm_at (b : Fin 8) (r k : Fin 2048) :
    val_main_v12 (F := Ideal) x0 x1 (ix3 b r k) = nrm (fun j => x0 (ix3 b r j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem row_at (b : Fin 8) (r : Fin 2048) (l : Fin 5648) : val_main_v13 (F := Ideal) x0 x1 x2 (ix3 b r l) = row x0 x1 x2 b r l := by
  have h := norm_at x0 x1
  pointwise [val_main_v13, h]
  rfl

theorem v20_at (b : Fin 8) (r : Fin 2048) (a : Fin 8) (e : Fin 128) :
    val_main_v20 (F := Ideal) x0 x1 x2 (ix4 b r a e) = row x0 x1 x2 b r ⟨0 + (a * 128 + e), by omega⟩ := by
  have h := row_at x0 x1 x2
  pointwise [val_main_v20, val_main_v14, h]

theorem v21_at (b : Fin 8) (r : Fin 2048) (a : Fin 8) (e : Fin 128) :
    val_main_v21 (F := Ideal) x0 x1 x2 (ix4 b r a e) = row x0 x1 x2 b r ⟨1024 + (a * 128 + e), by omega⟩ := by
  have h := row_at x0 x1 x2
  pointwise [val_main_v21, val_main_v15, h]

theorem q_at (b : Fin 8) (r : Fin 2048) (a : Fin 8) (e : Fin 128) : val_main_v34 (F := Ideal) x0 x1 x2 x3 (ix4 b r a e)
    = head (fun e => row x0 x1 x2 b r ⟨0 + (a * 128 + e), by omega⟩) (fun e => x3 (ix1 e)) e := by
  have h := v20_at x0 x1 x2
  pointwise [val_main_v34, val_main_v33, val_main_v32, val_main_v31, val_main_v30, val_main_v29, val_main_v28, val_main_v27, val_main_v26, val_main_v25, val_main_v24, val_main_v23, val_main_v22, val_main_cst_2, val_main_cst_3, val_main_cst_4, h]
  rfl

theorem k_at (b : Fin 8) (r : Fin 2048) (a : Fin 8) (e : Fin 128) : val_main_v47 (F := Ideal) x0 x1 x2 x4 (ix4 b r a e)
    = head (fun e => row x0 x1 x2 b r ⟨1024 + (a * 128 + e), by omega⟩) (fun e => x4 (ix1 e)) e := by
  have h := v21_at x0 x1 x2
  pointwise [val_main_v47, val_main_v46, val_main_v45, val_main_v44, val_main_v43, val_main_v42, val_main_v41, val_main_v40, val_main_v39, val_main_v38, val_main_v37, val_main_v36, val_main_v35, val_main_cst_5, val_main_cst_6, val_main_cst_7, h]
  rfl

theorem res0 (R : Fin 16384) (l : Fin 1024) :
    val_main_v49 (F := Ideal) x0 x1 x2 x3 (ix2 R l) = heads (row x0 x1 x2 (sq R) (pl R)) 0 (by decide) (fun e => x3 (ix1 e)) l := by
  have h := q_at x0 x1 x2 x3
  pointwise [val_main_v49, h]
  unfold heads
  simp only [Nat.zero_add]

theorem res1 (R : Fin 16384) (l : Fin 1024) :
    val_main_v50 (F := Ideal) x0 x1 x2 x4 (ix2 R l) = heads (row x0 x1 x2 (sq R) (pl R)) 1024 (by decide) (fun e => x4 (ix1 e)) l := by
  have h := k_at x0 x1 x2 x4
  pointwise [val_main_v50, h]
  rfl

theorem res2 (R : Fin 16384) (l : Fin 1024) :
    val_main_v51 (F := Ideal) x0 x1 x2 (ix2 R l) = row x0 x1 x2 (sq R) (pl R) ⟨2048 + l, by omega⟩ := by
  have h := row_at x0 x1 x2
  pointwise [val_main_v51, val_main_v16, h]

theorem res3 (R : Fin 16384) (l : Fin 1024) :
    val_main_v52 (F := Ideal) x0 x1 x2 (ix2 R l) = row x0 x1 x2 (sq R) (pl R) ⟨3072 + l, by omega⟩ := by
  have h := row_at x0 x1 x2
  pointwise [val_main_v52, val_main_v17, h]

theorem res4 (R : Fin 16384) (l : Fin 1536) :
    val_main_v53 (F := Ideal) x0 x1 x2 (ix2 R l) = row x0 x1 x2 (sq R) (pl R) ⟨4096 + l, by omega⟩ := by
  have h := row_at x0 x1 x2
  pointwise [val_main_v53, val_main_v18, h]

theorem v19_at (b : Fin 8) (r : Fin 2048) (l : Fin 16) :
    val_main_v19 (F := Ideal) x0 x1 x2 (ix3 b r l) = row x0 x1 x2 b r ⟨5632 + l, by omega⟩ := by
  have h := row_at x0 x1 x2
  pointwise [val_main_v19, h]

/-- The integer zero, converted. -/
theorem zero_of : FloatOps.sitofp (F := Ideal) FTy.f32 (0#32) = (0 : EReal) := by
  show (((0#32 : BitVec 32).toInt : ℝ) : EReal) = 0
  simp

theorem res5 (R : Fin 16384) (l : Fin 128) :
    val_main_v54 (F := Ideal) x0 x1 x2 (ix2 R l) = steps (row x0 x1 x2 (sq R) (pl R)) l := by
  have h := v19_at x0 x1 x2
  pointwise [val_main_v54, val_main_v48, val_main_call0_v0, val_main_c, h]
  unfold steps
  by_cases hl : (l : ℕ) < 16
  · rw [dif_pos hl, dif_pos ⟨by omega, by omega, hl⟩]
  · rw [dif_neg hl, dif_neg fun h => hl h.2.2]
    exact zero_of

end Cert.InpRefIdeal.Spec

end
-- ==== Proof.Inp.RefRun.lean ====
module

public import proofs.«01_k».proof.Proof.Inp.Ref
public import proofs.«01_k».proof.Proof.Gen.InpRefIdeal.Run
public import proofs.«01_k».proof.Defs

/-! The input projection's reference run, each result as a stage of the arguments. -/

@[expose] public section

set_option maxRecDepth 16384

noncomputable section

namespace Cert.InpRefIdeal.Spec

open Idealize.ShloMosaic Idealize.ShloMosaic.TcCoe Idealize.SL.Sem
open Cert.InpRefIdeal Cert.InpRefIdeal.Read

theorem frame_ref : Cert.quiescent_InpRefIdeal := fun m ρ _ => by
  exact (θ_run Cert.InpRefIdeal.defs _ _).mono (fun r h => ⟨fun c => (h c).2.2.2.2.2.2.2.2.2, sem_eq_zero_of_no_sems (by decide) r.2⟩)
    (Cert.InpRefIdeal.Value.run (F := Ideal) m ρ)

variable (m : (ℓ : Loc nD τ sig) → Buf (Elt Ideal) ℓ)

theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = val_main_v50 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v51) = val_main_v51 (F := Ideal) (m ((c.tc : Thread nD τ).loc main_arg0)) (m ((c.tc : Thread nD τ).loc main_arg1)) (m ((c.tc : Thread nD τ).loc main_arg2))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2))
      ∧ r.2.mem ((c.tc : Thread nD τ).loc main_v55) = val_main_v55 (F := Ideal) (m ((c.tc : Thread nD τ).loc main_arg5))
      ∧ r.2.mem ((c.tc : Thread nD τ).loc main_v56) = val_main_v56 (F := Ideal) (m ((c.tc : Thread nD τ).loc main_arg6))
      ∧ r.2.mem ((c.tc : Thread nD τ).loc main_v57) = val_main_v57 (F := Ideal) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    obtain ⟨h0, h1, h2, h3, h4, h5, h6, h7, h8, hr⟩ := h c
    refine ⟨h0.trans ?_, h1.trans ?_, h2.trans ?_, h3.trans ?_, h4.trans ?_, h5.trans ?_, h6.trans ?_, h7.trans ?_, h8.trans ?_, hr⟩
    · exact val_main_v49_eq (m ((c.tc : Thread nD τ).loc main_arg0)) (m ((c.tc : Thread nD τ).loc main_arg1)) (m ((c.tc : Thread nD τ).loc main_arg2)) (m ((c.tc : Thread nD τ).loc main_arg3))
    · exact val_main_v50_eq (m ((c.tc : Thread nD τ).loc main_arg0)) (m ((c.tc : Thread nD τ).loc main_arg1)) (m ((c.tc : Thread nD τ).loc main_arg2)) (m ((c.tc : Thread nD τ).loc main_arg4))
    · exact val_main_v51_eq (m ((c.tc : Thread nD τ).loc main_arg0)) (m ((c.tc : Thread nD τ).loc main_arg1)) (m ((c.tc : Thread nD τ).loc main_arg2))
    · exact val_main_v52_eq (m ((c.tc : Thread nD τ).loc main_arg0)) (m ((c.tc : Thread nD τ).loc main_arg1)) (m ((c.tc : Thread nD τ).loc main_arg2))
    · exact val_main_v53_eq (m ((c.tc : Thread nD τ).loc main_arg0)) (m ((c.tc : Thread nD τ).loc main_arg1)) (m ((c.tc : Thread nD τ).loc main_arg2))
    · exact val_main_v54_eq (m ((c.tc : Thread nD τ).loc main_arg0)) (m ((c.tc : Thread nD τ).loc main_arg1)) (m ((c.tc : Thread nD τ).loc main_arg2))
    · exact val_main_v55_eq (m ((c.tc : Thread nD τ).loc main_arg5))
    · exact val_main_v56_eq (m ((c.tc : Thread nD τ).loc main_arg6))
    · exact val_main_v57_eq (m ((c.tc : Thread nD τ).loc main_arg7)))
    (Cert.InpRefIdeal.Value.run m ρ)

end Cert.InpRefIdeal.Spec

end
-- ==== Proof.Inp.Value.lean ====
module

public import proofs.«01_k».proof.Proof.Inp.Final
public import proofs.«01_k».proof.Proof.Inp.Frame
public import proofs.«01_k».proof.Proof.Inp.RefRun

/-! The input projection: the kernel's nine results are the reference's. -/

@[expose] public section

set_option maxRecDepth 16384

noncomputable section

namespace Cert.InpIdeal.Meets

open Idealize.ShloMosaic Idealize.ShloMosaic.TcCoe Idealize.SL.Sem
open Cert.InpIdeal Cert.InpIdeal.Gen Cert.InpRefIdeal.Read

variable (m : (ℓ : Loc nD τ sig) → Buf (Elt Ideal) ℓ) (c : Dev nD)

theorem val0 : val_main_v49 (F := Ideal) (m (c.tc.loc main_arg0)) (m (c.tc.loc main_arg1)) (m (c.tc.loc main_arg2)) (m (c.tc.loc main_arg3))
    = (Hand.dats m 0 c).arrAt 9 cfg0.N := by
  refine Eq.trans ?_ (Hand.final9 m c).symm
  funext i
  idx_vars i
  exact Cert.InpRefIdeal.Spec.res0 (m (c.tc.loc main_arg0)) (m (c.tc.loc main_arg1)) (m (c.tc.loc main_arg2)) (m (c.tc.loc main_arg3)) i0 i1

theorem val1 : val_main_v50 (F := Ideal) (m (c.tc.loc main_arg0)) (m (c.tc.loc main_arg1)) (m (c.tc.loc main_arg2)) (m (c.tc.loc main_arg4))
    = (Hand.dats m 0 c).arrAt 10 cfg0.N := by
  refine Eq.trans ?_ (Hand.final10 m c).symm
  funext i
  idx_vars i
  exact Cert.InpRefIdeal.Spec.res1 (m (c.tc.loc main_arg0)) (m (c.tc.loc main_arg1)) (m (c.tc.loc main_arg2)) (m (c.tc.loc main_arg4)) i0 i1

theorem val2 : val_main_v51 (F := Ideal) (m (c.tc.loc main_arg0)) (m (c.tc.loc main_arg1)) (m (c.tc.loc main_arg2))
    = (Hand.dats m 0 c).arrAt 11 cfg0.N := by
  refine Eq.trans ?_ (Hand.final11 m c).symm
  funext i
  idx_vars i
  exact Cert.InpRefIdeal.Spec.res2 (m (c.tc.loc main_arg0)) (m (c.tc.loc main_arg1)) (m (c.tc.loc main_arg2)) i0 i1

theorem val3 : val_main_v52 (F := Ideal) (m (c.tc.loc main_arg0)) (m (c.tc.loc main_arg1)) (m (c.tc.loc main_arg2))
    = (Hand.dats m 0 c).arrAt 12 cfg0.N := by
  refine Eq.trans ?_ (Hand.final12 m c).symm
  funext i
  idx_vars i
  exact Cert.InpRefIdeal.Spec.res3 (m (c.tc.loc main_arg0)) (m (c.tc.loc main_arg1)) (m (c.tc.loc main_arg2)) i0 i1

theorem val4 : val_main_v53 (F := Ideal) (m (c.tc.loc main_arg0)) (m (c.tc.loc main_arg1)) (m (c.tc.loc main_arg2))
    = (Hand.dats m 0 c).arrAt 13 cfg0.N := by
  refine Eq.trans ?_ (Hand.final13 m c).symm
  funext i
  idx_vars i
  exact Cert.InpRefIdeal.Spec.res4 (m (c.tc.loc main_arg0)) (m (c.tc.loc main_arg1)) (m (c.tc.loc main_arg2)) i0 i1

theorem val5 : val_main_v54 (F := Ideal) (m (c.tc.loc main_arg0)) (m (c.tc.loc main_arg1)) (m (c.tc.loc main_arg2))
    = (Hand.dats m 0 c).arrAt 14 cfg0.N := by
  refine Eq.trans ?_ (Hand.final14 m c).symm
  funext i
  idx_vars i
  exact Cert.InpRefIdeal.Spec.res5 (m (c.tc.loc main_arg0)) (m (c.tc.loc main_arg1)) (m (c.tc.loc main_arg2)) i0 i1

theorem val6 : val_main_v55 (F := Ideal) (m (c.tc.loc main_arg5)) = (Hand.dats m 0 c).arrAt 15 cfg0.N :=
  Eq.trans rfl (Hand.final15 m c).symm

theorem val7 : val_main_v56 (F := Ideal) (m (c.tc.loc main_arg6)) = (Hand.dats m 0 c).arrAt 16 cfg0.N :=
  Eq.trans rfl (Hand.final16 m c).symm

theorem val8 : val_main_v57 (F := Ideal) (m (c.tc.loc main_arg7)) = (Hand.dats m 0 c).arrAt 17 cfg0.N :=
  Eq.trans rfl (Hand.final17 m c).symm

/-- The run with the nine results named and the arguments unchanged. -/
theorem run_results (ρ : Dev nD → PrngReg) : θ_run (defs (F := Ideal)) (onTc (τ := τ) (main (F := Ideal))) ⟨m, fun _ => 0, ρ⟩ fun r => ∀ c : Dev nD,
      r.2.mem ((c : Thread nD τ).loc main_v7_0) = (Hand.dats m 0 c).arrAt 9 cfg0.N
      ∧ r.2.mem ((c : Thread nD τ).loc main_v7_1) = (Hand.dats m 0 c).arrAt 10 cfg0.N
      ∧ r.2.mem ((c : Thread nD τ).loc main_v7_2) = (Hand.dats m 0 c).arrAt 11 cfg0.N
      ∧ r.2.mem ((c : Thread nD τ).loc main_v7_3) = (Hand.dats m 0 c).arrAt 12 cfg0.N
      ∧ r.2.mem ((c : Thread nD τ).loc main_v7_4) = (Hand.dats m 0 c).arrAt 13 cfg0.N
      ∧ r.2.mem ((c : Thread nD τ).loc main_v7_5) = (Hand.dats m 0 c).arrAt 14 cfg0.N
      ∧ r.2.mem ((c : Thread nD τ).loc main_v7_6) = (Hand.dats m 0 c).arrAt 15 cfg0.N
      ∧ r.2.mem ((c : Thread nD τ).loc main_v7_7) = (Hand.dats m 0 c).arrAt 16 cfg0.N
      ∧ r.2.mem ((c : Thread nD τ).loc main_v7_8) = (Hand.dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (θ_run_and (Hand.run_main m ρ) (Hand.frame m ρ))
  have e := (h.1 c).1
  exact ⟨e 9, e 10, e 11, e 12, e 13, e 14, e 15, e 16, e 17, h.2.1 c⟩

theorem algebraic : Cert.algebraic_InpIdeal_InpRefIdeal := by
  pair_intro
  · run_from run_results m g
  · run_from Cert.InpRefIdeal.Spec.run_ref m' g'
    · exact val0 m c
    · exact val1 m c
    · exact val2 m c
    · exact val3 m c
    · exact val4 m c
    · exact val5 m c
    · exact val6 m c
    · exact val7 m c
    · exact val8 m c

end Cert.InpIdeal.Meets

end
-- ==== Proof.Inp.Printed.lean ====
module

public import proofs.«01_k».proof.Defs
public import proofs.«01_k».proof.Proof.Gen.Inp
public import proofs.«01_k».proof.Proof.Inp.Frame

/-! The input projection as printed: its text is its reading's, so the one run over any float gives this frame too. -/

@[expose] public section

set_option maxRecDepth 16384

noncomputable section

namespace Cert.InpIdeal.Printed

open Idealize.ShloMosaic Idealize.SL.Sem

section
open Cert.InpIdeal

/-- The frame of the reading, at machine floats. -/
def Quiet : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
end

/-- The two texts are the same. -/
theorem quiet_same : Cert.quiescent_Inp = Quiet := by sl_kernel_rfl

theorem frame_inp : Cert.quiescent_Inp := quiet_same.mpr fun m ρ _ => Cert.InpIdeal.Hand.frame (F := Bits) m ρ

end Cert.InpIdeal.Printed

end
-- ==== Proof.InpS.Run.lean ====
module

public import proofs.«01_k».proof.Proof.Gen.InpSIdeal.Frame
public import proofs.«01_k».proof.Proof.Gen.InpSIdeal.Skeleton
public import proofs.«01_k».proof.Proof.Gen.InpSIdeal.Points
public import Idealize.ShloMosaic.Lib.Claim
public import Idealize.ShloMosaic.Lib.Pipeline.ValueKit

/-! The decoding tokens' input projection: its body run once, at any float: what it leaves in each buffer from what it finds there, on each
    of the six ways its conditions on the column tile can fall. -/

@[expose] public section

set_option maxRecDepth 16384

noncomputable section

namespace Cert.InpSIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpSIdeal Cert.InpSIdeal.Gen

variable {F : FTy → Type} [FloatOps F]

/-- The normalised token rows the point works on: made afresh on a row block's first column tile, kept afterwards. -/
def normed (i : grid0.Coords) (x : Vec F S128x2048 .f32) (g : Vec F S1x2048 .f32) (old : Vec F S128x2048 .bf16) : Vec F S128x2048 .bf16 :=
  if k0_cond1 i = 1#1 then k0_pay1 x g else old

/-- A tile of queries: four heads, each stored on its own. -/
def qBlock (xn : Vec F S128x2048 .bf16) (w : Vec F S2048x512 .f32) (g : Vec F S1x128 .f32) : Vec F S128x512 .f32 :=
  View.canon [
    ⟨Rect.unit (s := S128x512) ![0, 384] S128x128.size inb_S128x512_S128x128_0_384, k0_pay4 xn w (k0_pay6 g)⟩,
    ⟨Rect.unit (s := S128x512) ![0, 256] S128x128.size inb_S128x512_S128x128_0_256, k0_pay9 (k0_pay3 xn w) g⟩,
    ⟨Rect.unit (s := S128x512) ![0, 128] S128x128.size inb_S128x512_S128x128_0_128, k0_pay8 (k0_pay3 xn w) g⟩,
    ⟨Rect.unit (s := S128x512) ![0, 0] S128x128.size inb_S128x512_S128x128_0_0, k0_pay7 (k0_pay3 xn w) g⟩]

/-- A tile of keys: four heads, each stored on its own. -/
def kBlock (xn : Vec F S128x2048 .bf16) (w : Vec F S2048x512 .f32) (g : Vec F S1x128 .f32) : Vec F S128x512 .f32 :=
  View.canon [
    ⟨Rect.unit (s := S128x512) ![0, 384] S128x128.size inb_S128x512_S128x128_0_384, k0_pay5 xn w (k0_pay10 g)⟩,
    ⟨Rect.unit (s := S128x512) ![0, 256] S128x128.size inb_S128x512_S128x128_0_256, k0_pay13 (k0_pay3 xn w) g⟩,
    ⟨Rect.unit (s := S128x512) ![0, 128] S128x128.size inb_S128x512_S128x128_0_128, k0_pay12 (k0_pay3 xn w) g⟩,
    ⟨Rect.unit (s := S128x512) ![0, 0] S128x128.size inb_S128x512_S128x128_0_0, k0_pay11 (k0_pay3 xn w) g⟩]

theorem off_zero : (![0, 0] : Fin 2 → ℕ) = fun _ => 0 := by decide

section
variable {κ : Kind} {sp : Space} {S : Shape} {e : EltTy} {off : Fin S.rank → ℕ}

/-- A buffer wholly overwritten reads what was stored. -/
theorem read_stored (h : off = fun _ => 0) (v : View sig κ sp S e) (f : v.ty.Contents (Elt F)) (inb) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- A whole load of a buffer reads its contents. -/
theorem readAt_whole (h : off = fun _ => 0) (r : Memref sig κ sp S e) (hr : r.IsWhole) (inb) (x : S.Idx → Elt F e) :
    r.view.readAt (Elt F) (Rect.unit off S.size inb).toLoadRect (hr.unread x) = x := by
  rw [View.readAt_eq_ld, hr.read_unread]
  exact View.ld_unit_zero h inb x
end

set_option maxHeartbeats 40000000 in
theorem body_run (c : Dev nD) (i : grid0.Coords)
    (arg2 : Memref sig .tc .vmem S128x2048 .f32) (harg2 : arg2.IsWhole) (arg3 : Memref sig .tc .vmem S1x2048 .f32) (harg3 : arg3.IsWhole)
    (arg4 : Memref sig .tc .vmem S2048x512 .f32) (harg4 : arg4.IsWhole) (arg5 : Memref sig .tc .vmem S2048x128 .bf16) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S128x512 .f32) (harg8 : arg8.IsWhole)
    (arg9 : Memref sig .tc .vmem S128x512 .f32) (harg9 : arg9.IsWhole) (arg10 : Memref sig .tc .vmem S128x512 .f32) (harg10 : arg10.IsWhole)
    (arg11 : Memref sig .tc .vmem S128x512 .f32) (harg11 : arg11.IsWhole) (arg12 : Memref sig .tc .vmem S128x512 .f32) (harg12 : arg12.IsWhole)
    (arg13 : Memref sig .tc .vmem S128x128 .f32) (harg13 : arg13.IsWhole)
    (arg14 : Memref sig .tc .vmem S128x2048 .bf16) (harg14 : arg14.IsWhole)
    (x0 : Vec F S128x2048 .f32) (x1 : Vec F S1x2048 .f32) (x2 : Vec F S2048x512 .f32) (x3 : Vec F S2048x128 .bf16) (x4 : Vec F S1x128 .f32)
    (x5 : Vec F S1x128 .f32) (y9 : Vec F S128x512 .f32)
    (y10 : Vec F S128x512 .f32) (y11 : Vec F S128x512 .f32) (y12 : Vec F S128x512 .f32) (y13 : Vec F S128x512 .f32) (y14 : Vec F S128x128 .f32)
    (xs : Vec F S128x2048 .bf16)
    (hcase : (k0_cond1 i = 1#1 ∧ k0_cond2 i = 1#1 ∧ ¬ k0_cond3 i = 1#1 ∧ ¬ k0_cond4 i = 1#1 ∧ ¬ k0_cond5 i = 1#1 ∧ ¬ k0_cond6 i = 1#1) ∨
      (¬ k0_cond1 i = 1#1 ∧ k0_cond2 i = 1#1 ∧ ¬ k0_cond3 i = 1#1 ∧ ¬ k0_cond4 i = 1#1 ∧ ¬ k0_cond5 i = 1#1 ∧ ¬ k0_cond6 i = 1#1) ∨
      (¬ k0_cond1 i = 1#1 ∧ ¬ k0_cond2 i = 1#1 ∧ k0_cond3 i = 1#1 ∧ ¬ k0_cond4 i = 1#1 ∧ ¬ k0_cond5 i = 1#1 ∧ ¬ k0_cond6 i = 1#1) ∨
      (¬ k0_cond1 i = 1#1 ∧ ¬ k0_cond2 i = 1#1 ∧ ¬ k0_cond3 i = 1#1 ∧ k0_cond4 i = 1#1 ∧ ¬ k0_cond5 i = 1#1 ∧ ¬ k0_cond6 i = 1#1) ∨
      (¬ k0_cond1 i = 1#1 ∧ ¬ k0_cond2 i = 1#1 ∧ ¬ k0_cond3 i = 1#1 ∧ ¬ k0_cond4 i = 1#1 ∧ k0_cond5 i = 1#1 ∧ ¬ k0_cond6 i = 1#1) ∨
      (¬ k0_cond1 i = 1#1 ∧ ¬ k0_cond2 i = 1#1 ∧ ¬ k0_cond3 i = 1#1 ∧ ¬ k0_cond4 i = 1#1 ∧ ¬ k0_cond5 i = 1#1 ∧ k0_cond6 i = 1#1))
    (E : Set ℕ) (K : PUnit → sProp (MT nD τ sig Unit (Elt F) ℕ (UR sig nD τ) ℕ)) :
    iprop(
        owns (c : Thread nD τ) arg2 fullShare x0 ∗ owns (c : Thread nD τ) arg3 fullShare x1 ∗ owns (c : Thread nD τ) arg4 fullShare x2 ∗
        owns (c : Thread nD τ) arg5 fullShare x3 ∗ owns (c : Thread nD τ) arg6 fullShare x4 ∗ owns (c : Thread nD τ) arg7 fullShare x5 ∗
        owns (c : Thread nD τ) arg8 fullShare y9 ∗ owns (c : Thread nD τ) arg9 fullShare y10 ∗ owns (c : Thread nD τ) arg10 fullShare y11 ∗
        owns (c : Thread nD τ) arg11 fullShare y12 ∗ owns (c : Thread nD τ) arg12 fullShare y13 ∗ owns (c : Thread nD τ) arg13 fullShare y14 ∗
        owns (c : Thread nD τ) arg14 fullShare xs
      ∗ (iprop(
          owns (c : Thread nD τ) arg2 fullShare x0 ∗ owns (c : Thread nD τ) arg3 fullShare x1 ∗ owns (c : Thread nD τ) arg4 fullShare x2 ∗
          owns (c : Thread nD τ) arg5 fullShare x3 ∗ owns (c : Thread nD τ) arg6 fullShare x4 ∗ owns (c : Thread nD τ) arg7 fullShare x5 ∗
          owns (c : Thread nD τ) arg8 fullShare (if k0_cond2 i = 1#1 then qBlock (normed i x0 x1 xs) x2 x4 else y9) ∗
          owns (c : Thread nD τ) arg9 fullShare (if k0_cond3 i = 1#1 then kBlock (normed i x0 x1 xs) x2 x5 else y10) ∗
          owns (c : Thread nD τ) arg10 fullShare (if k0_cond4 i = 1#1 then k0_pay3 (normed i x0 x1 xs) x2 else y11) ∗
          owns (c : Thread nD τ) arg11 fullShare (if k0_cond5 i = 1#1 then k0_pay3 (normed i x0 x1 xs) x2 else y12) ∗
          owns (c : Thread nD τ) arg12 fullShare (if k0_cond6 i = 1#1 then k0_pay3 (normed i x0 x1 xs) x2 else y13) ∗
          owns (c : Thread nD τ) arg13 fullShare (if k0_cond1 i = 1#1 then k0_pay2 (normed i x0 x1 xs) x3 else y14) ∗
          owns (c : Thread nD τ) arg14 fullShare (normed i x0 x1 xs)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
  have r0 := fun inb => readAt_whole (S := S128x2048) off_zero arg2 harg2 inb x0
  have r1 := fun inb => readAt_whole (S := S1x2048) off_zero arg3 harg3 inb x1
  have r2 := fun inb => readAt_whole (S := S2048x512) off_zero arg4 harg4 inb x2
  have r3 := fun inb => readAt_whole (S := S2048x128) off_zero arg5 harg5 inb x3
  have r4 := fun inb => readAt_whole (S := S1x128) off_zero arg6 harg6 inb x4
  have r5 := fun inb => readAt_whole (S := S1x128) off_zero arg7 harg7 inb x5
  have rs := fun inb => readAt_whole (S := S128x2048) off_zero arg14 harg14 inb xs
  have rc := fun inb w => View.readCov_unit_zero (Val := Elt F) (S := S128x2048) arg14.view off_zero inb w
  rcases hcase with ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩ | ⟨h1, h2, h3, h4, h5, h6⟩
  all_goals
    simp only [normed, h1, h2, h3, h4, h5, h6, if_true, if_false]
    simp only [cc0_inproj_eq_skeleton]; unfold cc0_inproj_skel
    simp only [k0_part1_eq_skeleton, k0_part2_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f9, %e9, H9⟩, ⟨%f10, %e10, H10⟩, ⟨%f11, %e11, H11⟩, ⟨%f12, %e12, H12⟩, ⟨%f13, %e13, H13⟩, ⟨%f14, %e14, H14⟩, ⟨%f18, %e18, HS⟩, Hk⟩
    obtain rfl := harg2.eq_unread e0; obtain rfl := harg3.eq_unread e1; obtain rfl := harg4.eq_unread e2; obtain rfl := harg5.eq_unread e3; obtain rfl := harg6.eq_unread e4; obtain rfl := harg7.eq_unread e5; obtain rfl := harg8.eq_unread e9; obtain rfl := harg9.eq_unread e10; obtain rfl := harg10.eq_unread e11; obtain rfl := harg11.eq_unread e12; obtain rfl := harg12.eq_unread e13; obtain rfl := harg13.eq_unread e14; obtain rfl := harg14.eq_unread e18
    sl_exec (disch := first | sl_exact h1 | sl_exact h2 | sl_exact h3 | sl_exact h4 | sl_exact h5 | sl_exact h6)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H9]
    · iexists _; isplitr; swap; · iexact H9
      ipureintro; first | with_reducible exact harg8.read_unread _ | (refine (View.read_writes_eq_canon _ _ _ (View.cover_of_tiledL _ ![128, 128] (by sl_kernel_rfl))).trans ?_; (try delta body_run.sl.r); (try delta body_run.sl.r_1); (try delta body_run.sl.r_2); (try delta body_run.sl.v57); (try delta body_run.sl.v48); (try delta body_run.sl.v3); (try delta body_run.sl.v4); (try delta body_run.sl.HS_1); simp only [r0, r1, r2, r3, r4, r5, rs, rc, qBlock])
    isplitl [H10]
    · iexists _; isplitr; swap; · iexact H10
      ipureintro; first | with_reducible exact harg9.read_unread _ | (refine (View.read_writes_eq_canon _ _ _ (View.cover_of_tiledL _ ![128, 128] (by sl_kernel_rfl))).trans ?_; (try delta body_run.sl.r); (try delta body_run.sl.r_1); (try delta body_run.sl.r_2); (try delta body_run.sl.v57); (try delta body_run.sl.v48); (try delta body_run.sl.v3); (try delta body_run.sl.v4); (try delta body_run.sl.HS_1); simp only [r0, r1, r2, r3, r4, r5, rs, rc, kBlock])
    isplitl [H11]
    · iexists _; isplitr; swap; · iexact H11
      ipureintro; first | with_reducible exact harg10.read_unread _ | (with_reducible refine (read_stored (S := S128x512) off_zero _ _ _ _).trans ?_; (try delta body_run.sl.r); (try delta body_run.sl.r_1); (try delta body_run.sl.r_2); (try delta body_run.sl.v57); (try delta body_run.sl.v48); (try delta body_run.sl.v3); (try delta body_run.sl.v4); (try delta body_run.sl.HS_1); simp only [r0, r1, r2, r3, r4, r5, rs, rc])
    isplitl [H12]
    · iexists _; isplitr; swap; · iexact H12
      ipureintro; first | with_reducible exact harg11.read_unread _ | (with_reducible refine (read_stored (S := S128x512) off_zero _ _ _ _).trans ?_; (try delta body_run.sl.r); (try delta body_run.sl.r_1); (try delta body_run.sl.r_2); (try delta body_run.sl.v57); (try delta body_run.sl.v48); (try delta body_run.sl.v3); (try delta body_run.sl.v4); (try delta body_run.sl.HS_1); simp only [r0, r1, r2, r3, r4, r5, rs, rc])
    isplitl [H13]
    · iexists _; isplitr; swap; · iexact H13
      ipureintro; first | with_reducible exact harg12.read_unread _ | (with_reducible refine (read_stored (S := S128x512) off_zero _ _ _ _).trans ?_; (try delta body_run.sl.r); (try delta body_run.sl.r_1); (try delta body_run.sl.r_2); (try delta body_run.sl.v57); (try delta body_run.sl.v48); (try delta body_run.sl.v3); (try delta body_run.sl.v4); (try delta body_run.sl.HS_1); simp only [r0, r1, r2, r3, r4, r5, rs, rc])
    isplitl [H14]
    · iexists _; isplitr; swap; · iexact H14
      ipureintro; first | with_reducible exact harg13.read_unread _ | (with_reducible refine (read_stored (S := S128x128) off_zero _ _ _ _).trans ?_; (try delta body_run.sl.r); (try delta body_run.sl.r_1); (try delta body_run.sl.r_2); (try delta body_run.sl.v57); (try delta body_run.sl.v48); (try delta body_run.sl.v3); (try delta body_run.sl.v4); (try delta body_run.sl.HS_1); simp only [r0, r1, r2, r3, r4, r5, rs, rc])
    iexists _; isplitr; swap; · iexact HS
    ipureintro; first | with_reducible exact harg14.read_unread _ | (delta body_run.sl.HS_1; with_reducible refine (read_stored (S := S128x2048) off_zero _ _ _ _).trans ?_; simp only [r0, r1, r2, r3, r4, r5, rs, rc])

end Cert.InpSIdeal.Hand

end
-- ==== Proof.InpS.Data.lean ====
module

public import proofs.«01_k».proof.Proof.InpS.Run
public import Idealize.ShloMosaic.Lib.Pipeline.TableIdle

/-! The input projection at any float: when each condition holds, and what every window's buffer holds point by point. -/

@[expose] public section

set_option maxRecDepth 16384

noncomputable section

namespace Cert.InpSIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpSIdeal Cert.InpSIdeal.Gen

variable {F : FTy → Type} [FloatOps F]
variable (m : (ℓ : Loc nD τ sig) → Buf (Elt F) ℓ) (ρ : Dev nD → PrngReg)

/-! ## The conditions, by the column tile -/

theorem col_val (t : Fin grid0.N) : (grid0.coords t 1).val = t.val / 1 % 11 := Pipeline.Grid.coords_val t 1 (by decide) rfl

theorem cond1 : ∀ t : Fin grid0.N, k0_cond1 (grid0.coords t) = 1#1 ↔ t.val % 11 = 0 := by decide +kernel
theorem cond2 : ∀ t : Fin grid0.N, k0_cond2 (grid0.coords t) = 1#1 ↔ t.val % 11 < 2 := by decide +kernel
theorem cond3 : ∀ t : Fin grid0.N, k0_cond3 (grid0.coords t) = 1#1 ↔ (2 ≤ t.val % 11 ∧ t.val % 11 < 4) := by decide +kernel
theorem cond4 : ∀ t : Fin grid0.N, k0_cond4 (grid0.coords t) = 1#1 ↔ (4 ≤ t.val % 11 ∧ t.val % 11 < 6) := by decide +kernel
theorem cond5 : ∀ t : Fin grid0.N, k0_cond5 (grid0.coords t) = 1#1 ↔ (6 ≤ t.val % 11 ∧ t.val % 11 < 8) := by decide +kernel
theorem cond6 : ∀ t : Fin grid0.N, k0_cond6 (grid0.coords t) = 1#1 ↔ 8 ≤ t.val % 11 := by decide +kernel

/-! ## When a result's buffer holds nothing of the kernel's yet -/

theorem fresh6 (t : Fin cfg0.N) : cfg0.fresh 6 t.val = decide (t.val % 11 < 2) :=
  Cfg.fresh_tab cfg0 6 (fun n => decide (n % 11 < 2)) rfl (by decide +kernel) _ (Nat.le_of_lt t.isLt)
theorem fresh7 (t : Fin cfg0.N) : cfg0.fresh 7 t.val = decide (t.val % 11 < 4) :=
  Cfg.fresh_tab cfg0 7 (fun n => decide (n % 11 < 4)) rfl (by decide +kernel) _ (Nat.le_of_lt t.isLt)
theorem fresh8 (t : Fin cfg0.N) : cfg0.fresh 8 t.val = decide (t.val % 11 < 6) :=
  Cfg.fresh_tab cfg0 8 (fun n => decide (n % 11 < 6)) rfl (by decide +kernel) _ (Nat.le_of_lt t.isLt)
theorem fresh9 (t : Fin cfg0.N) : cfg0.fresh 9 t.val = decide (t.val % 11 < 8) :=
  Cfg.fresh_tab cfg0 9 (fun n => decide (n % 11 < 8)) rfl (by decide +kernel) _ (Nat.le_of_lt t.isLt)
theorem fresh11 (t : Fin cfg0.N) : cfg0.fresh 11 t.val = decide (t.val % 11 < 1) :=
  Cfg.fresh_tab cfg0 11 (fun n => decide (n % 11 < 1)) rfl (by decide +kernel) _ (Nat.le_of_lt t.isLt)

/-! ## What the buffers hold after each point -/

/-- The point of the same row block whose column tile is the nearest to `t`'s in `[lo, hi]`: the last that stored. -/
def src (lo hi : ℕ) (t : Fin cfg0.N) : Fin cfg0.N :=
  ⟨t.val - t.val % 11 + min 10 (min hi (max lo (t.val % 11))), by
    have h : t.val < 11 := Nat.lt_of_lt_of_eq t.isLt N_0
    have e : cfg0.N = 11 := N_0
    omega⟩

theorem src_self (lo hi : ℕ) (t : Fin cfg0.N) (h : lo ≤ t.val % 11) (h' : t.val % 11 ≤ hi) : src lo hi t = t := by
  apply Fin.ext; simp only [src]; omega

theorem src_pred (lo hi : ℕ) (t : Fin cfg0.N) (h : t.val % 11 ≠ 0) (h' : t.val % 11 ≤ lo ∨ hi < t.val % 11) (ht : t.val - 1 < cfg0.N) :
    src lo hi ⟨t.val - 1, ht⟩ = src lo hi t := by
  apply Fin.ext; simp only [src]; omega

/-- The row block's normalised rows. -/
def XN (c : Dev nD) (t : Fin cfg0.N) : Vec F S128x2048 .bf16 := k0_pay1 (iblk m c 0 (src 0 0 t)) (iblk m c 1 (src 0 0 t))

/-- Their product with the point's column tile of the weights. -/
def ACC (c : Dev nD) (t : Fin cfg0.N) : Vec F S128x512 .f32 := k0_pay3 (XN m c t) (X0_2 m c t)

def Q6 (c : Dev nD) (t : Fin cfg0.N) : Vec F S128x512 .f32 := qBlock (XN m c t) (X0_2 m c t) (iblk m c 4 t)
def K7 (c : Dev nD) (t : Fin cfg0.N) : Vec F S128x512 .f32 := kBlock (XN m c t) (X0_2 m c t) (iblk m c 5 t)
def DT11 (c : Dev nD) (t : Fin cfg0.N) : Vec F S128x128 .f32 := k0_pay2 (XN m c t) (iblk m c 3 t)

/-- The kept rows before position `n`: anything at first, then the last point's. -/
def Kept (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0) fullShare (XN m c ⟨n, hn⟩) ∗ (∃ r, prngReg c r))

theorem entry_eq (c : Dev nD) :
    (Pipeline.ΦA spec0 c : sProp (MT nD τ sig Unit (Elt F) ℕ (UR sig nD τ) ℕ))
      = iprop((∃ d, owns (c : Thread nD τ) (Memref.whole cc0_scratch0) fullShare d) ∗ (∃ r, prngReg c r)) := by
  unfold Pipeline.ΦA; rw [scopedRest0_eq]; simp only [owns_whole]

/-- Before any point the kept rows are some rows, and past a row block's first tile they are the block's own. -/
theorem Kept_open (c : Dev nD) (t : Fin cfg0.N) :
    Kept m c t.val (Nat.le_of_lt t.isLt)
      ⊢ iprop((∃ d, ⌜¬ t.val % 11 = 0 → d = XN m c t⌝ ∗ owns (c : Thread nD τ) (Memref.whole cc0_scratch0) fullShare d) ∗ (∃ r, prngReg c r)) := by
  obtain ⟨n, hn⟩ := t
  cases n with
  | zero =>
    show Pipeline.ΦA spec0 c ⊢ _
    rw [entry_eq]
    iintro ⟨⟨%d, H⟩, Hg⟩
    isplitl [H]
    · iexists d; isplitr
      · ipureintro; intro h; exact absurd (Nat.zero_mod _) h
      iexact H
    iexact Hg
  | succ n =>
    show iprop(owns (c : Thread nD τ) (Memref.whole cc0_scratch0) fullShare (XN m c ⟨n, _⟩) ∗ (∃ r, prngReg c r)) ⊢ _
    iintro ⟨H, Hg⟩
    isplitl [H]
    · iexists _; isplitr; swap; · iexact H
      ipureintro; intro h
      have e : src 0 0 ⟨n, Nat.lt_of_succ_lt hn⟩ = src 0 0 ⟨n + 1, hn⟩ :=
        src_pred 0 0 ⟨n + 1, hn⟩ h (.inr (Nat.pos_of_ne_zero h)) (Nat.lt_of_succ_lt hn)
      unfold XN; rw [e]
    iexact Hg

theorem Kept_out (c : Dev nD) (n : ℕ) (hn : n ≤ cfg0.N) (h : n ≠ 0) : Kept m c n hn ⊢ Pipeline.ΦA spec0 c := by
  cases n with
  | zero => exact absurd rfl h
  | succ n =>
    rw [entry_eq]
    show iprop(owns (c : Thread nD τ) (Memref.whole cc0_scratch0) fullShare (XN m c ⟨n, _⟩) ∗ (∃ r, prngReg c r)) ⊢ _
    iintro ⟨H, Hg⟩
    isplitl [H]; · iexists _; iexact H
    iexact Hg

/-- The region's proof data: arrays as the region finds them; after each point an operand's buffer at its block, a result's
    at what the last storing point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => Q6 m c (src 0 1 t)
    | ⟨7, _⟩ => K7 m c (src 2 3 t)
    | ⟨8, _⟩ => ACC m c (src 4 5 t)
    | ⟨9, _⟩ => ACC m c (src 6 7 t)
    | ⟨10, _⟩ => ACC m c (src 8 10 t)
    | ⟨11, _⟩ => DT11 m c (src 0 0 t)
    | ⟨n + 12, h⟩ => absurd h (Nat.not_lt.2 (Nat.le_add_left _ _))
  Φ t := Kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = Q6 m c (src 0 1 t) := by dsimp only [dats]
theorem after7 (c : Dev nD) (t : Fin cfg0.N) : (dats m 0 c).after 7 t = K7 m c (src 2 3 t) := by dsimp only [dats]
theorem after8 (c : Dev nD) (t : Fin cfg0.N) : (dats m 0 c).after 8 t = ACC m c (src 4 5 t) := by dsimp only [dats]
theorem after9 (c : Dev nD) (t : Fin cfg0.N) : (dats m 0 c).after 9 t = ACC m c (src 6 7 t) := by dsimp only [dats]
theorem after10 (c : Dev nD) (t : Fin cfg0.N) : (dats m 0 c).after 10 t = ACC m c (src 8 10 t) := by dsimp only [dats]
theorem after11 (c : Dev nD) (t : Fin cfg0.N) : (dats m 0 c).after 11 t = DT11 m c (src 0 0 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## What a result's buffer holds before a point that leaves it alone -/

/-- Past the last storing point of the row block, the buffer holds what the tables say and keeps it. -/
theorem before_kept (c : Dev nD) (w : Fin cfg0.W) (hw : (cfg0.win w).isOut = true) (hclip : ∀ (i : cfg0.grid.Coords) a, (cfg0.win w).clip i a = none)
    (k : ℕ) (hk : 0 < k) (hf : ∀ t : Fin cfg0.N, cfg0.fresh w t.val = decide (t.val % 11 < k))
    (ha : ∀ (t : Fin cfg0.N) (ht : t.val - 1 < cfg0.N), k ≤ t.val % 11 → (dats m 0 c).after w ⟨t.val - 1, ht⟩ = (dats m 0 c).after w t)
    (t : Fin cfg0.N) (h : k ≤ t.val % 11) (d) : (dats m 0 c).before w t d = (dats m 0 c).after w t := by
  rw [(dats m 0 c).before_out_traj w hw hclip (fun t' _ _ hfr => by
      rw [hf t'] at hfr
      exact (ha t' (by omega) (Nat.le_of_not_lt (of_decide_eq_false hfr))).symm) t.val t rfl d,
    if_neg (by rw [hf t, decide_eq_true_eq]; omega)]
  exact ha t _ h

theorem before6 (c : Dev nD) (t : Fin cfg0.N) (h : 2 ≤ t.val % 11) (d) : (dats m 0 c).before 6 t d = (dats m 0 c).after 6 t :=
  before_kept m c 6 rfl (fun _ _ => rfl) 2 (by decide) fresh6 (fun t ht hk => by
    rw [after6, after6, src_pred 0 1 t (by omega) (by omega) ht]) t h d
theorem before7 (c : Dev nD) (t : Fin cfg0.N) (h : 4 ≤ t.val % 11) (d) : (dats m 0 c).before 7 t d = (dats m 0 c).after 7 t :=
  before_kept m c 7 rfl (fun _ _ => rfl) 4 (by decide) fresh7 (fun t ht hk => by
    rw [after7, after7, src_pred 2 3 t (by omega) (by omega) ht]) t h d
theorem before8 (c : Dev nD) (t : Fin cfg0.N) (h : 6 ≤ t.val % 11) (d) : (dats m 0 c).before 8 t d = (dats m 0 c).after 8 t :=
  before_kept m c 8 rfl (fun _ _ => rfl) 6 (by decide) fresh8 (fun t ht hk => by
    rw [after8, after8, src_pred 4 5 t (by omega) (by omega) ht]) t h d
theorem before9 (c : Dev nD) (t : Fin cfg0.N) (h : 8 ≤ t.val % 11) (d) : (dats m 0 c).before 9 t d = (dats m 0 c).after 9 t :=
  before_kept m c 9 rfl (fun _ _ => rfl) 8 (by decide) fresh9 (fun t ht hk => by
    rw [after9, after9, src_pred 6 7 t (by omega) (by omega) ht]) t h d
theorem before11 (c : Dev nD) (t : Fin cfg0.N) (h : 1 ≤ t.val % 11) (d) : (dats m 0 c).before 11 t d = (dats m 0 c).after 11 t :=
  before_kept m c 11 rfl (fun _ _ => rfl) 1 (by decide) fresh11 (fun t ht hk => by
    rw [after11, after11, src_pred 0 0 t (by omega) (by omega) ht]) t h d

/-! ## Handing a result's buffer back -/

/-- What the obligation asks back of window `w`'s buffer at point `t`. -/
def handed (c : Dev nD) (w : Fin cfg0.W) (t : Fin cfg0.N) : sProp (MT nD τ sig Unit (Elt F) ℕ (UR sig nD τ) ℕ) :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem hand_back (c : Dev nD) (w : Fin cfg0.W) (t : Fin cfg0.N) (d) (p : Prop) [Decidable p]
    (new : (cfg0.win w).block.Idx → Elt F (cfg0.win w).elt)
    (hi : cfg0.idle w (cfg0.grid.coords t) = !decide p)
    (hn : p → new = (dats m 0 c).after w t)
    (ho : ¬ p → (cfg0.win w).flush t = true → (dats m 0 c).before w t d = (dats m 0 c).after w t) :
    owns (c : Thread nD τ) ((cfg0.win w).stage (cfg0.slots t w)) fullShare (if p then new else (dats m 0 c).before w t d) ⊢ handed m c w t := by
  unfold handed
  by_cases hp : p
  · rw [hi, if_pos hp, decide_eq_true hp, hn hp]
    exact Idealize.SL.BI.Entails.refl _
  · rw [hi, if_neg hp, decide_eq_false hp]
    cases hfl : (cfg0.win w).flush t with
    | false => show _ ⊢ iprop(∃ d, _); iintro H; iexists d; iexact H
    | true => rw [ho hp hfl]; exact Idealize.SL.BI.Entails.refl _

theorem flushed6 : ∀ t : Fin cfg0.N, ¬ k0_cond2 (grid0.coords t) = 1#1 → (cfg0.win 6).flush t = true → 2 ≤ t.val % 11 := by decide +kernel
theorem flushed7 : ∀ t : Fin cfg0.N, ¬ k0_cond3 (grid0.coords t) = 1#1 → (cfg0.win 7).flush t = true → 4 ≤ t.val % 11 := by decide +kernel
theorem flushed8 : ∀ t : Fin cfg0.N, ¬ k0_cond4 (grid0.coords t) = 1#1 → (cfg0.win 8).flush t = true → 6 ≤ t.val % 11 := by decide +kernel
theorem flushed9 : ∀ t : Fin cfg0.N, ¬ k0_cond5 (grid0.coords t) = 1#1 → (cfg0.win 9).flush t = true → 8 ≤ t.val % 11 := by decide +kernel
theorem flushed11 : ∀ t : Fin cfg0.N, ¬ k0_cond1 (grid0.coords t) = 1#1 → (cfg0.win 11).flush t = true → 1 ≤ t.val % 11 := by decide +kernel

theorem unflushed10 : ∀ t : Fin cfg0.N, ¬ k0_cond6 (grid0.coords t) = 1#1 → ¬ (cfg0.win 10).flush t = true := by decide +kernel

theorem back6 (c : Dev nD) (t : Fin cfg0.N) (d) :
    owns (c : Thread nD τ) (st0_6 t) fullShare
      (if k0_cond2 (grid0.coords t) = 1#1 then qBlock (XN m c t) (X0_2 m c t) (iblk m c 4 t) else (dats m 0 c).before 6 t d) ⊢ handed m c 6 t :=
  hand_back m c 6 t d (k0_cond2 (grid0.coords t) = 1#1) (Q6 m c t) rfl
    (fun h => by rw [cond2] at h; rw [after6, src_self 0 1 t (by omega) (by omega)]) (fun h hf => before6 m c t (flushed6 t h hf) d)

theorem back7 (c : Dev nD) (t : Fin cfg0.N) (d) :
    owns (c : Thread nD τ) (st0_7 t) fullShare
      (if k0_cond3 (grid0.coords t) = 1#1 then kBlock (XN m c t) (X0_2 m c t) (iblk m c 5 t) else (dats m 0 c).before 7 t d) ⊢ handed m c 7 t :=
  hand_back m c 7 t d (k0_cond3 (grid0.coords t) = 1#1) (K7 m c t) rfl
    (fun h => by rw [cond3] at h; rw [after7, src_self 2 3 t (by omega) (by omega)]) (fun h hf => before7 m c t (flushed7 t h hf) d)

theorem back8 (c : Dev nD) (t : Fin cfg0.N) (d) :
    owns (c : Thread nD τ) (st0_8 t) fullShare
      (if k0_cond4 (grid0.coords t) = 1#1 then k0_pay3 (XN m c t) (X0_2 m c t) else (dats m 0 c).before 8 t d) ⊢ handed m c 8 t :=
  hand_back m c 8 t d (k0_cond4 (grid0.coords t) = 1#1) (ACC m c t) rfl
    (fun h => by rw [cond4] at h; rw [after8, src_self 4 5 t (by omega) (by omega)]) (fun h hf => before8 m c t (flushed8 t h hf) d)

theorem back9 (c : Dev nD) (t : Fin cfg0.N) (d) :
    owns (c : Thread nD τ) (st0_9 t) fullShare
      (if k0_cond5 (grid0.coords t) = 1#1 then k0_pay3 (XN m c t) (X0_2 m c t) else (dats m 0 c).before 9 t d) ⊢ handed m c 9 t :=
  hand_back m c 9 t d (k0_cond5 (grid0.coords t) = 1#1) (ACC m c t) rfl
    (fun h => by rw [cond5] at h; rw [after9, src_self 6 7 t (by omega) (by omega)]) (fun h hf => before9 m c t (flushed9 t h hf) d)

theorem back10 (c : Dev nD) (t : Fin cfg0.N) (d) :
    owns (c : Thread nD τ) (st0_10 t) fullShare
      (if k0_cond6 (grid0.coords t) = 1#1 then k0_pay3 (XN m c t) (X0_2 m c t) else (dats m 0 c).before 10 t d) ⊢ handed m c 10 t :=
  hand_back m c 10 t d (k0_cond6 (grid0.coords t) = 1#1) (ACC m c t) rfl
    (fun h => by rw [cond6] at h; rw [after10, src_self 8 10 t (by omega) (by omega)]) (fun h hf => absurd hf (unflushed10 t h))

theorem back11 (c : Dev nD) (t : Fin cfg0.N) (d) :
    owns (c : Thread nD τ) (st0_11 t) fullShare
      (if k0_cond1 (grid0.coords t) = 1#1 then k0_pay2 (XN m c t) (iblk m c 3 t) else (dats m 0 c).before 11 t d) ⊢ handed m c 11 t :=
  hand_back m c 11 t d (k0_cond1 (grid0.coords t) = 1#1) (DT11 m c t) rfl
    (fun h => by rw [cond1] at h; rw [after11, src_self 0 0 t (by omega) (by omega)]) (fun h hf => before11 m c t (flushed11 t h hf) d)

/-- A point is on one of the body's six ways. -/
theorem ways (t : Fin grid0.N) :
    (k0_cond1 (grid0.coords t) = 1#1 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1) ∨
    (¬ k0_cond1 (grid0.coords t) = 1#1 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1) ∨
    (¬ k0_cond1 (grid0.coords t) = 1#1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1) ∨
    (¬ k0_cond1 (grid0.coords t) = 1#1 ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1) ∨
    (¬ k0_cond1 (grid0.coords t) = 1#1 ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1) ∨
    (¬ k0_cond1 (grid0.coords t) = 1#1 ∧ ¬ k0_cond2 (grid0.coords t) = 1#1 ∧ ¬ k0_cond3 (grid0.coords t) = 1#1 ∧ ¬ k0_cond4 (grid0.coords t) = 1#1 ∧ ¬ k0_cond5 (grid0.coords t) = 1#1 ∧ k0_cond6 (grid0.coords t) = 1#1) := by
  rw [cond1, cond2, cond3, cond4, cond5, cond6]
  omega

end Cert.InpSIdeal.Hand

end
-- ==== Proof.InpS.Body.lean ====
module

public import proofs.«01_k».proof.Proof.InpS.Run
public import proofs.«01_k».proof.Proof.Inp.Math
public import Idealize.ShloMosaic.Lib.Pointwise
public import Idealize.ShloMosaic.Lib.Pipeline.ValueKit
public import Idealize.ShloMosaic.Lib.Pipeline.ReadBack

/-! The vectors the input projection's body computes, read at an index. -/

@[expose] public section

set_option maxRecDepth 16384

noncomputable section

namespace Cert.InpSIdeal.Hand

open Idealize.ShloMosaic Idealize.ShloMosaic.TcCoe Idealize.SL.Sem
open Idealize.ShloMosaic.Pipeline (Dat)
open Cert.InpSIdeal Cert.InpSIdeal.Gen Cert.Inp

theorem pay12_at (x : Vec Ideal S128x2048 .f32) (g : Vec Ideal S1x2048 .f32) (r : Fin 128) (k : Fin 2048) :
    k0_pay1 x g (ix2 r k) = nrm (fun j => x (ix2 r j)) (fun j => g (ix2 0 j)) k := by
  pointwise [k0_pay1]
  rfl

theorem pay13_at (h : Vec Ideal S128x2048 .bf16) (w : Vec Ideal S2048x128 .bf16) (r : Fin 128) (l : Fin 128) :
    k0_pay2 h w (ix2 r l) = ∑ j : Fin 2048, h (ix2 r j) * w (ix2 j l) := by
  pointwise [k0_pay2]

theorem pay14_at (h : Vec Ideal S128x2048 .bf16) (w : Vec Ideal S2048x512 .f32) (r : Fin 128) (l : Fin 512) :
    k0_pay3 h w (ix2 r l) = ∑ j : Fin 2048, h (ix2 r j) * w (ix2 j l) := by
  pointwise [k0_pay3]

section
variable (A : Vec Ideal S128x512 .f32) (g : Vec Ideal S1x128 .f32)

/-- A block's heads, each normalised. -/
def four (y : S128x512.Idx) : EReal :=
  head (fun e => A (ix2 (y 0) ⟨(y 1 : ℕ) / 128 * 128 + e, by have := (y 1).isLt; change (y 1 : ℕ) < 512 at this; omega⟩)) (fun k => g (ix2 0 k))
    ⟨(y 1 : ℕ) % 128, Nat.mod_lt _ (by decide)⟩

theorem four_at (o : ℕ) (ho : o % 128 = 0) (ho' : o ≤ 384) (r : Fin 128) (k : Fin 128) :
    four A g (ix2 r ⟨o + k, by omega⟩) = head (fun e => A (ix2 r ⟨o + e, by omega⟩)) (fun k => g (ix2 0 k)) k := by
  have e1 : (o + (k : ℕ)) / 128 * 128 = o := by omega
  have e2 : (o + (k : ℕ)) % 128 = k := by omega
  show head (fun e => A (ix2 r ⟨(o + (k : ℕ)) / 128 * 128 + e, _⟩)) _ ⟨(o + (k : ℕ)) % 128, _⟩ = _
  simp only [e1, e2]

theorem pay2_at (r : Fin 128) (k : Fin 128) : k0_pay7 A g (ix2 r k) = head (fun e => A (ix2 r ⟨0 + e, by omega⟩)) (fun k => g (ix2 0 k)) k := by
  simp only [Nat.zero_add]
  pointwise [k0_pay7, k0_pay6]
  rfl

theorem pay3_at (r : Fin 128) (k : Fin 128) : k0_pay8 A g (ix2 r k) = head (fun e => A (ix2 r ⟨128 + e, by omega⟩)) (fun k => g (ix2 0 k)) k := by
  pointwise [k0_pay8, k0_pay6]
  rfl

theorem pay4_at (r : Fin 128) (k : Fin 128) : k0_pay9 A g (ix2 r k) = head (fun e => A (ix2 r ⟨256 + e, by omega⟩)) (fun k => g (ix2 0 k)) k := by
  pointwise [k0_pay9, k0_pay6]
  rfl
end

theorem pay15_at (h : Vec Ideal S128x2048 .bf16) (w : Vec Ideal S2048x512 .f32) (g : Vec Ideal S1x128 .f32) (r : Fin 128) (k : Fin 128) :
    k0_pay4 h w (k0_pay6 g) (ix2 r k) = head (fun e => k0_pay3 h w (ix2 r ⟨384 + e, by omega⟩)) (fun k => g (ix2 0 k)) k := by
  pointwise [k0_pay4, k0_pay6]
  rfl

theorem qBlock_at (h : Vec Ideal S128x2048 .bf16) (w : Vec Ideal S2048x512 .f32) (g : Vec Ideal S1x128 .f32) (y : S128x512.Idx) :
    qBlock h w g y = four (k0_pay3 h w) g y := by
  unfold qBlock
  refine (congrArg (fun L => View.canon L y) (List.append_nil _).symm).trans (View.canon_append_of_piecesOf (Val := Elt Ideal) (s := S128x512) (e := .f32) (four (k0_pay3 h w) g) [] _ ?_ y ?_)
  swap
  · exact View.cover_of_tiledL (s := S128x512) _ S128x128.size (by sl_kernel_rfl) y
  refine ⟨fun x => ?_, fun x => ?_, fun x => ?_, fun x => ?_, trivial⟩
  · change S128x128.Idx at x
    idx_vars x
    refine ((pay15_at h w g x0 x1).trans (four_at _ g 384 rfl (by decide) x0 x1).symm).trans (congrArg (four (k0_pay3 h w) g) ?_)
    blk_ext
  · change S128x128.Idx at x
    idx_vars x
    refine ((pay4_at _ g x0 x1).trans (four_at _ g 256 rfl (by decide) x0 x1).symm).trans (congrArg (four (k0_pay3 h w) g) ?_)
    blk_ext
  · change S128x128.Idx at x
    idx_vars x
    refine ((pay3_at _ g x0 x1).trans (four_at _ g 128 rfl (by decide) x0 x1).symm).trans (congrArg (four (k0_pay3 h w) g) ?_)
    blk_ext
  · change S128x128.Idx at x
    idx_vars x
    refine ((pay2_at _ g x0 x1).trans (four_at _ g 0 rfl (by decide) x0 x1).symm).trans (congrArg (four (k0_pay3 h w) g) ?_)
    blk_ext

theorem kBlock_eq (h : Vec Ideal S128x2048 .bf16) (w : Vec Ideal S2048x512 .f32) (g : Vec Ideal S1x128 .f32) : kBlock h w g = qBlock h w g := rfl

end Cert.InpSIdeal.Hand

end
-- ==== Proof.InpS.Final.lean ====
module

public import proofs.«01_k».proof.Proof.InpS.Data
public import proofs.«01_k».proof.Proof.InpS.Body

/-! What the input projection's launch leaves in its six results. -/

@[expose] public section

set_option maxRecDepth 16384

noncomputable section

namespace Cert.InpSIdeal.Hand

open Idealize.ShloMosaic Idealize.ShloMosaic.TcCoe Idealize.SL.Sem
open Idealize.ShloMosaic.Pipeline (Dat)
open Cert.InpSIdeal Cert.InpSIdeal.Gen Cert.Inp

variable (m : (ℓ : Loc nD τ sig) → Buf (Elt Ideal) ℓ) (c : Dev nD)

/-! ## Which block a point has of each array -/

theorem idx : ∀ t : Fin cfg0.N, win0_0.index t = ![t.val / 11, 0] ∧ win0_1.index t = ![0, 0] ∧ win0_2.index t = ![0, t.val % 11]
    ∧ win0_3.index t = ![0, 0] ∧ win0_4.index t = ![0, 0] ∧ win0_5.index t = ![0, 0] :=
  (by decide +kernel : ∀ t : Fin grid0.N, _)

theorem odx : ∀ t : Fin cfg0.N, win0_6.index t = ![t.val / 11, min 1 (t.val % 11)] ∧ win0_7.index t = ![t.val / 11, min 1 (t.val % 11 - 2)]
    ∧ win0_8.index t = ![t.val / 11, min 1 (t.val % 11 - 4)] ∧ win0_9.index t = ![t.val / 11, min 1 (t.val % 11 - 6)]
    ∧ win0_10.index t = ![t.val / 11, min 2 (t.val % 11 - 8)] ∧ win0_11.index t = ![t.val / 11, 0] :=
  (by decide +kernel : ∀ t : Fin grid0.N, _)

theorem n_lt (t : Fin cfg0.N) : (t : ℕ) < 11 := lt_of_lt_of_eq t.isLt N_0

theorem src_div (lo hi : ℕ) (t : Fin cfg0.N) : (src lo hi t : ℕ) / 11 = t / 11 := by
  simp only [src]; omega

theorem src_mod (lo hi : ℕ) (t : Fin cfg0.N) : (src lo hi t : ℕ) % 11 = min 10 (min hi (max lo (t % 11))) := by
  simp only [src]; omega

/-- Row `r` of the grid's row block at `t`. -/
abbrev tok (t : Fin cfg0.N) (r : Fin 128) : Fin 128 := ⟨t / 11 * 128 + r, by have := n_lt t; omega⟩

/-- Column `l` of the column tile at `t`. -/
abbrev col (t : Fin cfg0.N) (l : Fin 512) : Fin 5648 := ⟨t % 11 * 512 + l, by omega⟩

/-! ## The operands the host prepares -/

/-- The sequence and the place of token `R`. -/
abbrev sq (R : Fin 128) : Fin 32 := ⟨(R : ℕ) / 4, by omega⟩
abbrev pl (R : Fin 128) : Fin 4 := ⟨(R : ℕ) % 4, by omega⟩

theorem v6_at (R : Fin 128) (l : Fin 2048) : (V m c main_v6 : Vec Ideal S128x2048 .f32) (ix2 R l)
    = (m ((c : Thread nD τ).loc main_arg0) : Vec Ideal S32x4x2048 .f32) (ix3 (sq R) (pl R) l) := by
  unfold V
  simp only [List.flatten_cons, List.flatten_nil, List.append_nil, List.cons_append, List.nil_append, hostOps0, hostOps0_1, hostOps0_2]
  after_results
  pointwise

theorem v3_at (l : Fin 2048) : (V m c main_v3 : Vec Ideal S1x2048 .f32) (ix2 0 l) = (m ((c : Thread nD τ).loc main_arg1) : Vec Ideal S2048 .f32) (ix1 l) := by
  unfold V
  simp only [List.flatten_cons, List.flatten_nil, List.append_nil, List.cons_append, List.nil_append, hostOps0, hostOps0_1, hostOps0_2]
  after_results
  pointwise

theorem v4_at (l : Fin 128) : (V m c main_v4 : Vec Ideal S1x128 .f32) (ix2 0 l) = (m ((c : Thread nD τ).loc main_arg3) : Vec Ideal S128 .f32) (ix1 l) := by
  unfold V
  simp only [List.flatten_cons, List.flatten_nil, List.append_nil, List.cons_append, List.nil_append, hostOps0, hostOps0_1, hostOps0_2]
  after_results
  pointwise

theorem v5_at (l : Fin 128) : (V m c main_v5 : Vec Ideal S1x128 .f32) (ix2 0 l) = (m ((c : Thread nD τ).loc main_arg4) : Vec Ideal S128 .f32) (ix1 l) := by
  unfold V
  simp only [List.flatten_cons, List.flatten_nil, List.append_nil, List.cons_append, List.nil_append, hostOps0, hostOps0_1, hostOps0_2]
  after_results
  pointwise

/-- The integer zero, converted. -/
theorem zero_of (φ : FTy) : FloatOps.sitofp (F := Ideal) φ (0#32) = (0 : EReal) := by
  show (((0#32 : BitVec 32).toInt : ℝ) : EReal) = 0
  simp

/-- The step sizes' sixteen columns of the weights, the other lanes zero. -/
theorem v2_at (j : Fin 2048) (l : Fin 128) : (V m c main_v2 : Vec Ideal S2048x128 .bf16) (ix2 j l)
    = if h : (l : ℕ) < 16 then (m ((c : Thread nD τ).loc main_arg2) : Vec Ideal S2048x5648 .f32) (ix2 j ⟨5632 + l, by omega⟩) else (0 : EReal) := by
  unfold V
  simp only [List.flatten_cons, List.flatten_nil, List.append_nil, List.cons_append, List.nil_append, hostOps0, hostOps0_1, hostOps0_2]
  after_results
  change (pad (s := S2048x16) (u := S_) S2048x128 ![0, 0] ![0, 112] ![0, 0]
    (truncf (F := Ideal) .bf16 (extractStridedSlice S2048x16 ![0, 5632] (m ((c : Thread nD τ).loc main_arg2) : Vec Ideal S2048x5648 .f32) slices_S2048x5648_S2048x16_0_5632) bitsLt_bf16_f32)
    (sitofp (F := Ideal) .bf16 (constantI S_ 32 0#32)) pads_S2048x16_S2048x128_000_01120 h_S_ : Vec Ideal S2048x128 .bf16) (ix2 j l) = _
  pointwise
  by_cases hl : (l : ℕ) < 16
  · rw [dif_pos hl, dif_pos hl]
  · rw [dif_neg hl, dif_neg hl]
    exact zero_of _

/-! ## One point's products -/

/-- Token `R`'s projection. -/
def P (R : Fin 128) : Fin 5648 → EReal :=
  prj (fun j => (m ((c : Thread nD τ).loc main_arg0) : Vec Ideal S32x4x2048 .f32) (ix3 (sq R) (pl R) j))
    (fun j => (m ((c : Thread nD τ).loc main_arg1) : Vec Ideal S2048 .f32) (ix1 j))
    (fun j l => (m ((c : Thread nD τ).loc main_arg2) : Vec Ideal S2048x5648 .f32) (ix2 j l))

/-- Token `R`'s normalised row. -/
def NR (R : Fin 128) : Fin 2048 → EReal :=
  nrm (fun j => (m ((c : Thread nD τ).loc main_arg0) : Vec Ideal S32x4x2048 .f32) (ix3 (sq R) (pl R) j))
    (fun j => (m ((c : Thread nD τ).loc main_arg1) : Vec Ideal S2048 .f32) (ix1 j))

theorem xn_at (t : Fin cfg0.N) (r : Fin 128) (k : Fin 2048) : XN m c t (ix2 r k) = NR m c (tok t r) k := by
  have hs := src_div 0 0 t
  have e0 : ∀ j : Fin 2048, (show Vec Ideal S128x2048 .f32 from iblk m c 0 (src 0 0 t)) (ix2 r j) = _ := fun j =>
    Eq.trans (b := (V m c main_v6 : Vec Ideal S128x2048 .f32) (ix2 (tok t r) j)) (by blk_ext [iblk, idx (src 0 0 t), hs]) (v6_at m c (tok t r) j)
  have e1 : ∀ j : Fin 2048, (show Vec Ideal S1x2048 .f32 from iblk m c 1 (src 0 0 t)) (ix2 0 j) = _ := fun j =>
    Eq.trans (b := (V m c main_v3 : Vec Ideal S1x2048 .f32) (ix2 0 j)) (by blk_ext [iblk, idx (src 0 0 t)]) (v3_at m c j)
  refine (pay12_at _ _ r k).trans ?_
  unfold NR
  congr 1
  · exact funext e0
  · exact funext e1

theorem x2_at (t : Fin cfg0.N) (j : Fin 2048) (l : Fin 512) :
    X0_2 m c t (ix2 j l) = (m ((c : Thread nD τ).loc main_arg2) : Vec Ideal S2048x5648 .f32) (ix2 j (col t l)) := by
  refine Eq.trans (b := (V m c main_arg2 : Vec Ideal S2048x5648 .f32) (ix2 j (col t l))) ?_ (congrFun (V_main_arg2 m c) _)
  unfold X0_2 Pipeline.Window.fill
  rw [dif_pos (moved0_2 t _)]
  blk_ext [iblk, idx t]

theorem acc_at (t : Fin cfg0.N) (r : Fin 128) (l : Fin 512) : ACC m c t (ix2 r l) = P m c (tok t r) (col t l) := by
  refine (pay14_at _ _ r l).trans ?_
  exact Finset.sum_congr rfl fun j _ => congrArg₂ (· * ·) (xn_at m c t r j) (x2_at m c t j l)

theorem dt_at (t : Fin cfg0.N) (r : Fin 128) (l : Fin 128) : DT11 m c t (ix2 r l) = steps (P m c (tok t r)) l := by
  have e3 : ∀ j : Fin 2048, (show Vec Ideal S2048x128 .bf16 from iblk m c 3 t) (ix2 j l) = _ := fun j =>
    Eq.trans (b := (V m c main_v2 : Vec Ideal S2048x128 .bf16) (ix2 j l)) (by blk_ext [iblk, idx t]) (v2_at m c j l)
  refine (pay13_at _ _ r l).trans ?_
  refine (Finset.sum_congr rfl fun j _ => congrArg₂ (· * ·) (xn_at m c t r j) (e3 j)).trans ?_
  unfold steps
  by_cases hl : (l : ℕ) < 16
  · simp only [dif_pos hl]
    rfl
  · simp only [dif_neg hl, mul_zero, Finset.sum_const_zero]

/-- A tile of heads, from the tile of the projection it normalises. -/
theorem four_of (t : Fin cfg0.N) (o : ℕ) (ho : o ≤ 1024) (h1 : o ≤ t.val % 11 * 512) (h2 : t.val % 11 * 512 < o + 1024) (h3 : o % 512 = 0) (g : Vec Ideal S1x128 .f32) (G : Fin 128 → EReal)
    (hg : ∀ k, g (ix2 0 k) = G k) (r : Fin 128) (l : Fin 512) :
    four (ACC m c t) g (ix2 r l) = heads (P m c (tok t r)) o ho G ⟨t.val % 11 * 512 + l - o, by omega⟩ := by
  have e : (fun k => g (ix2 0 k)) = G := funext hg
  show head (fun e => ACC m c t (ix2 r ⟨(l : ℕ) / 128 * 128 + e, _⟩)) (fun k => g (ix2 0 k)) ⟨(l : ℕ) % 128, _⟩ = head _ G ⟨_, _⟩
  rw [e]
  congr 1
  · funext e
    rw [acc_at]
    refine congrArg (P m c (tok t r)) (Fin.ext ?_)
    show t.val % 11 * 512 + ((l : ℕ) / 128 * 128 + e) = o + ((t.val % 11 * 512 + l - o) / 128 * 128 + e)
    omega
  · refine Fin.ext ?_
    show (l : ℕ) % 128 = (t.val % 11 * 512 + l - o) % 128
    omega

theorem q_at (t : Fin cfg0.N) (h : t.val % 11 < 2) (r : Fin 128) (l : Fin 512) :
    Q6 m c t (ix2 r l) = heads (P m c (tok t r)) 0 (by decide) (fun k => (m ((c : Thread nD τ).loc main_arg3) : Vec Ideal S128 .f32) (ix1 k)) ⟨t.val % 11 * 512 + l - 0, by omega⟩ := by
  refine (qBlock_at _ _ _ _).trans (four_of m c t 0 (by decide) (by omega) (by omega) rfl _ _ (fun k => ?_) r l)
  exact Eq.trans (b := (V m c main_v4 : Vec Ideal S1x128 .f32) (ix2 0 k)) (by blk_ext [iblk, idx t]) (v4_at m c k)

theorem k_at (t : Fin cfg0.N) (h : 2 ≤ t.val % 11) (h' : t.val % 11 < 4) (r : Fin 128) (l : Fin 512) :
    K7 m c t (ix2 r l) = heads (P m c (tok t r)) 1024 (by decide) (fun k => (m ((c : Thread nD τ).loc main_arg4) : Vec Ideal S128 .f32) (ix1 k)) ⟨t.val % 11 * 512 + l - 1024, by omega⟩ := by
  refine ((congrFun (kBlock_eq _ _ _) _).trans (qBlock_at _ _ _ _)).trans (four_of m c t 1024 (by decide) (by omega) (by omega) rfl _ _ (fun k => ?_) r l)
  exact Eq.trans (b := (V m c main_v5 : Vec Ideal S1x128 .f32) (ix2 0 k)) (by blk_ext [iblk, idx t]) (v5_at m c k)

/-! ## The six results -/

theorem place {α : Type} {p q : ℕ} (f : Fin p → Fin q → α) {a a' : Fin p} {b b' : Fin q} (h : (a : ℕ) = a') (h' : (b : ℕ) = b') : f a b = f a' b' := by
  rw [Fin.ext h, Fin.ext h']

theorem final6 : (dats m 0 c).arrAt 6 cfg0.N = fun y : S128x1024.Idx =>
    heads (P m c (y 0)) 0 (by decide) (fun k => (m ((c : Thread nD τ).loc main_arg3) : Vec Ideal S128 .f32) (ix1 k)) (y 1) := by
  refine (dats m 0 c).arrAt_eq_of_covers 6 _ (by decide +kernel) fun t hf y => ?_
  have hs := src_mod 0 1 t
  have hd := src_div 0 1 t
  blk_simp
  rw [after6]
  change S128x512.Idx at y
  idx_vars y
  refine (q_at m c (src 0 1 t) (by omega) y0 y1).trans ?_
  refine place (fun R l => heads (P m c R) 0 (by decide) _ l) ?_ ?_ <;> blk_simp [odx t] <;> (try dsimp only [tok, col]) <;> omega

theorem final7 : (dats m 0 c).arrAt 7 cfg0.N = fun y : S128x1024.Idx =>
    heads (P m c (y 0)) 1024 (by decide) (fun k => (m ((c : Thread nD τ).loc main_arg4) : Vec Ideal S128 .f32) (ix1 k)) (y 1) := by
  refine (dats m 0 c).arrAt_eq_of_covers 7 _ (by decide +kernel) fun t hf y => ?_
  have hs := src_mod 2 3 t
  have hd := src_div 2 3 t
  blk_simp
  rw [after7]
  change S128x512.Idx at y
  idx_vars y
  refine (k_at m c (src 2 3 t) (by omega) (by omega) y0 y1).trans ?_
  refine place (fun R l => heads (P m c R) 1024 (by decide) _ l) ?_ ?_ <;> blk_simp [odx t] <;> (try dsimp only [tok, col]) <;> omega

theorem final8 : (dats m 0 c).arrAt 8 cfg0.N = fun y : S128x1024.Idx =>
    P m c (y 0) ⟨2048 + y 1, by have := (y 1).isLt; change (y 1 : ℕ) < 1024 at this; omega⟩ := by
  refine (dats m 0 c).arrAt_eq_of_covers 8 _ (by decide +kernel) fun t hf y => ?_
  have hs := src_mod 4 5 t
  have hd := src_div 4 5 t
  blk_simp
  rw [after8]
  change S128x512.Idx at y
  idx_vars y
  refine (acc_at m c (src 4 5 t) y0 y1).trans ?_
  refine place (P m c) ?_ ?_ <;> blk_simp [odx t] <;> (try dsimp only [tok, col]) <;> omega

theorem final9 : (dats m 0 c).arrAt 9 cfg0.N = fun y : S128x1024.Idx =>
    P m c (y 0) ⟨3072 + y 1, by have := (y 1).isLt; change (y 1 : ℕ) < 1024 at this; omega⟩ := by
  refine (dats m 0 c).arrAt_eq_of_covers 9 _ (by decide +kernel) fun t hf y => ?_
  have hs := src_mod 6 7 t
  have hd := src_div 6 7 t
  blk_simp
  rw [after9]
  change S128x512.Idx at y
  idx_vars y
  refine (acc_at m c (src 6 7 t) y0 y1).trans ?_
  refine place (P m c) ?_ ?_ <;> blk_simp [odx t] <;> (try dsimp only [tok, col]) <;> omega

theorem final10 : (dats m 0 c).arrAt 10 cfg0.N = fun y : S128x1536.Idx =>
    P m c (y 0) ⟨4096 + y 1, by have := (y 1).isLt; change (y 1 : ℕ) < 1536 at this; omega⟩ := by
  refine (dats m 0 c).arrAt_eq_of_covers 10 _ (by decide +kernel) fun t hf y => ?_
  have hs := src_mod 8 10 t
  have hd := src_div 8 10 t
  blk_simp
  rw [after10]
  change S128x512.Idx at y
  idx_vars y
  refine (acc_at m c (src 8 10 t) y0 y1).trans ?_
  refine place (P m c) ?_ ?_ <;> blk_simp [odx t] <;> (try dsimp only [tok, col]) <;> omega

theorem final11 : (dats m 0 c).arrAt 11 cfg0.N = fun y : S128x128.Idx => steps (P m c (y 0)) (y 1) := by
  refine (dats m 0 c).arrAt_eq_of_covers 11 _ (by decide +kernel) fun t hf y => ?_
  have hd := src_div 0 0 t
  blk_simp
  rw [after11]
  change S128x128.Idx at y
  idx_vars y
  refine (dt_at m c (src 0 0 t) y0 y1).trans ?_
  refine place (fun R l => steps (P m c R) l) ?_ ?_ <;> blk_simp [odx t] <;> (try dsimp only [tok, col]) <;> omega

end Cert.InpSIdeal.Hand

end
-- ==== Proof.InpS.Frame.lean ====
module

public import proofs.«01_k».proof.Proof.InpS.Data

/-! The body's obligation of the input projection at any float, and from it the run and the frame. -/

@[expose] public section

set_option maxRecDepth 16384

noncomputable section

namespace Cert.InpSIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InpSIdeal Cert.InpSIdeal.Gen

variable {F : FTy → Type} [FloatOps F]
variable (m : (ℓ : Loc nD τ sig) → Buf (Elt F) ℓ) (ρ : Dev nD → PrngReg)

/-! ## The body's obligation -/

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d)))

/-- What it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ handed m c 6 t
    ∗ handed m c 7 t
    ∗ handed m c 8 t
    ∗ handed m c 9 t
    ∗ handed m c 10 t
    ∗ handed m c 11 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5,
    show (dats m 0 c).Φ t.castSucc = Kept m c t.val (Nat.le_of_lt t.isLt) from by dsimp only [dats]; exact Dat.Φ_castSucc (Kept m c) t,
    show (dats m 0 c).Φ t.succ = iprop(owns (c : Thread nD τ) (Memref.whole cc0_scratch0) fullShare (XN m c t) ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ := Kept_open m c t $$ HΦ
  icases HΦ with ⟨⟨%d, %hd, HS⟩, Hg⟩
  have hx : normed (grid0.coords t) (iblk m c 0 t) (iblk m c 1 t) d = XN m c t := by
    unfold normed
    split
    · next h => rw [cond1] at h; unfold XN; rw [src_self 0 0 t (Nat.zero_le _) (Nat.le_of_eq h)]
    · next h => rw [cond1] at h; exact hd h
  iapply (body_run c (grid0.coords t) _ _ _ _ _ _ _ _ _ _ _ _ _ _ _ _ _ _ _ _ _ _ _ _ _ _
    (iblk m c 0 t) (iblk m c 1 t) (X0_2 m c t) (iblk m c 3 t) (iblk m c 4 t) (iblk m c 5 t)
    _ _ _ _ _ _ d (ways t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  rw [hx]
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (back6 m c t d6)
    iexact H6
  isplitl [H7]
  · iapply (back7 m c t d7)
    iexact H7
  isplitl [H8]
  · iapply (back8 m c t d8)
    iexact H8
  isplitl [H9]
  · iapply (back9 m c t d9)
    iexact H9
  isplitl [H10]
  · iapply (back10 m c t d10)
    iexact H10
  iapply (back11 m c t d11)
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c :=
  (show (dats m 0 c).Φ (Fin.last cfg0.N) = Kept m c (Fin.last cfg0.N).val (Nat.le_of_lt_succ (Fin.last cfg0.N).isLt) from rfl) ▸
    Kept_out m c _ _ (by rw [Fin.val_last]; have : cfg0.N = 11 := N_0; omega)

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the region ends at what the proof data compute, every other buffer as the region found it. -/
theorem run_main : θ_run defs (onTc (τ := τ) (main (F := F))) (s₀ m ρ) (Pipeline.FramePost cfgs (dats m) 0 (V m)) :=
  (θ_run defs _ _).mono (fun _ h => h.1) (run_quiet m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.InpSIdeal.Hand

end
-- ==== Proof.InpS.Ref.lean ====
module

public import proofs.«01_k».proof.Proof.Inp.Math
public import proofs.«01_k».proof.Proof.Gen.InpSRefIdeal.Read

/-! The decoding tokens' input projection: its reference, stage by stage, in the words of `Cert.Inp`. -/

@[expose] public section

set_option maxRecDepth 16384

noncomputable section

namespace Cert.InpSRefIdeal.Spec

open Idealize.ShloMosaic Idealize.ShloMosaic.TcCoe Idealize.SL.Sem
open Cert.InpSRefIdeal Cert.InpSRefIdeal.Read Cert.Inp

variable (x0 : (⟨S32x4x2048, .f32⟩ : BufTy).Contents (Elt Ideal)) (x1 : (⟨S2048, .f32⟩ : BufTy).Contents (Elt Ideal))
  (x2 : (⟨S2048x5648, .f32⟩ : BufTy).Contents (Elt Ideal)) (x3 x4 : (⟨S128, .f32⟩ : BufTy).Contents (Elt Ideal))

/-- The projection of the token at place `r` of sequence `b`. -/
abbrev row (b : Fin 32) (r : Fin 4) : Fin 5648 → EReal :=
  prj (fun j => x0 (ix3 b r j)) (fun j => x1 (ix1 j)) (fun j l => x2 (ix2 j l))

abbrev sq (R : Fin 128) : Fin 32 := ⟨(R : ℕ) / 4, by omega⟩
abbrev pl (R : Fin 128) : Fin 4 := ⟨(R : ℕ) % 4, by omega⟩

theorem norm_at (b : Fin 32) (r : Fin 4) (k : Fin 2048) :
    val_main_v12 (F := Ideal) x0 x1 (ix3 b r k) = nrm (fun j => x0 (ix3 b r j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem row_at (b : Fin 32) (r : Fin 4) (l : Fin 5648) : val_main_v13 (F := Ideal) x0 x1 x2 (ix3 b r l) = row x0 x1 x2 b r l := by
  have h := norm_at x0 x1
  pointwise [val_main_v13, h]
  rfl

theorem v20_at (b : Fin 32) (r : Fin 4) (a : Fin 8) (e : Fin 128) :
    val_main_v20 (F := Ideal) x0 x1 x2 (ix4 b r a e) = row x0 x1 x2 b r ⟨0 + (a * 128 + e), by omega⟩ := by
  have h := row_at x0 x1 x2
  pointwise [val_main_v20, val_main_v14, h]

theorem v21_at (b : Fin 32) (r : Fin 4) (a : Fin 8) (e : Fin 128) :
    val_main_v21 (F := Ideal) x0 x1 x2 (ix4 b r a e) = row x0 x1 x2 b r ⟨1024 + (a * 128 + e), by omega⟩ := by
  have h := row_at x0 x1 x2
  pointwise [val_main_v21, val_main_v15, h]

theorem q_at (b : Fin 32) (r : Fin 4) (a : Fin 8) (e : Fin 128) : val_main_v34 (F := Ideal) x0 x1 x2 x3 (ix4 b r a e)
    = head (fun e => row x0 x1 x2 b r ⟨0 + (a * 128 + e), by omega⟩) (fun e => x3 (ix1 e)) e := by
  have h := v20_at x0 x1 x2
  pointwise [val_main_v34, val_main_v33, val_main_v32, val_main_v31, val_main_v30, val_main_v29, val_main_v28, val_main_v27, val_main_v26, val_main_v25, val_main_v24, val_main_v23, val_main_v22, val_main_cst_2, val_main_cst_3, val_main_cst_4, h]
  rfl

theorem k_at (b : Fin 32) (r : Fin 4) (a : Fin 8) (e : Fin 128) : val_main_v47 (F := Ideal) x0 x1 x2 x4 (ix4 b r a e)
    = head (fun e => row x0 x1 x2 b r ⟨1024 + (a * 128 + e), by omega⟩) (fun e => x4 (ix1 e)) e := by
  have h := v21_at x0 x1 x2
  pointwise [val_main_v47, val_main_v46, val_main_v45, val_main_v44, val_main_v43, val_main_v42, val_main_v41, val_main_v40, val_main_v39, val_main_v38, val_main_v37, val_main_v36, val_main_v35, val_main_cst_5, val_main_cst_6, val_main_cst_7, h]
  rfl

theorem res0 (R : Fin 128) (l : Fin 1024) :
    val_main_v49 (F := Ideal) x0 x1 x2 x3 (ix2 R l) = heads (row x0 x1 x2 (sq R) (pl R)) 0 (by decide) (fun e => x3 (ix1 e)) l := by
  have h := q_at x0 x1 x2 x3
  pointwise [val_main_v49, h]
  unfold heads
  simp only [Nat.zero_add]

theorem res1 (R : Fin 128) (l : Fin 1024) :
    val_main_v50 (F := Ideal) x0 x1 x2 x4 (ix2 R l) = heads (row x0 x1 x2 (sq R) (pl R)) 1024 (by decide) (fun e => x4 (ix1 e)) l := by
  have h := k_at x0 x1 x2 x4
  pointwise [val_main_v50, h]
  rfl

theorem res2 (R : Fin 128) (l : Fin 1024) :
    val_main_v51 (F := Ideal) x0 x1 x2 (ix2 R l) = row x0 x1 x2 (sq R) (pl R) ⟨2048 + l, by omega⟩ := by
  have h := row_at x0 x1 x2
  pointwise [val_main_v51, val_main_v16, h]

theorem res3 (R : Fin 128) (l : Fin 1024) :
    val_main_v52 (F := Ideal) x0 x1 x2 (ix2 R l) = row x0 x1 x2 (sq R) (pl R) ⟨3072 + l, by omega⟩ := by
  have h := row_at x0 x1 x2
  pointwise [val_main_v52, val_main_v17, h]

theorem res4 (R : Fin 128) (l : Fin 1536) :
    val_main_v53 (F := Ideal) x0 x1 x2 (ix2 R l) = row x0 x1 x2 (sq R) (pl R) ⟨4096 + l, by omega⟩ := by
  have h := row_at x0 x1 x2
  pointwise [val_main_v53, val_main_v18, h]

theorem v19_at (b : Fin 32) (r : Fin 4) (l : Fin 16) :
    val_main_v19 (F := Ideal) x0 x1 x2 (ix3 b r l) = row x0 x1 x2 b r ⟨5632 + l, by omega⟩ := by
  have h := row_at x0 x1 x2
  pointwise [val_main_v19, h]

/-- The integer zero, converted. -/
theorem zero_of : FloatOps.sitofp (F := Ideal) FTy.f32 (0#32) = (0 : EReal) := by
  show (((0#32 : BitVec 32).toInt : ℝ) : EReal) = 0
  simp

theorem res5 (R : Fin 128) (l : Fin 128) :
    val_main_v54 (F := Ideal) x0 x1 x2 (ix2 R l) = steps (row x0 x1 x2 (sq R) (pl R)) l := by
  have h := v19_at x0 x1 x2
  pointwise [val_main_v54, val_main_v48, val_main_call0_v0, val_main_c, h]
  unfold steps
  by_cases hl : (l : ℕ) < 16
  · rw [dif_pos hl, dif_pos ⟨by omega, by omega, hl⟩]
  · rw [dif_neg hl, dif_neg fun h => hl h.2.2]
    exact zero_of

end Cert.InpSRefIdeal.Spec

end
-- ==== Proof.InpS.RefRun.lean ====
module

public import proofs.«01_k».proof.Proof.InpS.Ref
public import proofs.«01_k».proof.Proof.Gen.InpSRefIdeal.Run
public import proofs.«01_k».proof.Defs

/-! The decoding tokens' input projection: its reference run, each result as a stage of the arguments. -/

@[expose] public section

set_option maxRecDepth 16384

noncomputable section

namespace Cert.InpSRefIdeal.Spec

open Idealize.ShloMosaic Idealize.ShloMosaic.TcCoe Idealize.SL.Sem
open Cert.InpSRefIdeal Cert.InpSRefIdeal.Read

theorem frame_ref : Cert.quiescent_InpSRefIdeal := fun m ρ _ => by
  exact (θ_run Cert.InpSRefIdeal.defs _ _).mono (fun r h => ⟨fun c => (h c).2.2.2.2.2.2, sem_eq_zero_of_no_sems (by decide) r.2⟩)
    (Cert.InpSRefIdeal.Value.run (F := Ideal) m ρ)

variable (m : (ℓ : Loc nD τ sig) → Buf (Elt Ideal) ℓ)

theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = val_main_v50 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v51) = val_main_v51 (F := Ideal) (m ((c.tc : Thread nD τ).loc main_arg0)) (m ((c.tc : Thread nD τ).loc main_arg1)) (m ((c.tc : Thread nD τ).loc main_arg2))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4, h5, hr⟩ := h c
    refine ⟨h0.trans ?_, h1.trans ?_, h2.trans ?_, h3.trans ?_, h4.trans ?_, h5.trans ?_, hr⟩
    · exact val_main_v49_eq (m ((c.tc : Thread nD τ).loc main_arg0)) (m ((c.tc : Thread nD τ).loc main_arg1)) (m ((c.tc : Thread nD τ).loc main_arg2)) (m ((c.tc : Thread nD τ).loc main_arg3))
    · exact val_main_v50_eq (m ((c.tc : Thread nD τ).loc main_arg0)) (m ((c.tc : Thread nD τ).loc main_arg1)) (m ((c.tc : Thread nD τ).loc main_arg2)) (m ((c.tc : Thread nD τ).loc main_arg4))
    · exact val_main_v51_eq (m ((c.tc : Thread nD τ).loc main_arg0)) (m ((c.tc : Thread nD τ).loc main_arg1)) (m ((c.tc : Thread nD τ).loc main_arg2))
    · exact val_main_v52_eq (m ((c.tc : Thread nD τ).loc main_arg0)) (m ((c.tc : Thread nD τ).loc main_arg1)) (m ((c.tc : Thread nD τ).loc main_arg2))
    · exact val_main_v53_eq (m ((c.tc : Thread nD τ).loc main_arg0)) (m ((c.tc : Thread nD τ).loc main_arg1)) (m ((c.tc : Thread nD τ).loc main_arg2))
    · exact val_main_v54_eq (m ((c.tc : Thread nD τ).loc main_arg0)) (m ((c.tc : Thread nD τ).loc main_arg1)) (m ((c.tc : Thread nD τ).loc main_arg2)))
    (Cert.InpSRefIdeal.Value.run m ρ)

end Cert.InpSRefIdeal.Spec

end
-- ==== Proof.InpS.Value.lean ====
module

public import proofs.«01_k».proof.Proof.InpS.Final
public import proofs.«01_k».proof.Proof.InpS.Frame
public import proofs.«01_k».proof.Proof.InpS.RefRun

/-! The decoding tokens' input projection: the kernel's six results are the reference's. -/

@[expose] public section

set_option maxRecDepth 16384

noncomputable section

namespace Cert.InpSIdeal.Meets

open Idealize.ShloMosaic Idealize.ShloMosaic.TcCoe Idealize.SL.Sem
open Cert.InpSIdeal Cert.InpSIdeal.Gen Cert.InpSRefIdeal.Read

variable (m : (ℓ : Loc nD τ sig) → Buf (Elt Ideal) ℓ) (c : Dev nD)

theorem val0 : val_main_v49 (F := Ideal) (m (c.tc.loc main_arg0)) (m (c.tc.loc main_arg1)) (m (c.tc.loc main_arg2)) (m (c.tc.loc main_arg3))
    = (Hand.dats m 0 c).arrAt 6 cfg0.N := by
  refine Eq.trans ?_ (Hand.final6 m c).symm
  funext i
  idx_vars i
  exact Cert.InpSRefIdeal.Spec.res0 (m (c.tc.loc main_arg0)) (m (c.tc.loc main_arg1)) (m (c.tc.loc main_arg2)) (m (c.tc.loc main_arg3)) i0 i1

theorem val1 : val_main_v50 (F := Ideal) (m (c.tc.loc main_arg0)) (m (c.tc.loc main_arg1)) (m (c.tc.loc main_arg2)) (m (c.tc.loc main_arg4))
    = (Hand.dats m 0 c).arrAt 7 cfg0.N := by
  refine Eq.trans ?_ (Hand.final7 m c).symm
  funext i
  idx_vars i
  exact Cert.InpSRefIdeal.Spec.res1 (m (c.tc.loc main_arg0)) (m (c.tc.loc main_arg1)) (m (c.tc.loc main_arg2)) (m (c.tc.loc main_arg4)) i0 i1

theorem val2 : val_main_v51 (F := Ideal) (m (c.tc.loc main_arg0)) (m (c.tc.loc main_arg1)) (m (c.tc.loc main_arg2))
    = (Hand.dats m 0 c).arrAt 8 cfg0.N := by
  refine Eq.trans ?_ (Hand.final8 m c).symm
  funext i
  idx_vars i
  exact Cert.InpSRefIdeal.Spec.res2 (m (c.tc.loc main_arg0)) (m (c.tc.loc main_arg1)) (m (c.tc.loc main_arg2)) i0 i1

theorem val3 : val_main_v52 (F := Ideal) (m (c.tc.loc main_arg0)) (m (c.tc.loc main_arg1)) (m (c.tc.loc main_arg2))
    = (Hand.dats m 0 c).arrAt 9 cfg0.N := by
  refine Eq.trans ?_ (Hand.final9 m c).symm
  funext i
  idx_vars i
  exact Cert.InpSRefIdeal.Spec.res3 (m (c.tc.loc main_arg0)) (m (c.tc.loc main_arg1)) (m (c.tc.loc main_arg2)) i0 i1

theorem val4 : val_main_v53 (F := Ideal) (m (c.tc.loc main_arg0)) (m (c.tc.loc main_arg1)) (m (c.tc.loc main_arg2))
    = (Hand.dats m 0 c).arrAt 10 cfg0.N := by
  refine Eq.trans ?_ (Hand.final10 m c).symm
  funext i
  idx_vars i
  exact Cert.InpSRefIdeal.Spec.res4 (m (c.tc.loc main_arg0)) (m (c.tc.loc main_arg1)) (m (c.tc.loc main_arg2)) i0 i1

theorem val5 : val_main_v54 (F := Ideal) (m (c.tc.loc main_arg0)) (m (c.tc.loc main_arg1)) (m (c.tc.loc main_arg2))
    = (Hand.dats m 0 c).arrAt 11 cfg0.N := by
  refine Eq.trans ?_ (Hand.final11 m c).symm
  funext i
  idx_vars i
  exact Cert.InpSRefIdeal.Spec.res5 (m (c.tc.loc main_arg0)) (m (c.tc.loc main_arg1)) (m (c.tc.loc main_arg2)) i0 i1

/-- The run with the six results named and the arguments unchanged. -/
theorem run_results (ρ : Dev nD → PrngReg) : θ_run (defs (F := Ideal)) (onTc (τ := τ) (main (F := Ideal))) ⟨m, fun _ => 0, ρ⟩ fun r => ∀ c : Dev nD,
      r.2.mem ((c : Thread nD τ).loc main_v7_0) = (Hand.dats m 0 c).arrAt 6 cfg0.N
      ∧ r.2.mem ((c : Thread nD τ).loc main_v7_1) = (Hand.dats m 0 c).arrAt 7 cfg0.N
      ∧ r.2.mem ((c : Thread nD τ).loc main_v7_2) = (Hand.dats m 0 c).arrAt 8 cfg0.N
      ∧ r.2.mem ((c : Thread nD τ).loc main_v7_3) = (Hand.dats m 0 c).arrAt 9 cfg0.N
      ∧ r.2.mem ((c : Thread nD τ).loc main_v7_4) = (Hand.dats m 0 c).arrAt 10 cfg0.N
      ∧ r.2.mem ((c : Thread nD τ).loc main_v7_5) = (Hand.dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (θ_run_and (Hand.run_main m ρ) (Hand.frame m ρ))
  have e := (h.1 c).1
  exact ⟨e 6, e 7, e 8, e 9, e 10, e 11, h.2.1 c⟩

theorem algebraic : Cert.algebraic_InpSIdeal_InpSRefIdeal := by
  pair_intro
  · run_from run_results m g
  · run_from Cert.InpSRefIdeal.Spec.run_ref m' g'
    · exact val0 m c
    · exact val1 m c
    · exact val2 m c
    · exact val3 m c
    · exact val4 m c
    · exact val5 m c

end Cert.InpSIdeal.Meets

end
-- ==== Proof.InpS.Printed.lean ====
module

public import proofs.«01_k».proof.Defs
public import proofs.«01_k».proof.Proof.Gen.InpS
public import proofs.«01_k».proof.Proof.InpS.Frame

/-! The input projection as printed: its text is its reading's, so the one run over any float gives this frame too. -/

@[expose] public section

set_option maxRecDepth 16384

noncomputable section

namespace Cert.InpSIdeal.Printed

open Idealize.ShloMosaic Idealize.SL.Sem

section
open Cert.InpSIdeal

/-- The frame of the reading, at machine floats. -/
def Quiet : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
end

/-- The two texts are the same. -/
theorem quiet_same : Cert.quiescent_InpS = Quiet := by sl_kernel_rfl

theorem frame_inps : Cert.quiescent_InpS := quiet_same.mpr fun m ρ _ => Cert.InpSIdeal.Hand.frame (F := Bits) m ρ

end Cert.InpSIdeal.Printed

end
-- ==== Proof.OutS.Body.lean ====
module

public import proofs.«01_k».proof.Proof.Gen.OutSIdeal.Value
public import proofs.«01_k».proof.Proof.Out.Body
public import Idealize.ShloMosaic.Lib.Pointwise
public import Idealize.ShloMosaic.Lib.Pipeline.ValueKit
public import Idealize.ShloMosaic.Lib.Pipeline.ReadBack

/-! The vectors the output projection's body computes on the decoding tokens, read at an index in the words of
    `Cert.Out`. -/

@[expose] public section

set_option maxRecDepth 16384

noncomputable section

namespace Cert.OutSIdeal.Body

open Idealize.ShloMosaic Idealize.ShloMosaic.TcCoe Idealize.SL.Sem
open Idealize.ShloMosaic.Pipeline (Dat)
open Cert.OutSIdeal Cert.OutSIdeal.Gen Cert.Out

variable (A : Vec Ideal S128x1024 .f32) (S : Vec Ideal S128x1024 .bf16) (X : Vec Ideal S128x2048 .f32) (G : Vec Ideal S1x1024 .f32) (W : Vec Ideal S2048x2048 .bf16)

/-- One block of the result. -/
def block (y : S128x2048.Idx) : EReal :=
  X y + mixd (fun j => A (ix2 (y 0) j)) (fun j => S (ix2 (y 0) j)) (fun j => G (ix2 0 j)) (fun k => W (ix2 k (y 1)))

theorem pay1_at (r : Fin 128) (l : Fin 2048) : k0_pay1 A G S X W (ix2 r l) = block A S X G W (ix2 r l) := by
  pointwise [k0_pay1]
  rfl

theorem out_at (r : Fin 128) (l : Fin 2048) : out0_5 A S X G W (ix2 r l) = block A S X G W (ix2 r l) := by
  unfold out0_5
  canon_tiles x h
  idx_vars x
  rw [pay1_at]
  obtain rfl : r = x0 := Fin.ext h0
  obtain rfl : l = x1 := Fin.ext h1
  pointwise [block]
  blk_ext

end Cert.OutSIdeal.Body
-- ==== Proof.OutS.Final.lean ====
module

public import proofs.«01_k».proof.Proof.OutS.Body

/-! What the output projection's launch on the decoding tokens leaves in its result. -/

@[expose] public section

set_option maxRecDepth 16384

noncomputable section

namespace Cert.OutSIdeal.Body

open Idealize.ShloMosaic Idealize.ShloMosaic.TcCoe Idealize.SL.Sem
open Idealize.ShloMosaic.Pipeline (Dat)
open Cert.OutSIdeal Cert.OutSIdeal.Gen Cert.Out

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The sequence and the place of token `R`. -/
abbrev sq (R : Fin 128) : Fin 32 := ⟨(R : ℕ) / 4, by omega⟩
abbrev pl (R : Fin 128) : Fin 4 := ⟨(R : ℕ) % 4, by omega⟩

theorem v0_at (R : Fin 128) (l : Fin 2048) : (V m c main_v0 : Vec Ideal S128x2048 .f32) (ix2 R l)
    = (m ((c : Thread nD τ).loc main_arg2) : Vec Ideal S32x4x2048 .f32) (ix3 (sq R) (pl R) l) := by
  unfold V
  simp only [List.flatten_cons, List.flatten_nil, List.append_nil, List.cons_append, List.nil_append, hostOps0]
  after_results
  pointwise

theorem v1_at (R : Fin 128) (l : Fin 1024) : (V m c main_v1 : Vec Ideal S128x1024 .f32) (ix2 R l)
    = (m ((c : Thread nD τ).loc main_arg0) : Vec Ideal S32x4x1024 .f32) (ix3 (sq R) (pl R) l) := by
  unfold V
  simp only [List.flatten_cons, List.flatten_nil, List.append_nil, List.cons_append, List.nil_append, hostOps0]
  after_results
  pointwise

theorem v2_at (R : Fin 128) (l : Fin 1024) : (V m c main_v2 : Vec Ideal S128x1024 .bf16) (ix2 R l)
    = (m ((c : Thread nD τ).loc main_arg1) : Vec Ideal S32x4x1024 .bf16) (ix3 (sq R) (pl R) l) := by
  unfold V
  simp only [List.flatten_cons, List.flatten_nil, List.append_nil, List.cons_append, List.nil_append, hostOps0]
  after_results
  pointwise

theorem v3_at (l : Fin 1024) : (V m c main_v3 : Vec Ideal S1x1024 .f32) (ix2 0 l) = (m ((c : Thread nD τ).loc main_arg3) : Vec Ideal S1024 .f32) (ix1 l) := by
  unfold V
  simp only [List.flatten_cons, List.flatten_nil, List.append_nil, List.cons_append, List.nil_append, hostOps0]
  after_results
  pointwise

theorem v4 : (V m c main_v4 : Vec Ideal S2048x2048 .bf16) = (m ((c : Thread nD τ).loc main_arg4) : Vec Ideal S2048x2048 .f32) := by
  unfold V
  simp only [List.flatten_cons, List.flatten_nil, List.append_nil, List.cons_append, List.nil_append, hostOps0]
  after_results
  rfl

/-- Entry `l` of token `R` before the projection is added. -/
def tin (R : Fin 128) (l : Fin 2048) : EReal := (m ((c : Thread nD τ).loc main_arg2) : Vec Ideal S32x4x2048 .f32) (ix3 (sq R) (pl R) l)

/-- Entry `l` of token `R` after the projection. -/
def tout (R : Fin 128) (l : Fin 2048) : EReal :=
  tin m c R l + mixd (fun j => (m ((c : Thread nD τ).loc main_arg0) : Vec Ideal S32x4x1024 .f32) (ix3 (sq R) (pl R) j))
        (fun j => (m ((c : Thread nD τ).loc main_arg1) : Vec Ideal S32x4x1024 .bf16) (ix3 (sq R) (pl R) j))
        (fun j => (m ((c : Thread nD τ).loc main_arg3) : Vec Ideal S1024 .f32) (ix1 j))
        (fun k => (m ((c : Thread nD τ).loc main_arg4) : Vec Ideal S2048x2048 .f32) (ix2 k l))

theorem n_lt (t : Fin cfg0.N) : (t : ℕ) < 1 := lt_of_lt_of_eq t.isLt N_0

/-- Row `r` of the grid's row block `t`. -/
abbrev tok (t : Fin cfg0.N) (r : Fin 128) : Fin 128 := ⟨t * 128 + r, by have := n_lt t; omega⟩

theorem block_at (t : Fin cfg0.N) (r : Fin 128) (l : Fin 2048) :
    block (iblk m c 0 t) (iblk m c 1 t) (iblk m c 2 t) (iblk m c 3 t) (iblk m c 4 t) (ix2 r l) = tout m c (tok t r) l := by
  have e0 : ∀ j : Fin 1024, (show Vec Ideal S128x1024 .f32 from iblk m c 0 t) (ix2 r j) = _ := fun j => Eq.trans (b := (V m c main_v1 : Vec Ideal S128x1024 .f32) (ix2 (tok t r) j)) (by blk_ext [iblk, idx t]) (v1_at m c (tok t r) j)
  have e1 : ∀ j : Fin 1024, (show Vec Ideal S128x1024 .bf16 from iblk m c 1 t) (ix2 r j) = _ := fun j => Eq.trans (b := (V m c main_v2 : Vec Ideal S128x1024 .bf16) (ix2 (tok t r) j)) (by blk_ext [iblk, idx t]) (v2_at m c (tok t r) j)
  have e2 : (show Vec Ideal S128x2048 .f32 from iblk m c 2 t) (ix2 r l) = _ := Eq.trans (b := (V m c main_v0 : Vec Ideal S128x2048 .f32) (ix2 (tok t r) l)) (by blk_ext [iblk, idx t]) (v0_at m c (tok t r) l)
  have e3 : ∀ j : Fin 1024, (show Vec Ideal S1x1024 .f32 from iblk m c 3 t) (ix2 0 j) = _ := fun j => Eq.trans (b := (V m c main_v3 : Vec Ideal S1x1024 .f32) (ix2 0 j)) (by blk_ext [iblk, idx t]) (v3_at m c j)
  have e4 : ∀ k : Fin 2048, (show Vec Ideal S2048x2048 .bf16 from iblk m c 4 t) (ix2 k l) = _ := fun k => Eq.trans (b := (V m c main_v4 : Vec Ideal S2048x2048 .bf16) (ix2 k l)) (by blk_ext [iblk, idx t]) (congrFun (v4 m c) (ix2 k l))
  refine congrArg₂ (· + ·) e2 ?_
  change mixd _ _ _ _ = mixd _ _ _ _
  congr 1
  · exact funext e0
  · exact funext e1
  · exact funext e3
  · exact funext e4

theorem place (f : Fin 128 → Fin 2048 → EReal) {a a' : Fin 128} {b b' : Fin 2048} (h : (a : ℕ) = a') (h' : (b : ℕ) = b') : f a b = f a' b' := by
  rw [Fin.ext h, Fin.ext h']

theorem final : (dats m 0 c).arrAt 5 cfg0.N = fun y : S128x2048.Idx => tout m c (y 0) (y 1) := by
  refine (dats m 0 c).arrAt_eq_of_covers 5 _ (by decide +kernel) fun t hf y => ?_
  blk_simp
  rw [after0_5]
  change S128x2048.Idx at y
  idx_vars y
  refine ((out_at _ _ _ _ _ y0 y1).trans (block_at m c t y0 y1)).trans ?_
  refine place (tout m c) ?_ ?_
  · blk_simp [idx t]
    have := n_lt t
    change (t : ℕ) * 128 + y0 = y0
    omega
  · blk_simp [idx t]

end Cert.OutSIdeal.Body
-- ==== Proof.OutS.Ref.lean ====
module

public import proofs.«01_k».proof.Proof.OutS.Body
public import proofs.«01_k».proof.Proof.Gen.OutSRefIdeal.Read

/-! The output projection's reference on the decoding tokens, stage by stage, in the words of `Cert.Out`. -/

@[expose] public section

set_option maxRecDepth 16384

noncomputable section

namespace Cert.OutSRefIdeal.Spec

open Idealize.ShloMosaic Idealize.ShloMosaic.TcCoe Idealize.SL.Sem
open Cert.OutSRefIdeal Cert.OutSRefIdeal.Read Cert.Out

variable (x0 : (⟨S32x4x1024, .f32⟩ : BufTy).Contents (Elt Ideal)) (x1 : (⟨S32x4x1024, .bf16⟩ : BufTy).Contents (Elt Ideal))
  (x2 : (⟨S32x4x2048, .f32⟩ : BufTy).Contents (Elt Ideal)) (x3 : (⟨S1024, .f32⟩ : BufTy).Contents (Elt Ideal)) (x4 : (⟨S2048x2048, .f32⟩ : BufTy).Contents (Elt Ideal))

theorem norm_at (b : Fin 32) (r : Fin 4) (k : Fin 1024) :
    val_main_v12 (F := Ideal) x0 x3 (ix3 b r k) = nrm (fun j => x0 (ix3 b r j)) (fun j => x3 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem sum_at (b : Fin 32) (r : Fin 4) (l : Fin 2048) : val_main_v16 (F := Ideal) x0 x1 x2 x3 x4 (ix3 b r l)
    = x2 (ix3 b r l) + mixd (fun j => x0 (ix3 b r j)) (fun j => x1 (ix3 b r j)) (fun j => x3 (ix1 j)) (fun k => x4 (ix2 k l)) := by
  have h := norm_at x0 x3
  pointwise [val_main_v16, val_main_v15, val_main_v14, val_main_v13, h]
  rfl

theorem res_at (R : Fin 128) (l : Fin 2048) : val_main_v17 (F := Ideal) x0 x1 x2 x3 x4 (ix2 R l)
    = x2 (ix3 ⟨(R : ℕ) / 4, by omega⟩ ⟨(R : ℕ) % 4, by omega⟩ l)
      + mixd (fun j => x0 (ix3 ⟨(R : ℕ) / 4, by omega⟩ ⟨(R : ℕ) % 4, by omega⟩ j))
        (fun j => x1 (ix3 ⟨(R : ℕ) / 4, by omega⟩ ⟨(R : ℕ) % 4, by omega⟩ j)) (fun j => x3 (ix1 j)) (fun k => x4 (ix2 k l)) := by
  have h := sum_at x0 x1 x2 x3 x4
  pointwise [val_main_v17, h]

end Cert.OutSRefIdeal.Spec
-- ==== Proof.OutS.Value.lean ====
module

public import proofs.«01_k».proof.Proof.OutS.Final
public import proofs.«01_k».proof.Proof.OutS.Ref
public import proofs.«01_k».proof.Proof.Gen.OutSRefIdeal.Run
public import proofs.«01_k».proof.Defs

/-! The output projection on the decoding tokens: the kernel's result is the reference's. -/

@[expose] public section

set_option maxRecDepth 16384

noncomputable section

namespace Cert.OutS.Value

open Idealize.ShloMosaic Idealize.ShloMosaic.TcCoe Idealize.SL.Sem

theorem frame_ref : Cert.quiescent_OutSRefIdeal := fun m ρ _ => by
  exact (θ_run Cert.OutSRefIdeal.defs _ _).mono (fun r h => ⟨fun c => (h c).2, sem_eq_zero_of_no_sems (by decide) r.2⟩)
    (Cert.OutSRefIdeal.Value.run (F := Ideal) m ρ)

theorem val (m : (ℓ : Loc Cert.OutSIdeal.nD Cert.OutSIdeal.τ Cert.OutSIdeal.sig) → Buf (Elt Ideal) ℓ) (c : Dev Cert.OutSIdeal.nD) :
    Cert.OutSRefIdeal.Read.val_main_v17 (F := Ideal) (m (c.tc.loc Cert.OutSIdeal.main_arg0)) (m (c.tc.loc Cert.OutSIdeal.main_arg1)) (m (c.tc.loc Cert.OutSIdeal.main_arg2)) (m (c.tc.loc Cert.OutSIdeal.main_arg3)) (m (c.tc.loc Cert.OutSIdeal.main_arg4))
      = (Cert.OutSIdeal.Gen.dats m 0 c).arrAt 5 Cert.OutSIdeal.cfg0.N := by
  refine Eq.trans ?_ (Cert.OutSIdeal.Body.final m c).symm
  funext i
  idx_vars i
  exact Cert.OutSRefIdeal.Spec.res_at (m (c.tc.loc Cert.OutSIdeal.main_arg0)) (m (c.tc.loc Cert.OutSIdeal.main_arg1)) (m (c.tc.loc Cert.OutSIdeal.main_arg2)) (m (c.tc.loc Cert.OutSIdeal.main_arg3)) (m (c.tc.loc Cert.OutSIdeal.main_arg4)) i0 i1

/-- The reference's run, its result as a stage of the arguments. -/
theorem run_ref (m : (ℓ : Loc Cert.OutSRefIdeal.nD Cert.OutSRefIdeal.τ Cert.OutSRefIdeal.sig) → Buf (Elt Ideal) ℓ) (ρ : Dev Cert.OutSRefIdeal.nD → PrngReg) :
    θ_run (Cert.OutSRefIdeal.defs (F := Ideal)) (onTc (τ := Cert.OutSRefIdeal.τ) (Cert.OutSRefIdeal.main (F := Ideal))) ⟨m, fun _ => 0, ρ⟩ fun r => ∀ c : Dev Cert.OutSRefIdeal.nD,
      r.2.mem ((c.tc : Thread Cert.OutSRefIdeal.nD Cert.OutSRefIdeal.τ).loc Cert.OutSRefIdeal.main_v17) = Cert.OutSRefIdeal.Read.val_main_v17 (F := Ideal) (m ((c.tc : Thread Cert.OutSRefIdeal.nD Cert.OutSRefIdeal.τ).loc Cert.OutSRefIdeal.main_arg0)) (m ((c.tc : Thread Cert.OutSRefIdeal.nD Cert.OutSRefIdeal.τ).loc Cert.OutSRefIdeal.main_arg1)) (m ((c.tc : Thread Cert.OutSRefIdeal.nD Cert.OutSRefIdeal.τ).loc Cert.OutSRefIdeal.main_arg2)) (m ((c.tc : Thread Cert.OutSRefIdeal.nD Cert.OutSRefIdeal.τ).loc Cert.OutSRefIdeal.main_arg3)) (m ((c.tc : Thread Cert.OutSRefIdeal.nD Cert.OutSRefIdeal.τ).loc Cert.OutSRefIdeal.main_arg4))
      ∧ r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4) :=
  (θ_run Cert.OutSRefIdeal.defs _ _).mono (fun _ h c => ⟨(h c).1.trans (Cert.OutSRefIdeal.Read.val_main_v17_eq (m ((c.tc : Thread Cert.OutSRefIdeal.nD Cert.OutSRefIdeal.τ).loc Cert.OutSRefIdeal.main_arg0)) (m ((c.tc : Thread Cert.OutSRefIdeal.nD Cert.OutSRefIdeal.τ).loc Cert.OutSRefIdeal.main_arg1)) (m ((c.tc : Thread Cert.OutSRefIdeal.nD Cert.OutSRefIdeal.τ).loc Cert.OutSRefIdeal.main_arg2)) (m ((c.tc : Thread Cert.OutSRefIdeal.nD Cert.OutSRefIdeal.τ).loc Cert.OutSRefIdeal.main_arg3)) (m ((c.tc : Thread Cert.OutSRefIdeal.nD Cert.OutSRefIdeal.τ).loc Cert.OutSRefIdeal.main_arg4))), (h c).2⟩)
    (Cert.OutSRefIdeal.Value.run m ρ)

theorem algebraic : Cert.algebraic_OutSIdeal_OutSRefIdeal := by
  pair_intro
  · run_from Cert.OutSIdeal.Value.run_blocks m g
  · run_from run_ref m' g'
    exact val m c

end Cert.OutS.Value

end
-- ==== Proof.FfnS.Body.lean ====
module

public import proofs.«01_k».proof.Proof.Gen.FfnSIdeal.Value
public import proofs.«01_k».proof.Proof.Ffn.Body
public import Idealize.ShloMosaic.Lib.Pointwise
public import Idealize.ShloMosaic.Lib.Pipeline.ValueKit
public import Idealize.ShloMosaic.Lib.Pipeline.ReadBack

/-! The vectors the feed-forward layer's body computes on the decoding tokens, read at an index in the words of
    `Cert.Ffn`. -/

@[expose] public section

set_option maxRecDepth 16384

noncomputable section

namespace Cert.FfnSIdeal.Body

open Idealize.ShloMosaic Idealize.ShloMosaic.TcCoe Idealize.SL.Sem
open Idealize.ShloMosaic.Pipeline (Dat)
open Cert.FfnSIdeal Cert.FfnSIdeal.Gen Cert.Ffn

/-- What 512 hidden units add to a row. -/
def part (h : Fin 2048 → EReal) (wg wu : Vec Ideal S2048x512 .bf16) (wd : Vec Ideal S512x2048 .bf16) (l : Fin 2048) : EReal :=
  ∑ x : Fin 512, hid h (fun j => wg (ix2 j x)) (fun j => wu (ix2 j x)) * wd (ix2 x l)

theorem pay1_at (x : Vec Ideal S128x2048 .f32) (g : Vec Ideal S1x2048 .f32) (r : Fin 128) (k : Fin 2048) :
    k0_pay1 x g (ix2 r k) = nrm (fun j => x (ix2 r j)) (fun j => g (ix2 0 j)) k := by
  pointwise [k0_pay1]
  rfl

theorem pay2_at (hn : Vec Ideal S128x2048 .bf16) (wg wu : Vec Ideal S2048x512 .bf16) (o : Vec Ideal S128x2048 .f32) (wd : Vec Ideal S512x2048 .bf16)
    (r : Fin 128) (l : Fin 2048) : k0_pay2 hn wg wu o wd (ix2 r l) = o (ix2 r l) + part (fun j => hn (ix2 r j)) wg wu wd l := by
  pointwise [k0_pay2]
  rfl

end Cert.FfnSIdeal.Body
-- ==== Proof.FfnS.Final.lean ====
module

public import proofs.«01_k».proof.Proof.FfnS.Body

/-! What the feed-forward layer's launch on the decoding tokens leaves in its result: each token's row, plus the hidden units' contributions,
    eleven groups of 512 one after the other. -/

@[expose] public section

set_option maxRecDepth 16384

noncomputable section

namespace Cert.FfnSIdeal.Body

open Idealize.ShloMosaic Idealize.ShloMosaic.TcCoe Idealize.SL.Sem
open Idealize.ShloMosaic.Pipeline (Dat)
open Cert.FfnSIdeal Cert.FfnSIdeal.Gen Cert.Ffn

variable (m : (ℓ : Loc nD τ sig) → Buf (Elt Ideal) ℓ) (c : Dev nD)

theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

theorem v0_at (k : Fin 2048) : (V m c main_v0 : Vec Ideal S1x2048 .f32) (ix2 0 k) = (m ((c : Thread nD τ).loc main_arg1) : Vec Ideal S2048 .f32) (ix1 k) := by
  unfold V
  simp only [List.flatten_cons, List.flatten_nil, List.append_nil, List.cons_append, List.nil_append, hostOps0]
  after_results
  pointwise

theorem v1 : (V m c main_v1 : Vec Ideal S2048x5632 .bf16) = (m ((c : Thread nD τ).loc main_arg2) : Vec Ideal S2048x5632 .f32) := by
  unfold V
  simp only [List.flatten_cons, List.flatten_nil, List.append_nil, List.cons_append, List.nil_append, hostOps0]
  after_results
  rfl

theorem v2 : (V m c main_v2 : Vec Ideal S2048x5632 .bf16) = (m ((c : Thread nD τ).loc main_arg3) : Vec Ideal S2048x5632 .f32) := by
  unfold V
  simp only [List.flatten_cons, List.flatten_nil, List.append_nil, List.cons_append, List.nil_append, hostOps0]
  after_results
  rfl

theorem v3 : (V m c main_v3 : Vec Ideal S5632x2048 .bf16) = (m ((c : Thread nD τ).loc main_arg4) : Vec Ideal S5632x2048 .f32) := by
  unfold V
  simp only [List.flatten_cons, List.flatten_nil, List.append_nil, List.cons_append, List.nil_append, hostOps0]
  after_results
  rfl

section
variable {m c}
theorem out_A (t : Fin cfg0.N) (h0 : t.val % 11 = 0) (r : Fin 128) (l : Fin 2048) :
    (outsAt0 (F := Ideal) m c t.val t.isLt).1 (ix2 r l) = (show Vec Ideal S128x2048 .f32 from iblk m c 0 t) (ix2 r l)
      + part (fun j => k0_pay1 (F := Ideal) (iblk m c 0 t) (iblk m c 1 t) (ix2 r j)) (iblk m c 2 t) (iblk m c 3 t) (iblk m c 4 t) l := by
  rw [outsAt0_A m c t h0]
  frame_out
  exact pay2_at _ _ _ _ _ r l

theorem sc_A (t : Fin cfg0.N) (h0 : t.val % 11 = 0) :
    (outsAt0 (F := Ideal) m c t.val t.isLt).2 = k0_pay1 (F := Ideal) (iblk m c 0 t) (iblk m c 1 t) := by
  rw [outsAt0_A m c t h0]
  frame_out

theorem out_B (t : Fin cfg0.N) (h0 : ¬ t.val % 11 = 0) (hp : t.val - 1 < cfg0.N) (r : Fin 128) (l : Fin 2048) :
    (outsAt0 (F := Ideal) m c t.val t.isLt).1 (ix2 r l) = (outsAt0 (F := Ideal) m c (t.val - 1) hp).1 (ix2 r l)
      + part (fun j => (outsAt0 (F := Ideal) m c (t.val - 1) hp).2 (ix2 r j)) (iblk m c 2 t) (iblk m c 3 t) (iblk m c 4 t) l := by
  rw [outsAt0_B m c t h0]
  frame_out
  simp only [read_unread_whole]
  exact pay2_at _ _ _ _ _ r l

theorem sc_B (t : Fin cfg0.N) (h0 : ¬ t.val % 11 = 0) (hp : t.val - 1 < cfg0.N) :
    (outsAt0 (F := Ideal) m c t.val t.isLt).2 = (outsAt0 (F := Ideal) m c (t.val - 1) hp).2 := by
  rw [outsAt0_B m c t h0]
  rfl
end

theorem place (f : Fin 128 → Fin 2048 → EReal) {a a' : Fin 128} {b b' : Fin 2048} (h : (a : ℕ) = a') (h' : (b : ℕ) = b') : f a b = f a' b' := by
  rw [Fin.ext h, Fin.ext h']

/-! The layer over the whole memory. -/

/-- Entry `l` of token `R`. -/
def tin (R : Fin 128) (l : Fin 2048) : EReal := (m ((c : Thread nD τ).loc main_arg0) : Vec Ideal S128x2048 .f32) (ix2 R l)

/-- Token `R`, normalised. -/
def hrow (R : Fin 128) : Fin 2048 → EReal :=
  nrm (fun j => (m ((c : Thread nD τ).loc main_arg0) : Vec Ideal S128x2048 .f32) (ix2 R j)) (fun j => (m ((c : Thread nD τ).loc main_arg1) : Vec Ideal S2048 .f32) (ix1 j))

/-- Hidden unit `f` of token `R`. -/
def hunit (R : Fin 128) (f : Fin 5632) : EReal :=
  hid (hrow m c R) (fun j => (m ((c : Thread nD τ).loc main_arg2) : Vec Ideal S2048x5632 .f32) (ix2 j f))
    (fun j => (m ((c : Thread nD τ).loc main_arg3) : Vec Ideal S2048x5632 .f32) (ix2 j f))

/-- What hidden unit `f` adds to entry `l` of token `R`. -/
def adds (R : Fin 128) (l : Fin 2048) (f : Fin 5632) : EReal :=
  hunit m c R f * (m ((c : Thread nD τ).loc main_arg4) : Vec Ideal S5632x2048 .f32) (ix2 f l)

/-- Row `r` of the grid's row block `i`. -/
abbrev tok (i : Fin 1) (r : Fin 128) : Fin 128 := ⟨128 * i + r, by omega⟩

/-- Unit `x` of group `s`. -/
abbrev lane (s : Fin 11) (x : Fin 512) : Fin 5632 := ⟨s * 512 + x, by omega⟩

theorem pt_lt (i : Fin 1) (s : ℕ) (hs : s < 11) : 11 * (i : ℕ) + s < cfg0.N := lt_of_lt_of_eq (by omega : 11 * (i : ℕ) + s < 11) N_0.symm

/-- The grid point of row block `i` and group `s`. -/
abbrev pt (i : Fin 1) (s : ℕ) (hs : s < 11) : Fin cfg0.N := ⟨11 * i + s, pt_lt i s hs⟩

section
variable {m c} (i : Fin 1) (s : ℕ) (hs : s < 11)

theorem blk0 (r : Fin 128) (j : Fin 2048) : (show Vec Ideal S128x2048 .f32 from iblk m c 0 (pt i s hs)) (ix2 r j)
    = (m ((c : Thread nD τ).loc main_arg0) : Vec Ideal S128x2048 .f32) (ix2 (tok i r) j) := by
  blk_point [iblk, V, idx (pt i s hs)]

theorem blk1 (j : Fin 2048) : (show Vec Ideal S1x2048 .f32 from iblk m c 1 (pt i s hs)) (ix2 0 j)
    = (m ((c : Thread nD τ).loc main_arg1) : Vec Ideal S2048 .f32) (ix1 j) := by
  refine Eq.trans ?_ (v0_at m c j)
  blk_ext [iblk, idx (pt i s hs)]

theorem blk2 (j : Fin 2048) (x : Fin 512) : (show Vec Ideal S2048x512 .bf16 from iblk m c 2 (pt i s hs)) (ix2 j x)
    = (m ((c : Thread nD τ).loc main_arg2) : Vec Ideal S2048x5632 .f32) (ix2 j (lane ⟨s, hs⟩ x)) := by
  refine Eq.trans ?_ (congrFun (v1 m c) (ix2 j (lane ⟨s, hs⟩ x)))
  blk_ext [iblk, idx (pt i s hs)]

theorem blk3 (j : Fin 2048) (x : Fin 512) : (show Vec Ideal S2048x512 .bf16 from iblk m c 3 (pt i s hs)) (ix2 j x)
    = (m ((c : Thread nD τ).loc main_arg3) : Vec Ideal S2048x5632 .f32) (ix2 j (lane ⟨s, hs⟩ x)) := by
  refine Eq.trans ?_ (congrFun (v2 m c) (ix2 j (lane ⟨s, hs⟩ x)))
  blk_ext [iblk, idx (pt i s hs)]

theorem blk4 (x : Fin 512) (l : Fin 2048) : (show Vec Ideal S512x2048 .bf16 from iblk m c 4 (pt i s hs)) (ix2 x l)
    = (m ((c : Thread nD τ).loc main_arg4) : Vec Ideal S5632x2048 .f32) (ix2 (lane ⟨s, hs⟩ x) l) := by
  refine Eq.trans ?_ (congrFun (v3 m c) (ix2 (lane ⟨s, hs⟩ x) l))
  blk_ext [iblk, idx (pt i s hs)]

theorem norm_at (r : Fin 128) (k : Fin 2048) :
    k0_pay1 (F := Ideal) (iblk m c 0 (pt i s hs)) (iblk m c 1 (pt i s hs)) (ix2 r k) = hrow m c (tok i r) k := by
  rw [pay1_at]
  exact congrArg₂ (fun a b => nrm a b k) (funext fun j => blk0 i s hs r j) (funext fun j => blk1 i s hs j)

theorem part_at (r : Fin 128) (l : Fin 2048) :
    part (hrow m c (tok i r)) (iblk m c 2 (pt i s hs)) (iblk m c 3 (pt i s hs)) (iblk m c 4 (pt i s hs)) l
      = ∑ x : Fin 512, adds m c (tok i r) l (lane ⟨s, hs⟩ x) :=
  Finset.sum_congr rfl fun x _ => congrArg₂ (· * ·)
    (congrArg₂ (hid (hrow m c (tok i r))) (funext fun j => blk2 i s hs j x) (funext fun j => blk3 i s hs j x)) (blk4 i s hs x l)

theorem sc_at (r : Fin 128) (k : Fin 2048) :
    (outsAt0 (F := Ideal) m c (11 * (i : ℕ) + s) (pt_lt i s hs)).2 (ix2 r k) = hrow m c (tok i r) k := by
  induction s with
  | zero =>
    refine (congrFun (sc_A (pt i 0 hs) (by simp)) (ix2 r k)).trans ?_
    exact norm_at i 0 hs r k
  | succ s ih =>
    refine (congrFun (sc_B (pt i (s + 1) hs) (by simp; omega) (pt_lt i s (by omega))) (ix2 r k)).trans ?_
    exact ih (by omega)

theorem out_at (r : Fin 128) (l : Fin 2048) :
    (outsAt0 (F := Ideal) m c (11 * (i : ℕ) + s) (pt_lt i s hs)).1 (ix2 r l)
      = tin m c (tok i r) l + ∑ g : Fin (s + 1), ∑ x : Fin 512, adds m c (tok i r) l (lane ⟨g, by omega⟩ x) := by
  induction s with
  | zero =>
    refine (out_A (pt i 0 hs) (by simp) r l).trans ?_
    rw [Fin.sum_univ_one]
    refine congrArg₂ (· + ·) (blk0 i 0 hs r l) ?_
    refine Eq.trans ?_ (part_at i 0 hs r l)
    exact congrArg (fun h => part h _ _ _ l) (funext fun j => norm_at i 0 hs r j)
  | succ s ih =>
    refine (out_B (pt i (s + 1) hs) (by simp; omega) (pt_lt i s (by omega)) r l).trans ?_
    rw [Fin.sum_univ_castSucc, ← add_assoc]
    refine congrArg₂ (· + ·) (ih (by omega)) ?_
    refine Eq.trans ?_ (part_at i (s + 1) hs r l)
    exact congrArg (fun h => part h _ _ _ l) (funext fun j => sc_at i s (by omega) r j)
end

theorem final : (dats m 0 c).arrAt 5 cfg0.N = fun y : S128x2048.Idx => tin m c (y 0) (y 1) + ∑ f : Fin 5632, adds m c (y 0) (y 1) f := by
  refine (dats m 0 c).arrAt_eq_of_covers 5 _ (by decide +kernel) fun t hf y => ?_
  have ht : (t : ℕ) % 11 = 10 := (flush0_5 t).mp hf
  have htN : (t : ℕ) < 11 := lt_of_lt_of_eq t.isLt N_0
  obtain ⟨i, rfl⟩ : ∃ i : Fin 1, t = pt i 10 (by decide) := ⟨⟨(t : ℕ) / 11, by omega⟩, Fin.ext (by simp only []; omega)⟩
  blk_simp
  rw [after0_5]
  change S128x2048.Idx at y
  idx_vars y
  refine (out_at i 10 (by decide) y0 y1).trans ?_
  rw [Fin.sum_mul_add_fin 11 512 (fun f => adds m c (tok i y0) y1 f)]
  refine place (fun R l => tin m c R l + ∑ f : Fin 5632, adds m c R l f) ?_ ?_ <;> blk_simp [idx (pt i 10 (by decide))]
  change 128 * (i : ℕ) + y0 = (11 * (i : ℕ) + 10) / 11 * 128 + y0
  omega

end Cert.FfnSIdeal.Body
-- ==== Proof.FfnS.Ref.lean ====
module

public import proofs.«01_k».proof.Proof.FfnS.Body
public import proofs.«01_k».proof.Proof.Gen.FfnSRefIdeal.Read

/-! The feed-forward layer's reference on the decoding tokens, stage by stage, in the words of `Cert.Ffn`. -/

@[expose] public section

set_option maxRecDepth 16384

noncomputable section

namespace Cert.FfnSRefIdeal.Spec

open Idealize.ShloMosaic Idealize.ShloMosaic.TcCoe Idealize.SL.Sem
open Cert.FfnSRefIdeal Cert.FfnSRefIdeal.Read Cert.Ffn

variable (x0 : (⟨S128x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

/-- Token `R` as the reference normalises it. -/
abbrev rn (R : Fin 128) : Fin 2048 → EReal := nrm (fun j => x0 (ix2 R j)) (fun j => x1 (ix1 j))

theorem norm_at (R : Fin 128) (k : Fin 2048) : val_main_v12 (F := Ideal) x0 x1 (ix2 R k) = rn x0 x1 R k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem gate_at (R : Fin 128) (f : Fin 5632) : val_main_v13 (F := Ideal) x0 x1 x2 (ix2 R f) = ∑ j : Fin 2048, rn x0 x1 R j * x2 (ix2 j f) := by
  have h := norm_at x0 x1
  pointwise [val_main_v13, h]

theorem up_at (R : Fin 128) (f : Fin 5632) : val_main_v15 (F := Ideal) x0 x1 x3 (ix2 R f) = ∑ j : Fin 2048, rn x0 x1 R j * x3 (ix2 j f) := by
  have h := norm_at x0 x1
  pointwise [val_main_v15, h]

theorem hid_at (R : Fin 128) (f : Fin 5632) :
    val_main_v16 (F := Ideal) x0 x1 x2 x3 (ix2 R f) = hid (rn x0 x1 R) (fun j => x2 (ix2 j f)) (fun j => x3 (ix2 j f)) := by
  have h := gate_at x0 x1 x2
  have h' := up_at x0 x1 x3
  pointwise [val_main_v16, val_main_v14, val_main_call0_v5, val_main_call0_v4, val_main_call0_v3, val_main_call0_v2, val_main_call0_v1, val_main_call0_v0, val_main_call0_cst, val_main_call0_cst_0, h, h']
  unfold hid
  rw [zero_sub]

theorem res_at (R : Fin 128) (l : Fin 2048) : val_main_v18 (F := Ideal) x0 x1 x2 x3 x4 (ix2 R l)
    = x0 (ix2 R l) + ∑ f : Fin 5632, hid (rn x0 x1 R) (fun j => x2 (ix2 j f)) (fun j => x3 (ix2 j f)) * x4 (ix2 f l) := by
  have h := hid_at x0 x1 x2 x3
  pointwise [val_main_v18, val_main_v17, h]

end Cert.FfnSRefIdeal.Spec
-- ==== Proof.FfnS.Value.lean ====
module

public import proofs.«01_k».proof.Proof.FfnS.Final
public import proofs.«01_k».proof.Proof.FfnS.Ref
public import proofs.«01_k».proof.Proof.Gen.FfnSRefIdeal.Run
public import proofs.«01_k».proof.Defs

/-! The feed-forward layer on the decoding tokens: the kernel's result is the reference's. -/

@[expose] public section

set_option maxRecDepth 16384

noncomputable section

namespace Cert.FfnS.Value

open Idealize.ShloMosaic Idealize.ShloMosaic.TcCoe Idealize.SL.Sem

theorem frame_ref : Cert.quiescent_FfnSRefIdeal := fun m ρ _ => by
  exact (θ_run Cert.FfnSRefIdeal.defs _ _).mono (fun r h => ⟨fun c => (h c).2, sem_eq_zero_of_no_sems (by decide) r.2⟩)
    (Cert.FfnSRefIdeal.Value.run (F := Ideal) m ρ)

theorem val (m : (ℓ : Loc Cert.FfnSIdeal.nD Cert.FfnSIdeal.τ Cert.FfnSIdeal.sig) → Buf (Elt Ideal) ℓ) (c : Dev Cert.FfnSIdeal.nD) :
    Cert.FfnSRefIdeal.Read.val_main_v18 (F := Ideal) (m (c.tc.loc Cert.FfnSIdeal.main_arg0)) (m (c.tc.loc Cert.FfnSIdeal.main_arg1)) (m (c.tc.loc Cert.FfnSIdeal.main_arg2)) (m (c.tc.loc Cert.FfnSIdeal.main_arg3)) (m (c.tc.loc Cert.FfnSIdeal.main_arg4))
      = (Cert.FfnSIdeal.Gen.dats m 0 c).arrAt 5 Cert.FfnSIdeal.cfg0.N := by
  refine Eq.trans ?_ (Cert.FfnSIdeal.Body.final m c).symm
  funext i
  idx_vars i
  exact Cert.FfnSRefIdeal.Spec.res_at (m (c.tc.loc Cert.FfnSIdeal.main_arg0)) (m (c.tc.loc Cert.FfnSIdeal.main_arg1)) (m (c.tc.loc Cert.FfnSIdeal.main_arg2)) (m (c.tc.loc Cert.FfnSIdeal.main_arg3)) (m (c.tc.loc Cert.FfnSIdeal.main_arg4)) i0 i1

theorem algebraic : Cert.algebraic_FfnSIdeal_FfnSRefIdeal := by
  pair_intro
  · run_from Cert.FfnSIdeal.Value.run_blocks m g
  · run_from Cert.FfnSRefIdeal.Value.run m' g'
    exact (Cert.FfnSRefIdeal.Read.val_main_v18_eq _ _ _ _ _).trans (val m c)

end Cert.FfnS.Value

end
-- ==== Proof.Tail.Runs.lean ====
module

public import proofs.«01_k».proof.Proof.Gen.TailIdeal.Launch
public import proofs.«01_k».proof.Proof.Gen.TailIdeal.Skeleton
public import proofs.«01_k».proof.Proof.Gen.TailIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

/-! What the runs of the prompt's state-space call share: the arrays as the region finds them, the conditions of its body in closed form, and the ring of transfers its page sums go through. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      ((h c).2 main_arg11 (Pipeline.mem_restRefs_of main_arg11 (by decide) (by decide))).trans (V_main_arg11 m c)⟩) h

abbrev cond0_0 (i : grid0.Coords) : Prop := (Scalar.cmpi .ne (Scalar.extui (Scalar.cmpi .eq (Scalar.addi (Scalar.muli (BitVec.ofNat 32 (i 0).val) 16#32) (BitVec.ofNat 32 (i 1).val)) 0#32)) 0#32) = 1#1

theorem hcond0_0 : ∀ t : Fin cfg0.N, cond0_0 (grid0.coords t) ↔ t.val % 128 = 0 :=
  (by decide +kernel : ∀ t : Fin grid0.N, cond0_0 (grid0.coords t) ↔ t.val % 128 = 0)

abbrev cond0_1 (i : grid0.Coords) : Prop := k0_cond2 i = 1#1

theorem hcond0_1 : ∀ t : Fin cfg0.N, cond0_1 (grid0.coords t) ↔ t.val < 127 :=
  (by decide +kernel : ∀ t : Fin grid0.N, cond0_1 (grid0.coords t) ↔ t.val < 127)

abbrev cond0_2 (i : grid0.Coords) : Prop := (Scalar.cmpi .ne (Scalar.extui (Scalar.cmpi .eq (BitVec.ofNat 32 (i 1).val) 0#32)) 0#32) = 1#1

theorem hcond0_2 : ∀ t : Fin cfg0.N, cond0_2 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_2, e0, e1]
    word_cmp
   : ∀ t : Fin grid0.N, cond0_2 (grid0.coords t) ↔ t.val % 16 = 0)

abbrev cond0_3 (i : grid0.Coords) : Prop := k0_cond4 i = 1#1

theorem hcond0_3 : ∀ t : Fin cfg0.N, cond0_3 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_3, k0_cond4, e0, e1]
    word_cmp
   : ∀ t : Fin grid0.N, cond0_3 (grid0.coords t) ↔ t.val % 16 = 15)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

theorem liveAt0_6 : ∀ t : Fin cfg0.N, cfg0.idle 6 (grid0.coords t) = false := fun _ => rfl

theorem liveAt0_7 : ∀ t : Fin cfg0.N, cfg0.idle 7 (grid0.coords t) = false := fun _ => rfl

theorem liveAt0_8 : ∀ t : Fin cfg0.N, cfg0.idle 8 (grid0.coords t) = false := fun _ => rfl

theorem liveAt0_9 : ∀ t : Fin cfg0.N, cfg0.idle 9 (grid0.coords t) = false := fun _ => rfl

theorem liveAt0_10 : ∀ t : Fin cfg0.N, cfg0.idle 10 (grid0.coords t) = false := fun _ => rfl

abbrev ms0_0 (t : Fin cfg0.N) : Memref sig .tc .vmem S1x128x1536 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3x1536 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x16x64x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S12x8x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x128 .bf16 := win0_15.stage (cfg0.slots t 15)
abbrev hs0_15 (t : Fin cfg0.N) : (ms0_15 t).IsWhole := hstage0_15 ((cfg0.slots t 15).cast nbuf0_15)

abbrev scM0_0 : Memref sig .tc .vmem S136x1536 .f32 := Memref.whole cc0_scratch0
abbrev scM0_1 : Memref sig .tc .vmem S2x12x128x8x128 .f32 := Memref.whole cc0_scratch1

abbrev hbM0_0 : Memref sig .tc .hbm S5120x128x8x128 .f32 := Memref.whole main_arg11

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

abbrev osem0 : Fin 2 → SemLoc sig := fun j => (![SemLoc.dma 25, SemLoc.dma 26] : Fin 2 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 25) 0 ∗ semVal ((c : Thread nD τ), SemLoc.dma 26) 0) := by
  rw [Pipeline.ownSems0_eq_of_list c osem0 [0, 1] (by decide) (by decide)]; rfl

def H0 : Finset (Ref sig .tc) := {main_arg11}
theorem H0_sub : H0 ⊆ Pipeline.restRefs sig spec0 := by decide

theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg11)) := by
  rw [BI.bigSep_eq_bigSepL_of_eq [main_arg11] (by decide) (by decide)]; rfl

theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 25) 0 ∗ semVal ((c : Thread nD τ), SemLoc.dma 26) 0) ∗ iprop(hbPt0 c hbM0_0 (V m c main_arg11))) := by
  rw [Pipeline.ΦD_eq, scopedRest0_eq, ownSems00_eq, hbmPts0_eq]; simp only [scM0_0, scM0_1, owns_whole]; try rfl

instance : NeZero grid0.N := ⟨by rw [N_0]; decide⟩
theorem inb_slot0_0 (s : Fin 2) : ∀ a, (![s.val, 0, 0, 0, 0] : Fin 5 → Nat) a + S1x12x128x8x128.size a ≤ S2x12x128x8x128.size a := by
  have := s.isLt; intro a; fin_cases a <;> simp <;> omega
theorem inb_src0_0 (b : Fin 128) : ∀ a, (![12 * b.val + 3584, 0, 0, 0] : Fin 4 → Nat) a + S12x128x8x128.size a ≤ S5120x128x8x128.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega

def rslot0_0 (s : Fin 2) : Memref sig .tc .vmem S12x128x8x128 .f32 :=
  (scM0_1.slice (Rect.unit (s := S2x12x128x8x128) ![s.val, 0, 0, 0, 0] S1x12x128x8x128.size (inb_slot0_0 s)) (fun _ => rfl)).squeeze S12x128x8x128 squeezes_S1x12x128x8x128_S12x128x8x128

def srcB0_0 (b : Fin 128) : Memref sig .tc .hbm S12x128x8x128 .f32 :=
  hbM0_0.slice (Rect.unit (s := S5120x128x8x128) ![12 * b.val + 3584, 0, 0, 0] S12x128x8x128.size (inb_src0_0 b)) (fun _ => rfl)

def cellA0_0 (s : Fin 2) : DmaSems sig S_ := (cc0_scratch2.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 25 := by decide
theorem cellR0_0_1 : cellR0_0 1 = SemLoc.dma 26 := by decide

section Ring0_0
variable (c : Dev nD) (W : HbBuf0 (F := F) c hbM0_0)

abbrev qs0_0 (s : Fin 2) : PosShare TreeShare := if s.val = 0 then fullShare.left else fullShare.right

abbrev slotP0_0 (s : Fin 2) (f : HbBuf0 (F := F) c (rslot0_0 s)) : sProp (MT nD τ sig Unit (Elt F) ℕ (Pipeline.UD sig nD τ) ℕ) := (rslot0_0 s).view.loc (c : Thread nD τ) ↦[(rslot0_0 s).view.set]{fullShare} f
abbrev cellP0_0 (s : Fin 2) : sProp (MT nD τ sig Unit (Elt F) ℕ (Pipeline.UD sig nD τ) ℕ) := semVal ((c : Thread nD τ), cellR0_0 s) 0
abbrev srcP0_0 (s : Fin 2) (b : Fin 128) : sProp (MT nD τ sig Unit (Elt F) ℕ (Pipeline.UD sig nD τ) ℕ) := (srcB0_0 b).view.loc (c : Thread nD τ) ↦[(srcB0_0 b).view.set]{qs0_0 s} W

def restP0_0 (s : Fin 2) (b : Fin 128) : sProp (MT nD τ sig Unit (Elt F) ℕ (Pipeline.UD sig nD τ) ℕ) := ((c : Thread nD τ).loc main_arg11) ↦[Finset.univ \ (srcB0_0 b).view.set]{qs0_0 s} W
abbrev wholeP0_0 (s : Fin 2) : sProp (MT nD τ sig Unit (Elt F) ℕ (Pipeline.UD sig nD τ) ℕ) := ((c : Thread nD τ).loc main_arg11) ↦[Finset.univ]{qs0_0 s} W
abbrev landed0_0 (s : Fin 2) (b : Fin 128) (f : HbBuf0 (F := F) c (rslot0_0 s)) : HbBuf0 (F := F) c (rslot0_0 s) :=
  (rslot0_0 s).view.writes (Elt F) f [⟨Rect.whole S12x128x8x128, ReadAs.same.apply ((srcB0_0 b).view.read (Elt F) W)⟩]
abbrev flightP0_0 (s : Fin 2) (b : Fin 128) (f : HbBuf0 (F := F) c (rslot0_0 s)) : sProp (MT nD τ sig Unit (Elt F) ℕ (Pipeline.UD sig nD τ) ℕ) :=
  Transfers.Flight countersEmb (c : Thread nD τ) (cellR0_0 s) default ((rslot0_0 s).view.amount (cellR0_0 s))
    iprop(slotP0_0 c s (landed0_0 c W s b f) ∗ srcP0_0 c W s b)

abbrev slotW0_0 (s : Fin 2) (f : HbBuf0 (F := F) c (rslot0_0 s)) : sProp (MT nD τ sig Unit (Elt F) ℕ (Pipeline.UD sig nD τ) ℕ) := iprop(slotP0_0 c s f ∗ wholeP0_0 c W s)
abbrev flightW0_0 (s : Fin 2) (b : Fin 128) (f : HbBuf0 (F := F) c (rslot0_0 s)) : sProp (MT nD τ sig Unit (Elt F) ℕ (Pipeline.UD sig nD τ) ℕ) := iprop(flightP0_0 c W s b f ∗ restP0_0 c W s b)
abbrev noHome0_0 (b : Fin 128) : sProp (MT nD τ sig Unit (Elt F) ℕ (Pipeline.UD sig nD τ) ℕ) := iprop(emp)

def ringAt0_0 (k : ℕ) : sProp (MT nD τ sig Unit (Elt F) ℕ (Pipeline.UD sig nD τ) ℕ) :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 25) 0 := congrArg (fun x => (semVal ((c : Thread nD τ), x) 0 : sProp (MT nD τ sig Unit (Elt F) ℕ (Pipeline.UD sig nD τ) ℕ))) cellR0_0_0
omit [FloatOps F] in
theorem cellP0_0_1 : cellP0_0 (F := F) c 1 = semVal ((c : Thread nD τ), SemLoc.dma 26) 0 := congrArg (fun x => (semVal ((c : Thread nD τ), x) 0 : sProp (MT nD τ sig Unit (Elt F) ℕ (Pipeline.UD sig nD τ) ℕ))) cellR0_0_1
end Ring0_0

abbrev slotSet0_0 (s : Fin 2) : Finset S2x12x128x8x128.Idx := (Rect.unit (s := S2x12x128x8x128) ![s.val, 0, 0, 0, 0] S1x12x128x8x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x12x128x8x128) (0 : Fin 5) 1 (fun s : Fin 2 => (![s.val, 0, 0, 0, 0] : Fin 5 → Nat)) S1x12x128x8x128.size inb_slot0_0 (fun s => by simp) rfl s s' h
theorem slots0_0_cover : Finset.univ.biUnion slotSet0_0 = Finset.univ :=
  Ring.lead_cover (s := S2x12x128x8x128) (0 : Fin 5) 1 (fun s : Fin 2 => (![s.val, 0, 0, 0, 0] : Fin 5 → Nat)) S1x12x128x8x128.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 2) (f) : slotP0_0 (F := F) c s f = (((c : Thread nD τ).loc cc0_scratch1) ↦[slotSet0_0 s]{fullShare} f : sProp (MT nD τ sig Unit (Elt F) ℕ (Pipeline.UD sig nD τ) ℕ)) := by
  unfold slotP0_0; rw [slotSet0_0_eq]; rfl

theorem src0_0_split (s : Fin 2) (b : Fin 128) : wholeP0_0 (F := F) c W s ⊣⊢ iprop(srcP0_0 c W s b ∗ restP0_0 c W s b) := by
  unfold restP0_0; exact pointsTo_split_subset (Finset.subset_univ _)

theorem whole0_0_split : (hbPt0 c hbM0_0 W : sProp (MT nD τ sig Unit (Elt F) ℕ (Pipeline.UD sig nD τ) ℕ)) ⊣⊢ iprop(wholeP0_0 c W 0 ∗ wholeP0_0 c W 1) :=
  pointsTo_share (PosShare.mem_left_op_right fullShare)
set_option maxHeartbeats 1000000 in

theorem slots0_0_in : iprop(∃ d, owns (c : Thread nD τ) scM0_1 fullShare d) ⊢ (iprop((∃ f, slotP0_0 (F := F) c 0 f) ∗ ∃ f, slotP0_0 (F := F) c 1 f) : sProp (MT nD τ sig Unit (Elt F) ℕ (Pipeline.UD sig nD τ) ℕ)) := by
  simp only [scM0_1, owns_whole]
  exact Ring.slots2_split (U := Pipeline.UD sig nD τ) (ℓ := (c : Thread nD τ).loc cc0_scratch1) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp (MT nD τ sig Unit (Elt F) ℕ (Pipeline.UD sig nD τ) ℕ)) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_0 slots0_0_disjoint slots0_0_cover
    (slotP0_0 c 0) (slotP0_0 c 1) (slotP0_0_eq c 0) (slotP0_0_eq c 1)
end InOut0_0

theorem ring0_0_in (c : Dev nD) :
    iprop((∃ d, owns (c : Thread nD τ) scM0_1 fullShare d) ∗ (semVal ((c : Thread nD τ), SemLoc.dma 25) 0 ∗ semVal ((c : Thread nD τ), SemLoc.dma 26) 0) ∗ hbPt0 c hbM0_0 (V m c main_arg11))
      ⊢ ringAt0_0 c (V m c main_arg11) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg11)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1

theorem ring0_0_out (c : Dev nD) :
    ringAt0_0 c (V m c main_arg11) 128
      ⊢ iprop((∃ d, owns (c : Thread nD τ) scM0_1 fullShare d) ∗ (semVal ((c : Thread nD τ), SemLoc.dma 25) 0 ∗ semVal ((c : Thread nD τ), SemLoc.dma 26) 0) ∗ hbPt0 c hbM0_0 (V m c main_arg11)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg11)).2; isplitl [HW0]; · iexact HW0
    iexact HW1

section Canon0_0
omit [FloatOps F]

theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel

theorem rstep0_0_B : ∀ t : Fin grid0.N, ¬cond0_0 (grid0.coords t) → cond0_1 (grid0.coords t) → ¬cond0_2 (grid0.coords t) → ¬cond0_3 (grid0.coords t) → 1 ≤ t.val ∧ t.val + 1 < 128 ∧ (t.val + 1) = t.val + 1 := by decide +kernel

theorem rstep0_0_C : ∀ t : Fin grid0.N, ¬cond0_0 (grid0.coords t) → cond0_1 (grid0.coords t) → ¬cond0_2 (grid0.coords t) → cond0_3 (grid0.coords t) → 1 ≤ t.val ∧ t.val + 1 < 128 ∧ (t.val + 1) = t.val + 1 := by decide +kernel

theorem rstep0_0_D : ∀ t : Fin grid0.N, ¬cond0_0 (grid0.coords t) → cond0_1 (grid0.coords t) → cond0_2 (grid0.coords t) → ¬cond0_3 (grid0.coords t) → 1 ≤ t.val ∧ t.val + 1 < 128 ∧ (t.val + 1) = t.val + 1 := by decide +kernel

theorem rstep0_0_E : ∀ t : Fin grid0.N, ¬cond0_0 (grid0.coords t) → ¬cond0_1 (grid0.coords t) → ¬cond0_2 (grid0.coords t) → cond0_3 (grid0.coords t) → 1 ≤ t.val ∧ t.val + 1 = 128 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0, 0, 0] : Fin 5 → Nat) = ![(Ring.sl 2 t.val).val, 0, 0, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S2x12x128x8x128) ![0, 0, 0, 0, 0] S1x12x128x8x128.size inb_S2x12x128x8x128_S1x12x128x8x128_0_0_0_0_0) (fun _ => rfl)).squeeze S12x128x8x128 squeezes_S1x12x128x8x128_S12x128x8x128 = rslot0_0 (Ring.sl 2 t.val) :=
  congrArg (fun M : Memref sig .tc .vmem S1x12x128x8x128 .f32 => M.squeeze S12x128x8x128 squeezes_S1x12x128x8x128_S12x128x8x128) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![3584, 0, 0, 0] : Fin 4 → Nat) = ![12 * (Ring.bk 128 t.val).val + 3584, 0, 0, 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    hbM0_0.slice (Rect.unit (s := S5120x128x8x128) ![3584, 0, 0, 0] S12x128x8x128.size inb_S5120x128x8x128_S12x128x8x128_3584_0_0_0) (fun _ => rfl) = srcB0_0 (Ring.bk 128 t.val) :=
  congrArg (fun M : Memref sig .tc .hbm S12x128x8x128 .f32 => M) (Memref.slice_unit_congr _ (coff0_0_3 t h0 h1 h2 h3) _ _ (fun _ => rfl) (fun _ => rfl))
set_option synthInstance.maxSize 4096 in
theorem coff0_0_4 : ∀ t : Fin grid0.N, k0_off2 (grid0.coords t) = ![(Ring.sl 2 t.val).val, 0, 0, 0, 0] := by decide +kernel
@[sl_canon] theorem canon0_0_4 (t : Fin grid0.N) :
    (scM0_1.slice (Rect.unit (s := S2x12x128x8x128) (k0_off2 (grid0.coords t)) S1x12x128x8x128.size (k0_off2_inb (grid0.coords t))) (fun _ => rfl)).squeeze S12x128x8x128 squeezes_S1x12x128x8x128_S12x128x8x128 = rslot0_0 (Ring.sl 2 t.val) :=
  congrArg (fun M : Memref sig .tc .vmem S1x12x128x8x128 .f32 => M.squeeze S12x128x8x128 squeezes_S1x12x128x8x128_S12x128x8x128) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 t.val).val] := by decide +kernel
@[sl_canon] theorem canon0_0_5 (t : Fin grid0.N) :
    (cc0_scratch2.slice (Rect.unit (s := S2) (k0_off1 (grid0.coords t)) S1.size (k0_off1_inb (grid0.coords t)))).squeeze S_ squeezes_S1_S_ = cellA0_0 (Ring.sl 2 t.val) :=
  congrArg (fun A : DmaSems sig S1 => A.squeeze S_ squeezes_S1_S_) (SemArray.slice_unit_congr _ (coff0_0_5 t ) _ _)
set_option synthInstance.maxSize 4096 in
theorem coff0_0_6 : ∀ t : Fin grid0.N, k0_off5 (grid0.coords t) = ![(Ring.sl 2 (t.val + 1)).val, 0, 0, 0, 0] := by decide +kernel
@[sl_canon] theorem canon0_0_6 (t : Fin grid0.N) (h1 : cond0_1 (grid0.coords t)) :
    (scM0_1.slice (Rect.unit (s := S2x12x128x8x128) (k0_off5 (grid0.coords t)) S1x12x128x8x128.size (k0_off5_inb (grid0.coords t) h1)) (fun _ => rfl)).squeeze S12x128x8x128 squeezes_S1x12x128x8x128_S12x128x8x128 = rslot0_0 (Ring.sl 2 (t.val + 1)) :=
  congrArg (fun M : Memref sig .tc .vmem S1x12x128x8x128 .f32 => M.squeeze S12x128x8x128 squeezes_S1x12x128x8x128_S12x128x8x128) (Memref.slice_unit_congr _ (coff0_0_6 t ) _ _ (fun _ => rfl) (fun _ => rfl))
set_option synthInstance.maxSize 4096 in
theorem coff0_0_7 : ∀ t : Fin grid0.N, k0_off4 (grid0.coords t) = ![(Ring.sl 2 (t.val + 1)).val] := by decide +kernel
@[sl_canon] theorem canon0_0_7 (t : Fin grid0.N) (h1 : cond0_1 (grid0.coords t)) :
    (cc0_scratch2.slice (Rect.unit (s := S2) (k0_off4 (grid0.coords t)) S1.size (k0_off4_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_7 t ) _ _)
set_option synthInstance.maxSize 4096 in
theorem coff0_0_8 : ∀ t : Fin grid0.N, cond0_0 (grid0.coords t) → cond0_1 (grid0.coords t) → cond0_2 (grid0.coords t) → ¬cond0_3 (grid0.coords t) → k0_off6 (grid0.coords t) = ![12 * (Ring.bk 128 (t.val + 1)).val + 3584, 0, 0, 0] := by decide +kernel
@[sl_canon] theorem canon0_0_8 (t : Fin grid0.N) (h0 : cond0_0 (grid0.coords t)) (h1 : cond0_1 (grid0.coords t)) (h2 : cond0_2 (grid0.coords t)) (h3 : ¬cond0_3 (grid0.coords t)) :
    hbM0_0.slice (Rect.unit (s := S5120x128x8x128) (k0_off6 (grid0.coords t)) S12x128x8x128.size (k0_off6_inb (grid0.coords t) h1)) (fun _ => rfl) = srcB0_0 (Ring.bk 128 (t.val + 1)) :=
  congrArg (fun M : Memref sig .tc .hbm S12x128x8x128 .f32 => M) (Memref.slice_unit_congr _ (coff0_0_8 t h0 h1 h2 h3) _ _ (fun _ => rfl) (fun _ => rfl))
set_option synthInstance.maxSize 4096 in
theorem coff0_0_9 : ∀ t : Fin grid0.N, ¬cond0_0 (grid0.coords t) → cond0_1 (grid0.coords t) → ¬cond0_2 (grid0.coords t) → ¬cond0_3 (grid0.coords t) → k0_off6 (grid0.coords t) = ![12 * (Ring.bk 128 (t.val + 1)).val + 3584, 0, 0, 0] := by decide +kernel
@[sl_canon] theorem canon0_0_9 (t : Fin grid0.N) (h0 : ¬cond0_0 (grid0.coords t)) (h1 : cond0_1 (grid0.coords t)) (h2 : ¬cond0_2 (grid0.coords t)) (h3 : ¬cond0_3 (grid0.coords t)) :
    hbM0_0.slice (Rect.unit (s := S5120x128x8x128) (k0_off6 (grid0.coords t)) S12x128x8x128.size (k0_off6_inb (grid0.coords t) h1)) (fun _ => rfl) = srcB0_0 (Ring.bk 128 (t.val + 1)) :=
  congrArg (fun M : Memref sig .tc .hbm S12x128x8x128 .f32 => M) (Memref.slice_unit_congr _ (coff0_0_9 t h0 h1 h2 h3) _ _ (fun _ => rfl) (fun _ => rfl))
set_option synthInstance.maxSize 4096 in
theorem coff0_0_10 : ∀ t : Fin grid0.N, ¬cond0_0 (grid0.coords t) → cond0_1 (grid0.coords t) → ¬cond0_2 (grid0.coords t) → cond0_3 (grid0.coords t) → k0_off6 (grid0.coords t) = ![12 * (Ring.bk 128 (t.val + 1)).val + 3584, 0, 0, 0] := by decide +kernel
@[sl_canon] theorem canon0_0_10 (t : Fin grid0.N) (h0 : ¬cond0_0 (grid0.coords t)) (h1 : cond0_1 (grid0.coords t)) (h2 : ¬cond0_2 (grid0.coords t)) (h3 : cond0_3 (grid0.coords t)) :
    hbM0_0.slice (Rect.unit (s := S5120x128x8x128) (k0_off6 (grid0.coords t)) S12x128x8x128.size (k0_off6_inb (grid0.coords t) h1)) (fun _ => rfl) = srcB0_0 (Ring.bk 128 (t.val + 1)) :=
  congrArg (fun M : Memref sig .tc .hbm S12x128x8x128 .f32 => M) (Memref.slice_unit_congr _ (coff0_0_10 t h0 h1 h2 h3) _ _ (fun _ => rfl) (fun _ => rfl))
set_option synthInstance.maxSize 4096 in
theorem coff0_0_11 : ∀ t : Fin grid0.N, ¬cond0_0 (grid0.coords t) → cond0_1 (grid0.coords t) → cond0_2 (grid0.coords t) → ¬cond0_3 (grid0.coords t) → k0_off6 (grid0.coords t) = ![12 * (Ring.bk 128 (t.val + 1)).val + 3584, 0, 0, 0] := by decide +kernel
@[sl_canon] theorem canon0_0_11 (t : Fin grid0.N) (h0 : ¬cond0_0 (grid0.coords t)) (h1 : cond0_1 (grid0.coords t)) (h2 : cond0_2 (grid0.coords t)) (h3 : ¬cond0_3 (grid0.coords t)) :
    hbM0_0.slice (Rect.unit (s := S5120x128x8x128) (k0_off6 (grid0.coords t)) S12x128x8x128.size (k0_off6_inb (grid0.coords t) h1)) (fun _ => rfl) = srcB0_0 (Ring.bk 128 (t.val + 1)) :=
  congrArg (fun M : Memref sig .tc .hbm S12x128x8x128 .f32 => M) (Memref.slice_unit_congr _ (coff0_0_11 t h0 h1 h2 h3) _ _ (fun _ => rfl) (fun _ => rfl))
set_option synthInstance.maxSize 4096 in
theorem coff0_0_12 : ∀ t : Fin grid0.N, k0_off7 (grid0.coords t) = ![(Ring.sl 2 t.val).val, 0, 0, 0, 0] := by decide +kernel

instance (priority := high) closedOff0_0_12 (t : Fin grid0.N) : ClosedOff (k0_off7 (grid0.coords t)) := ⟨![(Ring.sl 2 t.val).val, 0, 0, 0, 0], coff0_0_12 t⟩
end Canon0_0

/-- The last three rows of a chunk. -/
def rows (x : Vec F S1x128x1536 .f32) : Vec F S1x3x1536 .f32 := k0_pay11 (k0_pay6 x)

theorem off_zero3 : (![0, 0, 0] : Fin 3 → Nat) = fun _ => 0 := by
  funext a; fin_cases a <;> rfl

/-- A whole store, read back. -/
theorem read_stored3 {κ : Kind} {sp : Space} {S : Shape} {e : EltTy} {off : Fin S.rank → Nat} (h : off = fun _ => 0) (v : View sig κ sp S e) (f : v.ty.Contents (Elt F)) (inb) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- A whole load of a buffer reads its contents. -/
theorem readAt_whole3 {κ : Kind} {sp : Space} {S : Shape} {e : EltTy} {off : Fin S.rank → Nat} (h : off = fun _ => 0) (r : Memref sig κ sp S e) (hr : r.IsWhole) (inb) (x : S.Idx → Elt F e) :
    r.view.readAt (Elt F) (Rect.unit off S.size inb).toLoadRect (hr.unread x) = x := by
  rw [View.readAt_eq_ld, hr.read_unread]
  exact View.ld_unit_zero h inb x

end Cert.TailIdeal.Hand

end
-- ==== Proof.Tail.RunA.lean ====
module

public import proofs.«01_k».proof.Proof.Tail.Runs

/-! The body's run at the first point. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

theorem kernelRun0_A (c : Dev nD) (t : Fin cfg0.N) (arg2 : Memref sig .tc .vmem S1x128x1536 .f32) (harg2 : arg2.IsWhole) (arg3 : Memref sig .tc .vmem S1x128x128 .f32) (harg3 : arg3.IsWhole) (arg4 : Memref sig .tc .vmem S1x128x1024 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S256x128 .f32) (harg12 : arg12.IsWhole) (arg14 : Memref sig .tc .vmem S1x128x1024 .bf16) (harg14 : arg14.IsWhole) (arg15 : Memref sig .tc .vmem S1x3x1536 .f32) (harg15 : arg15.IsWhole) (arg16 : Memref sig .tc .vmem S1x16x64x128 .f32) (harg16 : arg16.IsWhole) (arg17 : Memref sig .tc .vmem S12x8x128 .f32) (harg17 : arg17.IsWhole) (arg18 : Memref sig .tc .vmem S256x128 .bf16) (harg18 : arg18.IsWhole) (arg19 : Memref sig .tc .vmem S136x1536 .f32) (harg19 : arg19.IsWhole) (hc0 : cond0_0 (grid0.coords t)) (hc1 : cond0_1 (grid0.coords t)) (hc2 : cond0_2 (grid0.coords t)) (hc3 : ¬cond0_3 (grid0.coords t))
    (x0 : Vec F S1x128x1536 .f32) (x1 : Vec F S1x128x128 .f32) (x2 : Vec F S1x128x1024 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .f32) (x10 : Vec F S256x128 .f32) (x12 : Vec F S1x3x1536 .f32) (fh0 : HbBuf0 (F := F) c hbM0_0) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 128 (t.val + 1)) ∗ Ring.kept (cellP0_0 c) (slotW0_0 c fh0) (landed0_0 c fh0) (Ring.sl 2 t.val) (Ring.bk 128 t.val) ∗ (∃ W', owes (c : Thread nD τ) 0 W')) -∗ K ⟨⟩))
          ⊢ wp frame (wpE (defs₀ (F := F)) Variants.none c none) Set.univ (cc0_ssd_prompt (grid0.coords t) arg2 harg2 arg3 harg3 arg4 harg4 arg5 harg5 arg6 harg6 arg7 harg7 arg8 harg8 arg9 harg9 arg10 harg10 arg11 harg11 arg12 harg12 (Memref.whole main_arg11) (Memref.isWhole_whole _) arg14 harg14 arg15 harg15 arg16 harg16 arg17 harg17 arg18 harg18 arg19 harg19 scM0_1 (Memref.isWhole_whole _) cc0_scratch2) K := by
    intro W K
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0_ssd_prompt_eq_skeleton]; unfold cc0_ssd_prompt_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    have hcanon0 := canon0_0_1 t hc0 hc1 hc2 hc3
    have hcanon1 := canon0_0_2 t hc0 hc1 hc2 hc3
    have hcanon2 := canon0_0_3 t hc0 hc1 hc2 hc3
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 128 t.val)).1 $$ Hw0_0_0
    icases Hsp0_0_0 with ⟨Hh0_0_0, Hr0_0_0⟩
    ihave Hsp0_0_1 := (src0_0_split c fh0 (Ring.sl 2 (t.val + 1)) (Ring.bk 128 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 128 t.val)).2; isplitl [Hh0_0_0]; · iexact Hh0_0_0
      iexact Hr0_0_0
    iexists _; iexact HW

end Cert.TailIdeal.Hand

end
-- ==== Proof.Tail.RunB.lean ====
module

public import proofs.«01_k».proof.Proof.Tail.Runs

/-! The body's run within a sequence. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

theorem kernelRun0_B (c : Dev nD) (t : Fin cfg0.N) (arg2 : Memref sig .tc .vmem S1x128x1536 .f32) (harg2 : arg2.IsWhole) (arg3 : Memref sig .tc .vmem S1x128x128 .f32) (harg3 : arg3.IsWhole) (arg4 : Memref sig .tc .vmem S1x128x1024 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S256x128 .f32) (harg12 : arg12.IsWhole) (arg14 : Memref sig .tc .vmem S1x128x1024 .bf16) (harg14 : arg14.IsWhole) (arg15 : Memref sig .tc .vmem S1x3x1536 .f32) (harg15 : arg15.IsWhole) (arg16 : Memref sig .tc .vmem S1x16x64x128 .f32) (harg16 : arg16.IsWhole) (arg17 : Memref sig .tc .vmem S12x8x128 .f32) (harg17 : arg17.IsWhole) (arg18 : Memref sig .tc .vmem S256x128 .bf16) (harg18 : arg18.IsWhole) (arg19 : Memref sig .tc .vmem S136x1536 .f32) (harg19 : arg19.IsWhole) (hc0 : ¬cond0_0 (grid0.coords t)) (hc1 : cond0_1 (grid0.coords t)) (hc2 : ¬cond0_2 (grid0.coords t)) (hc3 : ¬cond0_3 (grid0.coords t))
    (x0 : Vec F S1x128x1536 .f32) (x1 : Vec F S1x128x128 .f32) (x2 : Vec F S1x128x1024 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .f32) (x10 : Vec F S256x128 .f32) (x12 : Vec F S1x3x1536 .f32) (fh0 : HbBuf0 (F := F) c hbM0_0) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 128 t.val) ∗ Ring.kept (cellP0_0 c) (slotW0_0 c fh0) (landed0_0 c fh0) (Ring.sl 2 (t.val + 1)) (Ring.bk 128 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 128 (t.val + 1)) ∗ Ring.kept (cellP0_0 c) (slotW0_0 c fh0) (landed0_0 c fh0) (Ring.sl 2 t.val) (Ring.bk 128 t.val) ∗ (∃ W', owes (c : Thread nD τ) 0 W')) -∗ K ⟨⟩))
          ⊢ wp frame (wpE (defs₀ (F := F)) Variants.none c none) Set.univ (cc0_ssd_prompt (grid0.coords t) arg2 harg2 arg3 harg3 arg4 harg4 arg5 harg5 arg6 harg6 arg7 harg7 arg8 harg8 arg9 harg9 arg10 harg10 arg11 harg11 arg12 harg12 (Memref.whole main_arg11) (Memref.isWhole_whole _) arg14 harg14 arg15 harg15 arg16 harg16 arg17 harg17 arg18 harg18 arg19 harg19 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (¬cond0_3 (grid0.coords t)) := ⟨hc3⟩
    simp only [cc0_ssd_prompt_eq_skeleton]; unfold cc0_ssd_prompt_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 128 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 128 t.val)).2; isplitl [Hf0_0_src]; · iexact Hf0_0_src
      iexact Hrf0_0
    iexists _; iexact HW

end Cert.TailIdeal.Hand

end
-- ==== Proof.Tail.RunC.lean ====
module

public import proofs.«01_k».proof.Proof.Tail.Runs

/-! The body's run at a sequence's last chunk. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

theorem kernelRun0_C (c : Dev nD) (t : Fin cfg0.N) (arg2 : Memref sig .tc .vmem S1x128x1536 .f32) (harg2 : arg2.IsWhole) (arg3 : Memref sig .tc .vmem S1x128x128 .f32) (harg3 : arg3.IsWhole) (arg4 : Memref sig .tc .vmem S1x128x1024 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S256x128 .f32) (harg12 : arg12.IsWhole) (arg14 : Memref sig .tc .vmem S1x128x1024 .bf16) (harg14 : arg14.IsWhole) (arg15 : Memref sig .tc .vmem S1x3x1536 .f32) (harg15 : arg15.IsWhole) (arg16 : Memref sig .tc .vmem S1x16x64x128 .f32) (harg16 : arg16.IsWhole) (arg17 : Memref sig .tc .vmem S12x8x128 .f32) (harg17 : arg17.IsWhole) (arg18 : Memref sig .tc .vmem S256x128 .bf16) (harg18 : arg18.IsWhole) (arg19 : Memref sig .tc .vmem S136x1536 .f32) (harg19 : arg19.IsWhole) (hc0 : ¬cond0_0 (grid0.coords t)) (hc1 : cond0_1 (grid0.coords t)) (hc2 : ¬cond0_2 (grid0.coords t)) (hc3 : cond0_3 (grid0.coords t))
    (x0 : Vec F S1x128x1536 .f32) (x1 : Vec F S1x128x128 .f32) (x2 : Vec F S1x128x1024 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .f32) (x10 : Vec F S256x128 .f32) (fh0 : HbBuf0 (F := F) c hbM0_0) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 128 t.val) ∗ Ring.kept (cellP0_0 c) (slotW0_0 c fh0) (landed0_0 c fh0) (Ring.sl 2 (t.val + 1)) (Ring.bk 128 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare (rows x0) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 128 (t.val + 1)) ∗ Ring.kept (cellP0_0 c) (slotW0_0 c fh0) (landed0_0 c fh0) (Ring.sl 2 t.val) (Ring.bk 128 t.val) ∗ (∃ W', owes (c : Thread nD τ) 0 W')) -∗ K ⟨⟩))
          ⊢ wp frame (wpE (defs₀ (F := F)) Variants.none c none) Set.univ (cc0_ssd_prompt (grid0.coords t) arg2 harg2 arg3 harg3 arg4 harg4 arg5 harg5 arg6 harg6 arg7 harg7 arg8 harg8 arg9 harg9 arg10 harg10 arg11 harg11 arg12 harg12 (Memref.whole main_arg11) (Memref.isWhole_whole _) arg14 harg14 arg15 harg15 arg16 harg16 arg17 harg17 arg18 harg18 arg19 harg19 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (cond0_3 (grid0.coords t)) := ⟨hc3⟩
    simp only [cc0_ssd_prompt_eq_skeleton]; unfold cc0_ssd_prompt_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 128 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _; isplitr; swap; · iexact H12
      ipureintro
      refine (read_stored3 (S := S1x3x1536) off_zero3 _ _ _ _).trans ?_
      exact congrArg (fun y => k0_pay11 (k0_pay6 y)) (readAt_whole3 off_zero3 arg2 harg2 _ x0)
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 128 t.val)).2; isplitl [Hf0_0_src]; · iexact Hf0_0_src
      iexact Hrf0_0
    iexists _; iexact HW

end Cert.TailIdeal.Hand

end
-- ==== Proof.Tail.RunD.lean ====
module

public import proofs.«01_k».proof.Proof.Tail.Runs

/-! The body's run at a sequence's first chunk. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

theorem kernelRun0_D (c : Dev nD) (t : Fin cfg0.N) (arg2 : Memref sig .tc .vmem S1x128x1536 .f32) (harg2 : arg2.IsWhole) (arg3 : Memref sig .tc .vmem S1x128x128 .f32) (harg3 : arg3.IsWhole) (arg4 : Memref sig .tc .vmem S1x128x1024 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S256x128 .f32) (harg12 : arg12.IsWhole) (arg14 : Memref sig .tc .vmem S1x128x1024 .bf16) (harg14 : arg14.IsWhole) (arg15 : Memref sig .tc .vmem S1x3x1536 .f32) (harg15 : arg15.IsWhole) (arg16 : Memref sig .tc .vmem S1x16x64x128 .f32) (harg16 : arg16.IsWhole) (arg17 : Memref sig .tc .vmem S12x8x128 .f32) (harg17 : arg17.IsWhole) (arg18 : Memref sig .tc .vmem S256x128 .bf16) (harg18 : arg18.IsWhole) (arg19 : Memref sig .tc .vmem S136x1536 .f32) (harg19 : arg19.IsWhole) (hc0 : ¬cond0_0 (grid0.coords t)) (hc1 : cond0_1 (grid0.coords t)) (hc2 : cond0_2 (grid0.coords t)) (hc3 : ¬cond0_3 (grid0.coords t))
    (x0 : Vec F S1x128x1536 .f32) (x1 : Vec F S1x128x128 .f32) (x2 : Vec F S1x128x1024 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .f32) (x10 : Vec F S256x128 .f32) (x12 : Vec F S1x3x1536 .f32) (fh0 : HbBuf0 (F := F) c hbM0_0) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 128 t.val) ∗ Ring.kept (cellP0_0 c) (slotW0_0 c fh0) (landed0_0 c fh0) (Ring.sl 2 (t.val + 1)) (Ring.bk 128 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 128 (t.val + 1)) ∗ Ring.kept (cellP0_0 c) (slotW0_0 c fh0) (landed0_0 c fh0) (Ring.sl 2 t.val) (Ring.bk 128 t.val) ∗ (∃ W', owes (c : Thread nD τ) 0 W')) -∗ K ⟨⟩))
          ⊢ wp frame (wpE (defs₀ (F := F)) Variants.none c none) Set.univ (cc0_ssd_prompt (grid0.coords t) arg2 harg2 arg3 harg3 arg4 harg4 arg5 harg5 arg6 harg6 arg7 harg7 arg8 harg8 arg9 harg9 arg10 harg10 arg11 harg11 arg12 harg12 (Memref.whole main_arg11) (Memref.isWhole_whole _) arg14 harg14 arg15 harg15 arg16 harg16 arg17 harg17 arg18 harg18 arg19 harg19 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0_ssd_prompt_eq_skeleton]; unfold cc0_ssd_prompt_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 128 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _; isplitr; swap; · iexact H12
      ipureintro; exact hf12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 128 t.val)).2; isplitl [Hf0_0_src]; · iexact Hf0_0_src
      iexact Hrf0_0
    iexists _; iexact HW

end Cert.TailIdeal.Hand

end
-- ==== Proof.Tail.RunE.lean ====
module

public import proofs.«01_k».proof.Proof.Tail.Runs

/-! The body's run at the last point. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in

theorem kernelRun0_E (c : Dev nD) (t : Fin cfg0.N) (arg2 : Memref sig .tc .vmem S1x128x1536 .f32) (harg2 : arg2.IsWhole) (arg3 : Memref sig .tc .vmem S1x128x128 .f32) (harg3 : arg3.IsWhole) (arg4 : Memref sig .tc .vmem S1x128x1024 .f32) (harg4 : arg4.IsWhole) (arg5 : Memref sig .tc .vmem S4x1536 .f32) (harg5 : arg5.IsWhole) (arg6 : Memref sig .tc .vmem S1x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S256x128 .f32) (harg12 : arg12.IsWhole) (arg14 : Memref sig .tc .vmem S1x128x1024 .bf16) (harg14 : arg14.IsWhole) (arg15 : Memref sig .tc .vmem S1x3x1536 .f32) (harg15 : arg15.IsWhole) (arg16 : Memref sig .tc .vmem S1x16x64x128 .f32) (harg16 : arg16.IsWhole) (arg17 : Memref sig .tc .vmem S12x8x128 .f32) (harg17 : arg17.IsWhole) (arg18 : Memref sig .tc .vmem S256x128 .bf16) (harg18 : arg18.IsWhole) (arg19 : Memref sig .tc .vmem S136x1536 .f32) (harg19 : arg19.IsWhole) (hc0 : ¬cond0_0 (grid0.coords t)) (hc1 : ¬cond0_1 (grid0.coords t)) (hc2 : ¬cond0_2 (grid0.coords t)) (hc3 : cond0_3 (grid0.coords t))
    (x0 : Vec F S1x128x1536 .f32) (x1 : Vec F S1x128x128 .f32) (x2 : Vec F S1x128x1024 .f32) (x3 : Vec F S4x1536 .f32) (x4 : Vec F S1x1536 .f32) (x5 : Vec F S1x128 .f32) (x6 : Vec F S1x128 .f32) (x7 : Vec F S1x1024 .f32) (x8 : Vec F S1x1024 .f32) (x9 : Vec F S128x1024 .f32) (x10 : Vec F S256x128 .f32) (fh0 : HbBuf0 (F := F) c hbM0_0) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 128 t.val) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ owns (c : Thread nD τ) arg15 fullShare (rows x0) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.kept (cellP0_0 c) (slotW0_0 c fh0) (landed0_0 c fh0) (Ring.sl 2 t.val) (Ring.bk 128 t.val) ∗ (∃ W', owes (c : Thread nD τ) 0 W')) -∗ K ⟨⟩))
          ⊢ wp frame (wpE (defs₀ (F := F)) Variants.none c none) Set.univ (cc0_ssd_prompt (grid0.coords t) arg2 harg2 arg3 harg3 arg4 harg4 arg5 harg5 arg6 harg6 arg7 harg7 arg8 harg8 arg9 harg9 arg10 harg10 arg11 harg11 arg12 harg12 (Memref.whole main_arg11) (Memref.isWhole_whole _) arg14 harg14 arg15 harg15 arg16 harg16 arg17 harg17 arg18 harg18 arg19 harg19 scM0_1 (Memref.isWhole_whole _) cc0_scratch2) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (cond0_3 (grid0.coords t)) := ⟨hc3⟩
    simp only [cc0_ssd_prompt_eq_skeleton]; unfold cc0_ssd_prompt_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ff0_0, Hf0_0, Hrf0_0⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [H12]
    · iexists _; isplitr; swap; · iexact H12
      ipureintro
      refine (read_stored3 (S := S1x3x1536) off_zero3 _ _ _ _).trans ?_
      exact congrArg (fun y => k0_pay11 (k0_pay6 y)) (readAt_whole3 off_zero3 arg2 harg2 _ x0)
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 128 t.val)).2; isplitl [Hf0_0_src]; · iexact Hf0_0_src
      iexact Hrf0_0
    iexists _; iexact HW

end Cert.TailIdeal.Hand

end
-- ==== Proof.Tail.Frame.lean ====
module

public import proofs.«01_k».proof.Proof.Tail.RunA
public import proofs.«01_k».proof.Proof.Tail.RunB
public import proofs.«01_k».proof.Proof.Tail.RunC
public import proofs.«01_k».proof.Proof.Tail.RunD
public import proofs.«01_k».proof.Proof.Tail.RunE
public import Idealize.ShloMosaic.Lib.Claim

/-! The frame of the prompt's state-space call: what a point is handed and hands on, the launch, the arguments unchanged, and the last rows of the convolution's input named. -/

@[expose] public section

set_option maxRecDepth 16384

noncomputable section

namespace Cert.TailIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen
open Idealize.ShloMosaic.Pipeline (Dat Cfg Window BodyObligation cellOf)

variable {F : FTy → Type} [FloatOps F]

variable (m : (ℓ : Loc nD τ sig) → Buf (Elt F) ℓ) (ρ : Dev nD → PrngReg)

def PhiR (c : Dev nD) (k : ℕ) : sProp (MT nD τ sig Unit (Elt F) ℕ (Pipeline.UD sig nD τ) ℕ) := iprop((∃ d, owns (c : Thread nD τ) scM0_0 fullShare d) ∗ (∃ r, prngReg c r) ∗ ringAt0_0 c (V m c main_arg11) k)

def forgets0 : Fin 16 → Bool := fun w => w.val == 11 || w.val == 13 || w.val == 14 || w.val == 15

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, _⟩ => rows (iblk m c 0 t)
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]

theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_12 (c : Dev nD) (t : Fin cfg0.N) : (dats m 0 c).after 12 t = rows (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The rows are stored at a sequence's last chunk only. -/
theorem idle12 : ∀ t : Fin cfg0.N, ¬t.val % 16 = 15 → cfg0.idle 12 (grid0.coords t) = true :=
  (by decide +kernel : ∀ t : Fin grid0.N, ¬t.val % 16 = 15 → idle0 12 (grid0.coords t) = true)

theorem live12 : ∀ t : Fin cfg0.N, t.val % 16 = 15 → cfg0.idle 12 (grid0.coords t) = false :=
  (by decide +kernel : ∀ t : Fin grid0.N, t.val % 16 = 15 → idle0 12 (grid0.coords t) = false)

theorem noflush12 (t : Fin cfg0.N) (h : ¬t.val % 16 = 15) : (cfg0.win 12).flush t = false :=
  Bool.eq_false_iff.mpr fun hf => h ((flush0_12 t).mp hf)

def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d))

def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (dats m 0 c).leavesExact 12 t
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 8000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 128 := N_0
  have hN : t.val < 128 := lt_of_lt_of_eq t.isLt (show cfg0.N = 128 from N_0)
  by_cases h0 : t.val % 128 = 0
  · by_cases h1 : t.val < 127
    · by_cases h2 : t.val % 16 = 0
      · by_cases h3 : t.val % 16 = 15
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 12 t = iprop(∃ d, owns (c : Thread nD τ) (ms0_12 t) fullShare ((dats m 0 c).before 12 t d)) from (dats m 0 c).leavesExact_idle 12 t (idle12 t h3) (noflush12 t h3)]
          have hr0 := rstep0_0_A t ((hcond0_0 t).mpr h0) ((hcond0_1 t).mpr h1) ((hcond0_2 t).mpr h2) (fun h => h3 ((hcond0_3 t).mp h))
          obtain ⟨hK00, hK10⟩ := hr0
          rw [if_pos hK00, if_neg (show ¬t.val + 1 = 0 by omega)]
          rw [Ring.At₀_eq2' _ _ _ t.val hK00 (by decide : 2 ≤ 128), Ring.AtK2_one' _ _ _ _ _ t.val hK00 (by decide : 1 < 128)]
          iintro ⟨⟨HS0, Hg, ⟨-, Hfr0_0_0, Hfr0_0_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c t _ _ _ _ _ _ _ _ _ _ _ _ _ _ _ _ _ _ _ _ _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) (V m c main_arg11)) W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexact H12
          isplitl [H13]; · iexists _; iexact H13
          isplitl [H14]; · iexists _; iexact H14
          isplitl [H15]; · iexists _; iexact H15
          isplitl [HS0]; · iexact HS0
          isplitl [Hfr0_0_0]; · iexact Hfr0_0_0
          isplitl [Hfr0_0_1]; · iexact Hfr0_0_1
          isplitl [HW]; · iexact HW
          iintro ⟨H0, H1, H2, H3, H4, H5, H6, H7, H8, H9, H10, H11, H12, H13, H14, H15, HS0, Hfl0_0', Hkp0_0', ⟨%W', HW'⟩⟩
          isplitl [HS0 Hg Hfl0_0' Hkp0_0']
          · isplitl [HS0]; · iexact HS0
            isplitl [Hg]; · iexact Hg
            iapply Ring.with_homes₀
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists d12; iexact H12
          isplitl [H13]; · iexact H13
          isplitl [H14]; · iexact H14
          iexact H15
      · exfalso; omega
    · exfalso; omega
  · by_cases h1 : t.val < 127
    · by_cases h2 : t.val % 16 = 0
      · by_cases h3 : t.val % 16 = 15
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 12 t = iprop(∃ d, owns (c : Thread nD τ) (ms0_12 t) fullShare ((dats m 0 c).before 12 t d)) from (dats m 0 c).leavesExact_idle 12 t (idle12 t h3) (noflush12 t h3)]
          have hr0 := rstep0_0_D t (fun h => h0 ((hcond0_0 t).mp h)) ((hcond0_1 t).mpr h1) ((hcond0_2 t).mpr h2) (fun h => h3 ((hcond0_3 t).mp h))
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_D c t _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) (V m c main_arg11)) W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexact H12
          isplitl [H13]; · iexists _; iexact H13
          isplitl [H14]; · iexists _; iexact H14
          isplitl [H15]; · iexists _; iexact H15
          isplitl [HS0]; · iexact HS0
          isplitl [Hfl0_0]; · iexact Hfl0_0
          isplitl [Hkp0_0]; · iexact Hkp0_0
          isplitl [HW]; · iexact HW
          iintro ⟨H0, H1, H2, H3, H4, H5, H6, H7, H8, H9, H10, H11, H12, H13, H14, H15, HS0, Hfl0_0', Hkp0_0', ⟨%W', HW'⟩⟩
          isplitl [HS0 Hg Hfl0_0' Hkp0_0']
          · isplitl [HS0]; · iexact HS0
            isplitl [Hg]; · iexact Hg
            iapply (Ring.with_homes (Idealize.SL.BI.Entails.refl _))
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists d12; iexact H12
          isplitl [H13]; · iexact H13
          isplitl [H14]; · iexact H14
          iexact H15
      · by_cases h3 : t.val % 16 = 15
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 12 t = owns (c : Thread nD τ) (ms0_12 t) fullShare ((dats m 0 c).after 12 t) from by
            unfold Dat.leavesExact; rw [live12 t h3], after0_12]
          have hr0 := rstep0_0_C t (fun h => h0 ((hcond0_0 t).mp h)) ((hcond0_1 t).mpr h1) (fun h => h2 ((hcond0_2 t).mp h)) ((hcond0_3 t).mpr h3)
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c t _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_arg11)) W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [Hfl0_0]; · iexact Hfl0_0
          isplitl [Hkp0_0]; · iexact Hkp0_0
          isplitl [HW]; · iexact HW
          iintro ⟨H0, H1, H2, H3, H4, H5, H6, H7, H8, H9, H10, H11, H12, H13, H14, H15, HS0, Hfl0_0', Hkp0_0', ⟨%W', HW'⟩⟩
          isplitl [HS0 Hg Hfl0_0' Hkp0_0']
          · isplitl [HS0]; · iexact HS0
            isplitl [Hg]; · iexact Hg
            iapply (Ring.with_homes (Idealize.SL.BI.Entails.refl _))
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact H15
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 12 t = iprop(∃ d, owns (c : Thread nD τ) (ms0_12 t) fullShare ((dats m 0 c).before 12 t d)) from (dats m 0 c).leavesExact_idle 12 t (idle12 t h3) (noflush12 t h3)]
          have hr0 := rstep0_0_B t (fun h => h0 ((hcond0_0 t).mp h)) ((hcond0_1 t).mpr h1) (fun h => h2 ((hcond0_2 t).mp h)) (fun h => h3 ((hcond0_3 t).mp h))
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c t _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) (V m c main_arg11)) W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexact H12
          isplitl [H13]; · iexists _; iexact H13
          isplitl [H14]; · iexists _; iexact H14
          isplitl [H15]; · iexists _; iexact H15
          isplitl [HS0]; · iexact HS0
          isplitl [Hfl0_0]; · iexact Hfl0_0
          isplitl [Hkp0_0]; · iexact Hkp0_0
          isplitl [HW]; · iexact HW
          iintro ⟨H0, H1, H2, H3, H4, H5, H6, H7, H8, H9, H10, H11, H12, H13, H14, H15, HS0, Hfl0_0', Hkp0_0', ⟨%W', HW'⟩⟩
          isplitl [HS0 Hg Hfl0_0' Hkp0_0']
          · isplitl [HS0]; · iexact HS0
            isplitl [Hg]; · iexact Hg
            iapply (Ring.with_homes (Idealize.SL.BI.Entails.refl _))
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists d12; iexact H12
          isplitl [H13]; · iexact H13
          isplitl [H14]; · iexact H14
          iexact H15
    · by_cases h2 : t.val % 16 = 0
      · exfalso; omega
      · by_cases h3 : t.val % 16 = 15
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 12 t = owns (c : Thread nD τ) (ms0_12 t) fullShare ((dats m 0 c).after 12 t) from by
            unfold Dat.leavesExact; rw [live12 t h3], after0_12]
          have hr0 := rstep0_0_E t (fun h => h0 ((hcond0_0 t).mp h)) (fun h => h1 ((hcond0_1 t).mp h)) (fun h => h2 ((hcond0_2 t).mp h)) ((hcond0_3 t).mpr h3)
          obtain ⟨hK10, hKB0, hKs0⟩ := hr0
          rw [if_neg (show ¬t.val = 0 by omega), if_neg (show ¬t.val + 1 = 0 by omega)]
          rw [Ring.AtK2_here_last _ _ _ _ _ t.val hK10 hKB0, Ring.AtK2_next_last _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_E c t _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_arg11)) W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [Hfl0_0]; · iexact Hfl0_0
          isplitl [HW]; · iexact HW
          iintro ⟨H0, H1, H2, H3, H4, H5, H6, H7, H8, H9, H10, H11, H12, H13, H14, H15, HS0, Hkp0_0', ⟨%W', HW'⟩⟩
          isplitl [HS0 Hg Hkp0_0 Hkp0_0']
          · isplitl [HS0]; · iexact HS0
            isplitl [Hg]; · iexact Hg
            iapply (Ring.with_homes (Idealize.SL.BI.Entails.refl _))
            isplitl [Hkp0_0]; · iexact Hkp0_0
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact H15
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HS0, HR0_0⟩, Hg, ⟨Hq0, Hq1⟩, Hh0⟩
  isplitl [HS0]; · iexact HS0
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 128 by rw [N_0]]
  iintro ⟨HS0, Hg, HR0_0⟩
  ihave HX0_0 := (ring0_0_out (F := F) m c) $$ HR0_0
  icases HX0_0 with ⟨HR0_0, ⟨Hq0, Hq1⟩, Hh0⟩
  isplitl [HS0 HR0_0]
  · isplitl [HS0]; · iexact HS0
    iexact HR0_0
  isplitl [Hg]
  · iexact Hg
  isplitl [Hq0 Hq1]
  · isplitl [Hq0]; · iexact Hq0
    iexact Hq1
  iexact Hh0

set_option backward.isDefEq.respectTransparency.types false in

theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.TailIdeal.Hand

end
-- ==== Proof.Tail.Final.lean ====
module

public import proofs.«01_k».proof.Proof.Tail.Frame

/-! What the prompt's launch leaves in its second result: the last three rows of each sequence's input. -/

@[expose] public section

set_option maxRecDepth 16384

noncomputable section

namespace Cert.TailIdeal.Hand

open Idealize.ShloMosaic Idealize.ShloMosaic.TcCoe Idealize.SL.Sem
open Idealize.ShloMosaic.Pipeline (Dat)
open Cert.TailIdeal Cert.TailIdeal.Gen

variable (m : (ℓ : Loc nD τ sig) → Buf (Elt Ideal) ℓ) (c : Dev nD)

theorem idx : ∀ t : Fin cfg0.N, win0_0.index t = ![t.val / 16, t.val % 16, 0] ∧ win0_12.index t = ![t.val / 16, 0, 0] :=
  (by decide +kernel : ∀ t : Fin grid0.N, _)

theorem t_lt (t : Fin cfg0.N) : (t : ℕ) < 128 := lt_of_lt_of_eq t.isLt N_0

theorem rows_at (x : Vec Ideal S1x128x1536 .f32) (b : Fin 1) (r : Fin 3) (l : Fin 1536) : rows x (ix3 b r l) = x (ix3 0 ⟨125 + r, by omega⟩ l) := by
  unfold rows k0_pay11 k0_pay6
  pointwise

theorem place {α : Type} {p q s : ℕ} (f : Fin p → Fin q → Fin s → α) {a a' : Fin p} {b b' : Fin q} {d d' : Fin s}
    (h : (a : ℕ) = a') (h' : (b : ℕ) = b') (h'' : (d : ℕ) = d') : f a b d = f a' b' d' := by
  rw [Fin.ext h, Fin.ext h', Fin.ext h'']

/-- Rows 125 to 127 of a sequence's last chunk are its rows 2045 to 2047. -/
theorem rows_of (t : Fin cfg0.N) (ht : t.val % 16 = 15) (b : Fin 1) (r : Fin 3) (l : Fin 1536) :
    rows (iblk m c 0 t) (ix3 b r l) = (m ((c : Thread nD τ).loc main_arg0) : Vec Ideal S8x2048x1536 .f32)
      (ix3 ⟨t.val / 16, by have := t_lt t; omega⟩ ⟨2045 + r, by omega⟩ l) := by
  refine (rows_at _ b r l).trans ?_
  blk_ext [iblk, idx t]

theorem final12 : (dats m 0 c).arrAt 12 cfg0.N = fun y : S8x3x1536.Idx =>
    (m ((c : Thread nD τ).loc main_arg0) : Vec Ideal S8x2048x1536 .f32)
      (ix3 (y 0) ⟨2045 + y 1, by have := (y 1).isLt; change (y 1 : ℕ) < 3 at this; omega⟩ (y 2)) := by
  refine (dats m 0 c).arrAt_eq_of_covers 12 _ (by decide +kernel) fun t hf y => ?_
  have ht := (flush0_12 t).mp hf
  blk_simp
  rw [after0_12]
  change S1x3x1536.Idx at y
  idx_vars y
  refine (rows_of m c t ht y0 y1 y2).trans ?_
  refine place (fun B R l => (m ((c : Thread nD τ).loc main_arg0) : Vec Ideal S8x2048x1536 .f32) (ix3 B R l)) ?_ ?_ ?_ <;> blk_simp [idx t] <;> (try dsimp only) <;> omega

end Cert.TailIdeal.Hand

end
-- ==== Proof.Tail.Ref.lean ====
module

public import proofs.«01_k».proof.Defs
public import proofs.«01_k».proof.Proof.Gen.TailRefIdeal.Read
public import Idealize.ShloMosaic.Lib.Pipeline.ValueKit

/-! The reference of the prompt's last rows: the last three rows of the input behind its zero padding. -/

@[expose] public section

set_option maxRecDepth 16384

noncomputable section

namespace Cert.TailRefIdeal.Spec

open Idealize.ShloMosaic Idealize.ShloMosaic.TcCoe Idealize.SL.Sem
open Cert.TailRefIdeal Cert.TailRefIdeal.Read

/-- Past the padding, row `2048 + r` of the padded input is row `2045 + r` of the input. -/
theorem res0 (x0 : Vec Ideal S8x2048x1536 .f32) (b : Fin 8) (r : Fin 3) (l : Fin 1536) :
    val_main_v2 (F := Ideal) x0 (ix3 b r l) = x0 (ix3 b ⟨2045 + r, by omega⟩ l) := by
  rw [val_main_v2_apply]
  unfold val_main_v1
  refine Idealize.ShloMosaic.concatenate_pair_apply_right (t := S8x2051x1536) (s₁ := S8x3x1536) (s₂ := S8x2048x1536) 1 _ _ _ _ rfl rfl (ix3 b ⟨2045 + r, by omega⟩ l) ?_ ?_
  · intro d hd
    match d with
    | ⟨0, _⟩ => rfl
    | ⟨1, _⟩ => exact absurd rfl hd
    | ⟨2, _⟩ => rfl
  · show 2045 + (r : ℕ) + 3 = 2048 + (r : ℕ)
    omega

theorem frame_ref : Cert.quiescent_TailRefIdeal := fun m ρ _ => by
  exact (θ_run Cert.TailRefIdeal.defs _ _).mono (fun r h => ⟨fun c => (h c).2, sem_eq_zero_of_no_sems (by decide) r.2⟩)
    (Cert.TailRefIdeal.Value.run (F := Ideal) m ρ)

variable (m : (ℓ : Loc nD τ sig) → Buf (Elt Ideal) ℓ)

theorem run_ref (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (val_main_v2_eq (m ((c.tc : Thread nD τ).loc main_arg0))), (h c).2⟩)
    (Cert.TailRefIdeal.Value.run m ρ)

end Cert.TailRefIdeal.Spec

end
-- ==== Proof.Tail.Value.lean ====
module

public import proofs.«01_k».proof.Proof.Tail.Final
public import proofs.«01_k».proof.Proof.Tail.Ref

/-! The prompt's last rows: the kernel's second result is the reference's. -/

@[expose] public section

set_option maxRecDepth 16384

noncomputable section

namespace Cert.TailIdeal.Meets

open Idealize.ShloMosaic Idealize.ShloMosaic.TcCoe Idealize.SL.Sem
open Cert.TailIdeal Cert.TailIdeal.Gen Cert.TailRefIdeal.Read

variable (m : (ℓ : Loc nD τ sig) → Buf (Elt Ideal) ℓ) (c : Dev nD)

theorem val0 : val_main_v2 (F := Ideal) (m (c.tc.loc main_arg0)) = (Hand.dats m 0 c).arrAt 12 cfg0.N := by
  refine Eq.trans ?_ (Hand.final12 m c).symm
  funext i
  idx_vars i
  exact Cert.TailRefIdeal.Spec.res0 (m (c.tc.loc main_arg0)) i0 i1 i2

/-- The run with the second result named and the arguments unchanged. -/
theorem run_results (ρ : Dev nD → PrngReg) : θ_run (defs (F := Ideal)) (onTc (τ := τ) (main (F := Ideal))) ⟨m, fun _ => 0, ρ⟩ fun r => ∀ c : Dev nD,
      r.2.mem ((c : Thread nD τ).loc main_v0_1) = (Hand.dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (θ_run_and (Hand.run_main m ρ) (Hand.frame m ρ))
  have e := (h.1 c).1
  exact ⟨((Hand.dats m 0 c).toRForget_arrAt_iff (fgt := Hand.forgets0) (w := 12) rfl cfg0.N _).mp (e 12), h.2.1 c⟩

theorem algebraic : Cert.algebraic_TailIdeal_TailRefIdeal := by
  pair_intro
  · run_from run_results m g
  · run_from Cert.TailRefIdeal.Spec.run_ref m' g'
    exact val0 m c

end Cert.TailIdeal.Meets

end
-- ==== Proof.Tail.Printed.lean ====
module

public import proofs.«01_k».proof.Defs
public import proofs.«01_k».proof.Proof.Gen.Tail
public import proofs.«01_k».proof.Proof.Tail.Frame

/-! The prompt's call as printed: its text is its reading's, so the one run over any float gives this frame too. -/

@[expose] public section

set_option maxRecDepth 16384

noncomputable section

namespace Cert.TailIdeal.Printed

open Idealize.ShloMosaic Idealize.SL.Sem

section
open Cert.TailIdeal

/-- The frame of the reading, at machine floats. -/
def Quiet : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)
end

/-- The two texts are the same. -/
theorem quiet_same : Cert.quiescent_Tail = Quiet := by sl_kernel_rfl

theorem frame_tail : Cert.quiescent_Tail := quiet_same.mpr fun m ρ _ => Cert.TailIdeal.Hand.frame (F := Bits) m ρ

end Cert.TailIdeal.Printed

end
-- ==== Proof.lean ====
/- The proof of every claim stated in the statement: for each of the eight calls its three frames, the preservation of its
   text, and the equality of its claimed results with the reference's. The value proofs are in the modules named after the calls. -/
module

public import proofs.«01_k».proof.Defs
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.StepRefIdeal.Read
public import proofs.«01_k».proof.Proof.Gen.StepIdeal.Value
public import proofs.«01_k».proof.Proof.Gen.FfnIdeal.Value
public import proofs.«01_k».proof.Proof.Gen.FfnRefIdeal.Read
public import proofs.«01_k».proof.Proof.Gen.OutIdeal.Value
public import proofs.«01_k».proof.Proof.Gen.OutRefIdeal.Read
public import proofs.«01_k».proof.Proof.Step.Value
public import proofs.«01_k».proof.Proof.Gen.Ffn.Frame
public import proofs.«01_k».proof.Proof.Gen.FfnIdeal.Frame
public import proofs.«01_k».proof.Proof.Gen.FfnRefIdeal
public import proofs.«01_k».proof.Proof.Ffn.Value
public import proofs.«01_k».proof.Proof.Gen.Out.Frame
public import proofs.«01_k».proof.Proof.Gen.OutIdeal.Frame
public import proofs.«01_k».proof.Proof.Gen.OutRefIdeal
public import proofs.«01_k».proof.Proof.Gen.Inp
public import proofs.«01_k».proof.Proof.Gen.InpIdeal.Frame
public import proofs.«01_k».proof.Proof.Gen.InpIdeal.Skeleton
public import proofs.«01_k».proof.Proof.Gen.InpIdeal.Points
public import proofs.«01_k».proof.Proof.Gen.InpRefIdeal.Read
public import proofs.«01_k».proof.Proof.Gen.InpS
public import proofs.«01_k».proof.Proof.Gen.InpSIdeal.Frame
public import proofs.«01_k».proof.Proof.Gen.InpSIdeal.Skeleton
public import proofs.«01_k».proof.Proof.Gen.InpSIdeal.Points
public import proofs.«01_k».proof.Proof.Gen.InpSRefIdeal.Read
public import proofs.«01_k».proof.Proof.Gen.FfnS.Frame
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Read
public import proofs.«01_k».proof.Proof.Gen.OutS.Frame
public import proofs.«01_k».proof.Proof.Gen.OutSIdeal.Frame
public import proofs.«01_k».proof.Proof.Gen.OutSIdeal.Value
public import proofs.«01_k».proof.Proof.Gen.OutSRefIdeal
public import proofs.«01_k».proof.Proof.Gen.OutSRefIdeal.Read
public import proofs.«01_k».proof.Proof.Gen.Tail
public import proofs.«01_k».proof.Proof.Gen.TailIdeal
public import proofs.«01_k».proof.Proof.Gen.TailIdeal.Skeleton
public import proofs.«01_k».proof.Proof.Gen.TailIdeal.Points
public import proofs.«01_k».proof.Proof.Gen.TailRefIdeal.Read
public import proofs.«01_k».proof.Proof.Out.Value
public import proofs.«01_k».proof.Proof.Inp.Value
public import proofs.«01_k».proof.Proof.Inp.Printed
public import proofs.«01_k».proof.Proof.InpS.Value
public import proofs.«01_k».proof.Proof.InpS.Printed
public import proofs.«01_k».proof.Proof.OutS.Value
public import proofs.«01_k».proof.Proof.FfnS.Value
public import proofs.«01_k».proof.Proof.Tail.Value
public import proofs.«01_k».proof.Proof.Tail.Printed
public import Idealize.ShloMosaic.Adequacy
public import Idealize.ShloMosaic.Init

@[expose] public section

noncomputable section

namespace Cert.Proof

open Idealize.ShloMosaic Idealize.SL.Sem Cert.Step

theorem claim : Cert.Claim := ⟨Cert.Step.Gen.facts, Cert.StepIdeal.Gen.facts, Cert.StepRefIdeal.Gen.facts, Cert.Ffn.Gen.facts, Cert.FfnIdeal.Gen.facts, Cert.FfnRefIdeal.Gen.facts, Cert.Out.Gen.facts, Cert.OutIdeal.Gen.facts, Cert.OutRefIdeal.Gen.facts, Cert.Inp.Gen.facts, Cert.InpIdeal.Gen.facts, Cert.InpRefIdeal.Gen.facts, Cert.InpS.Gen.facts, Cert.InpSIdeal.Gen.facts, Cert.InpSRefIdeal.Gen.facts, Cert.OutS.Gen.facts, Cert.OutSIdeal.Gen.facts, Cert.OutSRefIdeal.Gen.facts, Cert.FfnS.Gen.facts, Cert.FfnSIdeal.Gen.facts, Cert.FfnSRefIdeal.Gen.facts, Cert.Tail.Gen.facts, Cert.TailIdeal.Gen.facts, Cert.TailRefIdeal.Gen.facts,
  fun m ρ _ => Cert.Step.Gen.frame m ρ, fun m ρ _ => Cert.StepIdeal.Gen.frame m ρ, Cert.Step.Value.frame_ref,
  fun m ρ _ => Cert.Ffn.Gen.frame m ρ, fun m ρ _ => Cert.FfnIdeal.Gen.frame m ρ, Cert.Ffn.Value.frame_ref,
  fun m ρ _ => Cert.Out.Gen.frame m ρ, fun m ρ _ => Cert.OutIdeal.Gen.frame m ρ, Cert.Out.Value.frame_ref,
  Cert.InpIdeal.Printed.frame_inp, fun m ρ _ => Cert.InpIdeal.Hand.frame m ρ, Cert.InpRefIdeal.Spec.frame_ref,
  Cert.InpSIdeal.Printed.frame_inps, fun m ρ _ => Cert.InpSIdeal.Hand.frame m ρ, Cert.InpSRefIdeal.Spec.frame_ref,
  fun m ρ _ => Cert.OutS.Gen.frame m ρ, fun m ρ _ => Cert.OutSIdeal.Gen.frame m ρ, Cert.OutS.Value.frame_ref,
  fun m ρ _ => Cert.FfnS.Gen.frame m ρ, fun m ρ _ => Cert.FfnSIdeal.Gen.frame m ρ, Cert.FfnS.Value.frame_ref,
  Cert.TailIdeal.Printed.frame_tail, fun m ρ _ => Cert.TailIdeal.Hand.frame m ρ, Cert.TailRefIdeal.Spec.frame_ref,
  trivial, Cert.Step.Value.algebraic,
  trivial, Cert.Ffn.Value.algebraic,
  trivial, Cert.Out.Value.algebraic,
  trivial, Cert.InpIdeal.Meets.algebraic,
  trivial, Cert.InpSIdeal.Meets.algebraic,
  trivial, Cert.OutS.Value.algebraic,
  trivial, Cert.FfnS.Value.algebraic,
  trivial, Cert.TailIdeal.Meets.algebraic⟩

end Cert.Proof

end
